-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19)
      ∧ r.2.mem ((c.tc : Thread Cert.Kernel12.nD Cert.Kernel12.τ).loc Cert.Kernel12.main_arg20) = m ((c.tc : Thread Cert.Kernel12.nD Cert.Kernel12.τ).loc Cert.Kernel12.main_arg20)
      ∧ r.2.mem ((c.tc : Thread Cert.Kernel12.nD Cert.Kernel12.τ).loc Cert.Kernel12.main_arg21) = m ((c.tc : Thread Cert.Kernel12.nD Cert.Kernel12.τ).loc Cert.Kernel12.main_arg21)
      ∧ r.2.mem ((c.tc : Thread Cert.Kernel12.nD Cert.Kernel12.τ).loc Cert.Kernel12.main_arg22) = m ((c.tc : Thread Cert.Kernel12.nD Cert.Kernel12.τ).loc Cert.Kernel12.main_arg22)
      ∧ r.2.mem ((c.tc : Thread Cert.Kernel12.nD Cert.Kernel12.τ).loc Cert.Kernel12.main_arg23) = m ((c.tc : Thread Cert.Kernel12.nD Cert.Kernel12.τ).loc Cert.Kernel12.main_arg23))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
      ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
      ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
      ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
      ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19)
      ∧ r.2.mem ((c.tc : Thread Cert.Reference12Ideal.nD Cert.Reference12Ideal.τ).loc Cert.Reference12Ideal.main_arg20) = m ((c.tc : Thread Cert.Reference12Ideal.nD Cert.Reference12Ideal.τ).loc Cert.Reference12Ideal.main_arg20)
      ∧ r.2.mem ((c.tc : Thread Cert.Reference12Ideal.nD Cert.Reference12Ideal.τ).loc Cert.Reference12Ideal.main_arg21) = m ((c.tc : Thread Cert.Reference12Ideal.nD Cert.Reference12Ideal.τ).loc Cert.Reference12Ideal.main_arg21)
      ∧ r.2.mem ((c.tc : Thread Cert.Reference12Ideal.nD Cert.Reference12Ideal.τ).loc Cert.Reference12Ideal.main_arg22) = m ((c.tc : Thread Cert.Reference12Ideal.nD Cert.Reference12Ideal.τ).loc Cert.Reference12Ideal.main_arg22)
      ∧ r.2.mem ((c.tc : Thread Cert.Reference12Ideal.nD Cert.Reference12Ideal.τ).loc Cert.Reference12Ideal.main_arg23) = m ((c.tc : Thread Cert.Reference12Ideal.nD Cert.Reference12Ideal.τ).loc Cert.Reference12Ideal.main_arg23))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23)
      ∧ r.2.mem ((c.tc : Thread Cert.Kernel13.nD Cert.Kernel13.τ).loc Cert.Kernel13.main_arg24) = m ((c.tc : Thread Cert.Kernel13.nD Cert.Kernel13.τ).loc Cert.Kernel13.main_arg24)
      ∧ r.2.mem ((c.tc : Thread Cert.Kernel13.nD Cert.Kernel13.τ).loc Cert.Kernel13.main_arg25) = m ((c.tc : Thread Cert.Kernel13.nD Cert.Kernel13.τ).loc Cert.Kernel13.main_arg25)
      ∧ r.2.mem ((c.tc : Thread Cert.Kernel13.nD Cert.Kernel13.τ).loc Cert.Kernel13.main_arg26) = m ((c.tc : Thread Cert.Kernel13.nD Cert.Kernel13.τ).loc Cert.Kernel13.main_arg26)
      ∧ r.2.mem ((c.tc : Thread Cert.Kernel13.nD Cert.Kernel13.τ).loc Cert.Kernel13.main_arg27) = m ((c.tc : Thread Cert.Kernel13.nD Cert.Kernel13.τ).loc Cert.Kernel13.main_arg27)
      ∧ r.2.mem ((c.tc : Thread Cert.Kernel13.nD Cert.Kernel13.τ).loc Cert.Kernel13.main_arg28) = m ((c.tc : Thread Cert.Kernel13.nD Cert.Kernel13.τ).loc Cert.Kernel13.main_arg28))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
      ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
      ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
      ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
      ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
      ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23)
      ∧ r.2.mem ((c.tc : Thread Cert.Reference13Ideal.nD Cert.Reference13Ideal.τ).loc Cert.Reference13Ideal.main_arg24) = m ((c.tc : Thread Cert.Reference13Ideal.nD Cert.Reference13Ideal.τ).loc Cert.Reference13Ideal.main_arg24)
      ∧ r.2.mem ((c.tc : Thread Cert.Reference13Ideal.nD Cert.Reference13Ideal.τ).loc Cert.Reference13Ideal.main_arg25) = m ((c.tc : Thread Cert.Reference13Ideal.nD Cert.Reference13Ideal.τ).loc Cert.Reference13Ideal.main_arg25)
      ∧ r.2.mem ((c.tc : Thread Cert.Reference13Ideal.nD Cert.Reference13Ideal.τ).loc Cert.Reference13Ideal.main_arg26) = m ((c.tc : Thread Cert.Reference13Ideal.nD Cert.Reference13Ideal.τ).loc Cert.Reference13Ideal.main_arg26)
      ∧ r.2.mem ((c.tc : Thread Cert.Reference13Ideal.nD Cert.Reference13Ideal.τ).loc Cert.Reference13Ideal.main_arg27) = m ((c.tc : Thread Cert.Reference13Ideal.nD Cert.Reference13Ideal.τ).loc Cert.Reference13Ideal.main_arg27)
      ∧ r.2.mem ((c.tc : Thread Cert.Reference13Ideal.nD Cert.Reference13Ideal.τ).loc Cert.Reference13Ideal.main_arg28) = m ((c.tc : Thread Cert.Reference13Ideal.nD Cert.Reference13Ideal.τ).loc Cert.Reference13Ideal.main_arg28))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v77) = v3 c
          ∧ r.2.mem ((c.tc : Thread Cert.Reference3Ideal.nD Cert.Reference3Ideal.τ).loc Cert.Reference3Ideal.main_v78) = v4 c
          ∧ r.2.mem ((c.tc : Thread Cert.Reference3Ideal.nD Cert.Reference3Ideal.τ).loc Cert.Reference3Ideal.main_v79) = v5 c
          ∧ r.2.mem ((c.tc : Thread Cert.Reference3Ideal.nD Cert.Reference3Ideal.τ).loc Cert.Reference3Ideal.main_v80) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v27) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v51) = v0 c
          ∧ r.2.mem ((c.tc : Thread Cert.Reference9Ideal.nD Cert.Reference9Ideal.τ).loc Cert.Reference9Ideal.main_v52) = v1 c
          ∧ r.2.mem ((c.tc : Thread Cert.Reference9Ideal.nD Cert.Reference9Ideal.τ).loc Cert.Reference9Ideal.main_v53) = v2 c
          ∧ r.2.mem ((c.tc : Thread Cert.Reference9Ideal.nD Cert.Reference9Ideal.τ).loc Cert.Reference9Ideal.main_v54) = v3 c
          ∧ r.2.mem ((c.tc : Thread Cert.Reference9Ideal.nD Cert.Reference9Ideal.τ).loc Cert.Reference9Ideal.main_v55) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v4) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v52) = v5 c
          ∧ r.2.mem ((c.tc : Thread Cert.Reference11Ideal.nD Cert.Reference11Ideal.τ).loc Cert.Reference11Ideal.main_v10) = v6 c
          ∧ r.2.mem ((c.tc : Thread Cert.Reference11Ideal.nD Cert.Reference11Ideal.τ).loc Cert.Reference11Ideal.main_v34) = v7 c
          ∧ r.2.mem ((c.tc : Thread Cert.Reference11Ideal.nD Cert.Reference11Ideal.τ).loc Cert.Reference11Ideal.main_v58) = v8 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)
      ∧ m' ((c.tc : Thread Cert.Reference12Ideal.nD Cert.Reference12Ideal.τ).loc Cert.Reference12Ideal.main_arg20) = m ((c.tc : Thread Cert.Kernel12Ideal.nD Cert.Kernel12Ideal.τ).loc Cert.Kernel12Ideal.main_arg20)
      ∧ m' ((c.tc : Thread Cert.Reference12Ideal.nD Cert.Reference12Ideal.τ).loc Cert.Reference12Ideal.main_arg21) = m ((c.tc : Thread Cert.Kernel12Ideal.nD Cert.Kernel12Ideal.τ).loc Cert.Kernel12Ideal.main_arg21)
      ∧ m' ((c.tc : Thread Cert.Reference12Ideal.nD Cert.Reference12Ideal.τ).loc Cert.Reference12Ideal.main_arg22) = m ((c.tc : Thread Cert.Kernel12Ideal.nD Cert.Kernel12Ideal.τ).loc Cert.Kernel12Ideal.main_arg22)
      ∧ m' ((c.tc : Thread Cert.Reference12Ideal.nD Cert.Reference12Ideal.τ).loc Cert.Reference12Ideal.main_arg23) = m ((c.tc : Thread Cert.Kernel12Ideal.nD Cert.Kernel12Ideal.τ).loc Cert.Kernel12Ideal.main_arg23)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)) (v9 : (c : Dev Cert.Kernel12Ideal.nD) → Buf (Elt Ideal) ((c.tc : Thread Cert.Kernel12Ideal.nD Cert.Kernel12Ideal.τ).loc Cert.Kernel12Ideal.main_v0_9)) (v10 : (c : Dev Cert.Kernel12Ideal.nD) → Buf (Elt Ideal) ((c.tc : Thread Cert.Kernel12Ideal.nD Cert.Kernel12Ideal.τ).loc Cert.Kernel12Ideal.main_v0_10)) (v11 : (c : Dev Cert.Kernel12Ideal.nD) → Buf (Elt Ideal) ((c.tc : Thread Cert.Kernel12Ideal.nD Cert.Kernel12Ideal.τ).loc Cert.Kernel12Ideal.main_v0_11)) (v12 : (c : Dev Cert.Kernel12Ideal.nD) → Buf (Elt Ideal) ((c.tc : Thread Cert.Kernel12Ideal.nD Cert.Kernel12Ideal.τ).loc Cert.Kernel12Ideal.main_v0_12)) (v13 : (c : Dev Cert.Kernel12Ideal.nD) → Buf (Elt Ideal) ((c.tc : Thread Cert.Kernel12Ideal.nD Cert.Kernel12Ideal.τ).loc Cert.Kernel12Ideal.main_v0_13)) (v14 : (c : Dev Cert.Kernel12Ideal.nD) → Buf (Elt Ideal) ((c.tc : Thread Cert.Kernel12Ideal.nD Cert.Kernel12Ideal.τ).loc Cert.Kernel12Ideal.main_v0_14)) (v15 : (c : Dev Cert.Kernel12Ideal.nD) → Buf (Elt Ideal) ((c.tc : Thread Cert.Kernel12Ideal.nD Cert.Kernel12Ideal.τ).loc Cert.Kernel12Ideal.main_v0_15)) (v16 : (c : Dev Cert.Kernel12Ideal.nD) → Buf (Elt Ideal) ((c.tc : Thread Cert.Kernel12Ideal.nD Cert.Kernel12Ideal.τ).loc Cert.Kernel12Ideal.main_v0_16)) (v17 : (c : Dev Cert.Kernel12Ideal.nD) → Buf (Elt Ideal) ((c.tc : Thread Cert.Kernel12Ideal.nD Cert.Kernel12Ideal.τ).loc Cert.Kernel12Ideal.main_v0_17)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_v0_9) = v9 c
          ∧ r.2.mem ((c.tc : Thread Cert.Kernel12Ideal.nD Cert.Kernel12Ideal.τ).loc Cert.Kernel12Ideal.main_v0_10) = v10 c
          ∧ r.2.mem ((c.tc : Thread Cert.Kernel12Ideal.nD Cert.Kernel12Ideal.τ).loc Cert.Kernel12Ideal.main_v0_11) = v11 c
          ∧ r.2.mem ((c.tc : Thread Cert.Kernel12Ideal.nD Cert.Kernel12Ideal.τ).loc Cert.Kernel12Ideal.main_v0_12) = v12 c
          ∧ r.2.mem ((c.tc : Thread Cert.Kernel12Ideal.nD Cert.Kernel12Ideal.τ).loc Cert.Kernel12Ideal.main_v0_13) = v13 c
          ∧ r.2.mem ((c.tc : Thread Cert.Kernel12Ideal.nD Cert.Kernel12Ideal.τ).loc Cert.Kernel12Ideal.main_v0_14) = v14 c
          ∧ r.2.mem ((c.tc : Thread Cert.Kernel12Ideal.nD Cert.Kernel12Ideal.τ).loc Cert.Kernel12Ideal.main_v0_15) = v15 c
          ∧ r.2.mem ((c.tc : Thread Cert.Kernel12Ideal.nD Cert.Kernel12Ideal.τ).loc Cert.Kernel12Ideal.main_v0_16) = v16 c
          ∧ r.2.mem ((c.tc : Thread Cert.Kernel12Ideal.nD Cert.Kernel12Ideal.τ).loc Cert.Kernel12Ideal.main_v0_17) = v17 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
          ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
          ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
          ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
          ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v95) = v3 c
          ∧ r.2.mem ((c.tc : Thread Cert.Reference12Ideal.nD Cert.Reference12Ideal.τ).loc Cert.Reference12Ideal.main_v119) = v4 c
          ∧ r.2.mem ((c.tc : Thread Cert.Reference12Ideal.nD Cert.Reference12Ideal.τ).loc Cert.Reference12Ideal.main_v143) = v5 c
          ∧ r.2.mem ((c.tc : Thread Cert.Reference12Ideal.nD Cert.Reference12Ideal.τ).loc Cert.Reference12Ideal.main_v4) = v6 c
          ∧ r.2.mem ((c.tc : Thread Cert.Reference12Ideal.nD Cert.Reference12Ideal.τ).loc Cert.Reference12Ideal.main_v28) = v7 c
          ∧ r.2.mem ((c.tc : Thread Cert.Reference12Ideal.nD Cert.Reference12Ideal.τ).loc Cert.Reference12Ideal.main_v52) = v8 c
          ∧ r.2.mem ((c.tc : Thread Cert.Reference12Ideal.nD Cert.Reference12Ideal.τ).loc Cert.Reference12Ideal.main_v76) = v9 c
          ∧ r.2.mem ((c.tc : Thread Cert.Reference12Ideal.nD Cert.Reference12Ideal.τ).loc Cert.Reference12Ideal.main_v100) = v10 c
          ∧ r.2.mem ((c.tc : Thread Cert.Reference12Ideal.nD Cert.Reference12Ideal.τ).loc Cert.Reference12Ideal.main_v124) = v11 c
          ∧ r.2.mem ((c.tc : Thread Cert.Reference12Ideal.nD Cert.Reference12Ideal.τ).loc Cert.Reference12Ideal.main_v10) = v12 c
          ∧ r.2.mem ((c.tc : Thread Cert.Reference12Ideal.nD Cert.Reference12Ideal.τ).loc Cert.Reference12Ideal.main_v34) = v13 c
          ∧ r.2.mem ((c.tc : Thread Cert.Reference12Ideal.nD Cert.Reference12Ideal.τ).loc Cert.Reference12Ideal.main_v58) = v14 c
          ∧ r.2.mem ((c.tc : Thread Cert.Reference12Ideal.nD Cert.Reference12Ideal.τ).loc Cert.Reference12Ideal.main_v82) = v15 c
          ∧ r.2.mem ((c.tc : Thread Cert.Reference12Ideal.nD Cert.Reference12Ideal.τ).loc Cert.Reference12Ideal.main_v106) = v16 c
          ∧ r.2.mem ((c.tc : Thread Cert.Reference12Ideal.nD Cert.Reference12Ideal.τ).loc Cert.Reference12Ideal.main_v130) = v17 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19)
          ∧ r.2.mem ((c.tc : Thread Cert.Reference12Ideal.nD Cert.Reference12Ideal.τ).loc Cert.Reference12Ideal.main_arg20) = m' ((c.tc : Thread Cert.Reference12Ideal.nD Cert.Reference12Ideal.τ).loc Cert.Reference12Ideal.main_arg20)
          ∧ r.2.mem ((c.tc : Thread Cert.Reference12Ideal.nD Cert.Reference12Ideal.τ).loc Cert.Reference12Ideal.main_arg21) = m' ((c.tc : Thread Cert.Reference12Ideal.nD Cert.Reference12Ideal.τ).loc Cert.Reference12Ideal.main_arg21)
          ∧ r.2.mem ((c.tc : Thread Cert.Reference12Ideal.nD Cert.Reference12Ideal.τ).loc Cert.Reference12Ideal.main_arg22) = m' ((c.tc : Thread Cert.Reference12Ideal.nD Cert.Reference12Ideal.τ).loc Cert.Reference12Ideal.main_arg22)
          ∧ r.2.mem ((c.tc : Thread Cert.Reference12Ideal.nD Cert.Reference12Ideal.τ).loc Cert.Reference12Ideal.main_arg23) = m' ((c.tc : Thread Cert.Reference12Ideal.nD Cert.Reference12Ideal.τ).loc Cert.Reference12Ideal.main_arg23))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)
      ∧ m' ((c.tc : Thread Cert.Reference13Ideal.nD Cert.Reference13Ideal.τ).loc Cert.Reference13Ideal.main_arg24) = m ((c.tc : Thread Cert.Kernel13Ideal.nD Cert.Kernel13Ideal.τ).loc Cert.Kernel13Ideal.main_arg24)
      ∧ m' ((c.tc : Thread Cert.Reference13Ideal.nD Cert.Reference13Ideal.τ).loc Cert.Reference13Ideal.main_arg25) = m ((c.tc : Thread Cert.Kernel13Ideal.nD Cert.Kernel13Ideal.τ).loc Cert.Kernel13Ideal.main_arg25)
      ∧ m' ((c.tc : Thread Cert.Reference13Ideal.nD Cert.Reference13Ideal.τ).loc Cert.Reference13Ideal.main_arg26) = m ((c.tc : Thread Cert.Kernel13Ideal.nD Cert.Kernel13Ideal.τ).loc Cert.Kernel13Ideal.main_arg26)
      ∧ m' ((c.tc : Thread Cert.Reference13Ideal.nD Cert.Reference13Ideal.τ).loc Cert.Reference13Ideal.main_arg27) = m ((c.tc : Thread Cert.Kernel13Ideal.nD Cert.Kernel13Ideal.τ).loc Cert.Kernel13Ideal.main_arg27)
      ∧ m' ((c.tc : Thread Cert.Reference13Ideal.nD Cert.Reference13Ideal.τ).loc Cert.Reference13Ideal.main_arg28) = m ((c.tc : Thread Cert.Kernel13Ideal.nD Cert.Kernel13Ideal.τ).loc Cert.Kernel13Ideal.main_arg28)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)) (v10 : (c : Dev Cert.Kernel13Ideal.nD) → Buf (Elt Ideal) ((c.tc : Thread Cert.Kernel13Ideal.nD Cert.Kernel13Ideal.τ).loc Cert.Kernel13Ideal.main_v0_10)) (v11 : (c : Dev Cert.Kernel13Ideal.nD) → Buf (Elt Ideal) ((c.tc : Thread Cert.Kernel13Ideal.nD Cert.Kernel13Ideal.τ).loc Cert.Kernel13Ideal.main_v0_11)) (v12 : (c : Dev Cert.Kernel13Ideal.nD) → Buf (Elt Ideal) ((c.tc : Thread Cert.Kernel13Ideal.nD Cert.Kernel13Ideal.τ).loc Cert.Kernel13Ideal.main_v0_12)) (v13 : (c : Dev Cert.Kernel13Ideal.nD) → Buf (Elt Ideal) ((c.tc : Thread Cert.Kernel13Ideal.nD Cert.Kernel13Ideal.τ).loc Cert.Kernel13Ideal.main_v0_13)) (v14 : (c : Dev Cert.Kernel13Ideal.nD) → Buf (Elt Ideal) ((c.tc : Thread Cert.Kernel13Ideal.nD Cert.Kernel13Ideal.τ).loc Cert.Kernel13Ideal.main_v0_14)) (v15 : (c : Dev Cert.Kernel13Ideal.nD) → Buf (Elt Ideal) ((c.tc : Thread Cert.Kernel13Ideal.nD Cert.Kernel13Ideal.τ).loc Cert.Kernel13Ideal.main_v0_15)) (v16 : (c : Dev Cert.Kernel13Ideal.nD) → Buf (Elt Ideal) ((c.tc : Thread Cert.Kernel13Ideal.nD Cert.Kernel13Ideal.τ).loc Cert.Kernel13Ideal.main_v0_16)) (v17 : (c : Dev Cert.Kernel13Ideal.nD) → Buf (Elt Ideal) ((c.tc : Thread Cert.Kernel13Ideal.nD Cert.Kernel13Ideal.τ).loc Cert.Kernel13Ideal.main_v0_17)) (v18 : (c : Dev Cert.Kernel13Ideal.nD) → Buf (Elt Ideal) ((c.tc : Thread Cert.Kernel13Ideal.nD Cert.Kernel13Ideal.τ).loc Cert.Kernel13Ideal.main_v0_18)) (v19 : (c : Dev Cert.Kernel13Ideal.nD) → Buf (Elt Ideal) ((c.tc : Thread Cert.Kernel13Ideal.nD Cert.Kernel13Ideal.τ).loc Cert.Kernel13Ideal.main_v0_19)) (v20 : (c : Dev Cert.Kernel13Ideal.nD) → Buf (Elt Ideal) ((c.tc : Thread Cert.Kernel13Ideal.nD Cert.Kernel13Ideal.τ).loc Cert.Kernel13Ideal.main_v0_20)) (v21 : (c : Dev Cert.Kernel13Ideal.nD) → Buf (Elt Ideal) ((c.tc : Thread Cert.Kernel13Ideal.nD Cert.Kernel13Ideal.τ).loc Cert.Kernel13Ideal.main_v0_21)) (v22 : (c : Dev Cert.Kernel13Ideal.nD) → Buf (Elt Ideal) ((c.tc : Thread Cert.Kernel13Ideal.nD Cert.Kernel13Ideal.τ).loc Cert.Kernel13Ideal.main_v0_22)) (v23 : (c : Dev Cert.Kernel13Ideal.nD) → Buf (Elt Ideal) ((c.tc : Thread Cert.Kernel13Ideal.nD Cert.Kernel13Ideal.τ).loc Cert.Kernel13Ideal.main_v0_23)) (v24 : (c : Dev Cert.Kernel13Ideal.nD) → Buf (Elt Ideal) ((c.tc : Thread Cert.Kernel13Ideal.nD Cert.Kernel13Ideal.τ).loc Cert.Kernel13Ideal.main_v0_24)) (v25 : (c : Dev Cert.Kernel13Ideal.nD) → Buf (Elt Ideal) ((c.tc : Thread Cert.Kernel13Ideal.nD Cert.Kernel13Ideal.τ).loc Cert.Kernel13Ideal.main_v0_25)) (v26 : (c : Dev Cert.Kernel13Ideal.nD) → Buf (Elt Ideal) ((c.tc : Thread Cert.Kernel13Ideal.nD Cert.Kernel13Ideal.τ).loc Cert.Kernel13Ideal.main_v0_26)) (v27 : (c : Dev Cert.Kernel13Ideal.nD) → Buf (Elt Ideal) ((c.tc : Thread Cert.Kernel13Ideal.nD Cert.Kernel13Ideal.τ).loc Cert.Kernel13Ideal.main_v0_27)) (v28 : (c : Dev Cert.Kernel13Ideal.nD) → Buf (Elt Ideal) ((c.tc : Thread Cert.Kernel13Ideal.nD Cert.Kernel13Ideal.τ).loc Cert.Kernel13Ideal.main_v0_28)) (v29 : (c : Dev Cert.Kernel13Ideal.nD) → Buf (Elt Ideal) ((c.tc : Thread Cert.Kernel13Ideal.nD Cert.Kernel13Ideal.τ).loc Cert.Kernel13Ideal.main_v0_29)) (v30 : (c : Dev Cert.Kernel13Ideal.nD) → Buf (Elt Ideal) ((c.tc : Thread Cert.Kernel13Ideal.nD Cert.Kernel13Ideal.τ).loc Cert.Kernel13Ideal.main_v0_30)) (v31 : (c : Dev Cert.Kernel13Ideal.nD) → Buf (Elt Ideal) ((c.tc : Thread Cert.Kernel13Ideal.nD Cert.Kernel13Ideal.τ).loc Cert.Kernel13Ideal.main_v0_31)) (v32 : (c : Dev Cert.Kernel13Ideal.nD) → Buf (Elt Ideal) ((c.tc : Thread Cert.Kernel13Ideal.nD Cert.Kernel13Ideal.τ).loc Cert.Kernel13Ideal.main_v0_32)) (v33 : (c : Dev Cert.Kernel13Ideal.nD) → Buf (Elt Ideal) ((c.tc : Thread Cert.Kernel13Ideal.nD Cert.Kernel13Ideal.τ).loc Cert.Kernel13Ideal.main_v0_33)) (v34 : (c : Dev Cert.Kernel13Ideal.nD) → Buf (Elt Ideal) ((c.tc : Thread Cert.Kernel13Ideal.nD Cert.Kernel13Ideal.τ).loc Cert.Kernel13Ideal.main_v0_34)) (v35 : (c : Dev Cert.Kernel13Ideal.nD) → Buf (Elt Ideal) ((c.tc : Thread Cert.Kernel13Ideal.nD Cert.Kernel13Ideal.τ).loc Cert.Kernel13Ideal.main_v0_35)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_v0_10) = v10 c
          ∧ r.2.mem ((c.tc : Thread Cert.Kernel13Ideal.nD Cert.Kernel13Ideal.τ).loc Cert.Kernel13Ideal.main_v0_11) = v11 c
          ∧ r.2.mem ((c.tc : Thread Cert.Kernel13Ideal.nD Cert.Kernel13Ideal.τ).loc Cert.Kernel13Ideal.main_v0_12) = v12 c
          ∧ r.2.mem ((c.tc : Thread Cert.Kernel13Ideal.nD Cert.Kernel13Ideal.τ).loc Cert.Kernel13Ideal.main_v0_13) = v13 c
          ∧ r.2.mem ((c.tc : Thread Cert.Kernel13Ideal.nD Cert.Kernel13Ideal.τ).loc Cert.Kernel13Ideal.main_v0_14) = v14 c
          ∧ r.2.mem ((c.tc : Thread Cert.Kernel13Ideal.nD Cert.Kernel13Ideal.τ).loc Cert.Kernel13Ideal.main_v0_15) = v15 c
          ∧ r.2.mem ((c.tc : Thread Cert.Kernel13Ideal.nD Cert.Kernel13Ideal.τ).loc Cert.Kernel13Ideal.main_v0_16) = v16 c
          ∧ r.2.mem ((c.tc : Thread Cert.Kernel13Ideal.nD Cert.Kernel13Ideal.τ).loc Cert.Kernel13Ideal.main_v0_17) = v17 c
          ∧ r.2.mem ((c.tc : Thread Cert.Kernel13Ideal.nD Cert.Kernel13Ideal.τ).loc Cert.Kernel13Ideal.main_v0_18) = v18 c
          ∧ r.2.mem ((c.tc : Thread Cert.Kernel13Ideal.nD Cert.Kernel13Ideal.τ).loc Cert.Kernel13Ideal.main_v0_19) = v19 c
          ∧ r.2.mem ((c.tc : Thread Cert.Kernel13Ideal.nD Cert.Kernel13Ideal.τ).loc Cert.Kernel13Ideal.main_v0_20) = v20 c
          ∧ r.2.mem ((c.tc : Thread Cert.Kernel13Ideal.nD Cert.Kernel13Ideal.τ).loc Cert.Kernel13Ideal.main_v0_21) = v21 c
          ∧ r.2.mem ((c.tc : Thread Cert.Kernel13Ideal.nD Cert.Kernel13Ideal.τ).loc Cert.Kernel13Ideal.main_v0_22) = v22 c
          ∧ r.2.mem ((c.tc : Thread Cert.Kernel13Ideal.nD Cert.Kernel13Ideal.τ).loc Cert.Kernel13Ideal.main_v0_23) = v23 c
          ∧ r.2.mem ((c.tc : Thread Cert.Kernel13Ideal.nD Cert.Kernel13Ideal.τ).loc Cert.Kernel13Ideal.main_v0_24) = v24 c
          ∧ r.2.mem ((c.tc : Thread Cert.Kernel13Ideal.nD Cert.Kernel13Ideal.τ).loc Cert.Kernel13Ideal.main_v0_25) = v25 c
          ∧ r.2.mem ((c.tc : Thread Cert.Kernel13Ideal.nD Cert.Kernel13Ideal.τ).loc Cert.Kernel13Ideal.main_v0_26) = v26 c
          ∧ r.2.mem ((c.tc : Thread Cert.Kernel13Ideal.nD Cert.Kernel13Ideal.τ).loc Cert.Kernel13Ideal.main_v0_27) = v27 c
          ∧ r.2.mem ((c.tc : Thread Cert.Kernel13Ideal.nD Cert.Kernel13Ideal.τ).loc Cert.Kernel13Ideal.main_v0_28) = v28 c
          ∧ r.2.mem ((c.tc : Thread Cert.Kernel13Ideal.nD Cert.Kernel13Ideal.τ).loc Cert.Kernel13Ideal.main_v0_29) = v29 c
          ∧ r.2.mem ((c.tc : Thread Cert.Kernel13Ideal.nD Cert.Kernel13Ideal.τ).loc Cert.Kernel13Ideal.main_v0_30) = v30 c
          ∧ r.2.mem ((c.tc : Thread Cert.Kernel13Ideal.nD Cert.Kernel13Ideal.τ).loc Cert.Kernel13Ideal.main_v0_31) = v31 c
          ∧ r.2.mem ((c.tc : Thread Cert.Kernel13Ideal.nD Cert.Kernel13Ideal.τ).loc Cert.Kernel13Ideal.main_v0_32) = v32 c
          ∧ r.2.mem ((c.tc : Thread Cert.Kernel13Ideal.nD Cert.Kernel13Ideal.τ).loc Cert.Kernel13Ideal.main_v0_33) = v33 c
          ∧ r.2.mem ((c.tc : Thread Cert.Kernel13Ideal.nD Cert.Kernel13Ideal.τ).loc Cert.Kernel13Ideal.main_v0_34) = v34 c
          ∧ r.2.mem ((c.tc : Thread Cert.Kernel13Ideal.nD Cert.Kernel13Ideal.τ).loc Cert.Kernel13Ideal.main_v0_35) = v35 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23)
          ∧ r.2.mem ((c.tc : Thread Cert.Kernel13Ideal.nD Cert.Kernel13Ideal.τ).loc Cert.Kernel13Ideal.main_arg24) = m ((c.tc : Thread Cert.Kernel13Ideal.nD Cert.Kernel13Ideal.τ).loc Cert.Kernel13Ideal.main_arg24)
          ∧ r.2.mem ((c.tc : Thread Cert.Kernel13Ideal.nD Cert.Kernel13Ideal.τ).loc Cert.Kernel13Ideal.main_arg25) = m ((c.tc : Thread Cert.Kernel13Ideal.nD Cert.Kernel13Ideal.τ).loc Cert.Kernel13Ideal.main_arg25)
          ∧ r.2.mem ((c.tc : Thread Cert.Kernel13Ideal.nD Cert.Kernel13Ideal.τ).loc Cert.Kernel13Ideal.main_arg26) = m ((c.tc : Thread Cert.Kernel13Ideal.nD Cert.Kernel13Ideal.τ).loc Cert.Kernel13Ideal.main_arg26)
          ∧ r.2.mem ((c.tc : Thread Cert.Kernel13Ideal.nD Cert.Kernel13Ideal.τ).loc Cert.Kernel13Ideal.main_arg27) = m ((c.tc : Thread Cert.Kernel13Ideal.nD Cert.Kernel13Ideal.τ).loc Cert.Kernel13Ideal.main_arg27)
          ∧ r.2.mem ((c.tc : Thread Cert.Kernel13Ideal.nD Cert.Kernel13Ideal.τ).loc Cert.Kernel13Ideal.main_arg28) = m ((c.tc : Thread Cert.Kernel13Ideal.nD Cert.Kernel13Ideal.τ).loc Cert.Kernel13Ideal.main_arg28))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v84) = v1 c
          ∧ r.2.mem ((c.tc : Thread Cert.Reference13Ideal.nD Cert.Reference13Ideal.τ).loc Cert.Reference13Ideal.main_v65) = v2 c
          ∧ r.2.mem ((c.tc : Thread Cert.Reference13Ideal.nD Cert.Reference13Ideal.τ).loc Cert.Reference13Ideal.main_v71) = v3 c
          ∧ r.2.mem ((c.tc : Thread Cert.Reference13Ideal.nD Cert.Reference13Ideal.τ).loc Cert.Reference13Ideal.main_v1) = v4 c
          ∧ r.2.mem ((c.tc : Thread Cert.Reference13Ideal.nD Cert.Reference13Ideal.τ).loc Cert.Reference13Ideal.main_v108) = v5 c
          ∧ r.2.mem ((c.tc : Thread Cert.Reference13Ideal.nD Cert.Reference13Ideal.τ).loc Cert.Reference13Ideal.main_v89) = v6 c
          ∧ r.2.mem ((c.tc : Thread Cert.Reference13Ideal.nD Cert.Reference13Ideal.τ).loc Cert.Reference13Ideal.main_v95) = v7 c
          ∧ r.2.mem ((c.tc : Thread Cert.Reference13Ideal.nD Cert.Reference13Ideal.τ).loc Cert.Reference13Ideal.main_v2) = v8 c
          ∧ r.2.mem ((c.tc : Thread Cert.Reference13Ideal.nD Cert.Reference13Ideal.τ).loc Cert.Reference13Ideal.main_v132) = v9 c
          ∧ r.2.mem ((c.tc : Thread Cert.Reference13Ideal.nD Cert.Reference13Ideal.τ).loc Cert.Reference13Ideal.main_v113) = v10 c
          ∧ r.2.mem ((c.tc : Thread Cert.Reference13Ideal.nD Cert.Reference13Ideal.τ).loc Cert.Reference13Ideal.main_v119) = v11 c
          ∧ r.2.mem ((c.tc : Thread Cert.Reference13Ideal.nD Cert.Reference13Ideal.τ).loc Cert.Reference13Ideal.main_v3) = v12 c
          ∧ r.2.mem ((c.tc : Thread Cert.Reference13Ideal.nD Cert.Reference13Ideal.τ).loc Cert.Reference13Ideal.main_v156) = v13 c
          ∧ r.2.mem ((c.tc : Thread Cert.Reference13Ideal.nD Cert.Reference13Ideal.τ).loc Cert.Reference13Ideal.main_v137) = v14 c
          ∧ r.2.mem ((c.tc : Thread Cert.Reference13Ideal.nD Cert.Reference13Ideal.τ).loc Cert.Reference13Ideal.main_v143) = v15 c
          ∧ r.2.mem ((c.tc : Thread Cert.Reference13Ideal.nD Cert.Reference13Ideal.τ).loc Cert.Reference13Ideal.main_v4) = v16 c
          ∧ r.2.mem ((c.tc : Thread Cert.Reference13Ideal.nD Cert.Reference13Ideal.τ).loc Cert.Reference13Ideal.main_v180) = v17 c
          ∧ r.2.mem ((c.tc : Thread Cert.Reference13Ideal.nD Cert.Reference13Ideal.τ).loc Cert.Reference13Ideal.main_v161) = v18 c
          ∧ r.2.mem ((c.tc : Thread Cert.Reference13Ideal.nD Cert.Reference13Ideal.τ).loc Cert.Reference13Ideal.main_v167) = v19 c
          ∧ r.2.mem ((c.tc : Thread Cert.Reference13Ideal.nD Cert.Reference13Ideal.τ).loc Cert.Reference13Ideal.main_v5) = v20 c
          ∧ r.2.mem ((c.tc : Thread Cert.Reference13Ideal.nD Cert.Reference13Ideal.τ).loc Cert.Reference13Ideal.main_v204) = v21 c
          ∧ r.2.mem ((c.tc : Thread Cert.Reference13Ideal.nD Cert.Reference13Ideal.τ).loc Cert.Reference13Ideal.main_v185) = v22 c
          ∧ r.2.mem ((c.tc : Thread Cert.Reference13Ideal.nD Cert.Reference13Ideal.τ).loc Cert.Reference13Ideal.main_v191) = v23 c
          ∧ r.2.mem ((c.tc : Thread Cert.Reference13Ideal.nD Cert.Reference13Ideal.τ).loc Cert.Reference13Ideal.main_v6) = v24 c
          ∧ r.2.mem ((c.tc : Thread Cert.Reference13Ideal.nD Cert.Reference13Ideal.τ).loc Cert.Reference13Ideal.main_v228) = v25 c
          ∧ r.2.mem ((c.tc : Thread Cert.Reference13Ideal.nD Cert.Reference13Ideal.τ).loc Cert.Reference13Ideal.main_v209) = v26 c
          ∧ r.2.mem ((c.tc : Thread Cert.Reference13Ideal.nD Cert.Reference13Ideal.τ).loc Cert.Reference13Ideal.main_v215) = v27 c
          ∧ r.2.mem ((c.tc : Thread Cert.Reference13Ideal.nD Cert.Reference13Ideal.τ).loc Cert.Reference13Ideal.main_v33) = v28 c
          ∧ r.2.mem ((c.tc : Thread Cert.Reference13Ideal.nD Cert.Reference13Ideal.τ).loc Cert.Reference13Ideal.main_v252) = v29 c
          ∧ r.2.mem ((c.tc : Thread Cert.Reference13Ideal.nD Cert.Reference13Ideal.τ).loc Cert.Reference13Ideal.main_v233) = v30 c
          ∧ r.2.mem ((c.tc : Thread Cert.Reference13Ideal.nD Cert.Reference13Ideal.τ).loc Cert.Reference13Ideal.main_v239) = v31 c
          ∧ r.2.mem ((c.tc : Thread Cert.Reference13Ideal.nD Cert.Reference13Ideal.τ).loc Cert.Reference13Ideal.main_v60) = v32 c
          ∧ r.2.mem ((c.tc : Thread Cert.Reference13Ideal.nD Cert.Reference13Ideal.τ).loc Cert.Reference13Ideal.main_v276) = v33 c
          ∧ r.2.mem ((c.tc : Thread Cert.Reference13Ideal.nD Cert.Reference13Ideal.τ).loc Cert.Reference13Ideal.main_v257) = v34 c
          ∧ r.2.mem ((c.tc : Thread Cert.Reference13Ideal.nD Cert.Reference13Ideal.τ).loc Cert.Reference13Ideal.main_v263) = v35 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23)
          ∧ r.2.mem ((c.tc : Thread Cert.Reference13Ideal.nD Cert.Reference13Ideal.τ).loc Cert.Reference13Ideal.main_arg24) = m' ((c.tc : Thread Cert.Reference13Ideal.nD Cert.Reference13Ideal.τ).loc Cert.Reference13Ideal.main_arg24)
          ∧ r.2.mem ((c.tc : Thread Cert.Reference13Ideal.nD Cert.Reference13Ideal.τ).loc Cert.Reference13Ideal.main_arg25) = m' ((c.tc : Thread Cert.Reference13Ideal.nD Cert.Reference13Ideal.τ).loc Cert.Reference13Ideal.main_arg25)
          ∧ r.2.mem ((c.tc : Thread Cert.Reference13Ideal.nD Cert.Reference13Ideal.τ).loc Cert.Reference13Ideal.main_arg26) = m' ((c.tc : Thread Cert.Reference13Ideal.nD Cert.Reference13Ideal.τ).loc Cert.Reference13Ideal.main_arg26)
          ∧ r.2.mem ((c.tc : Thread Cert.Reference13Ideal.nD Cert.Reference13Ideal.τ).loc Cert.Reference13Ideal.main_arg27) = m' ((c.tc : Thread Cert.Reference13Ideal.nD Cert.Reference13Ideal.τ).loc Cert.Reference13Ideal.main_arg27)
          ∧ r.2.mem ((c.tc : Thread Cert.Reference13Ideal.nD Cert.Reference13Ideal.τ).loc Cert.Reference13Ideal.main_arg28) = m' ((c.tc : Thread Cert.Reference13Ideal.nD Cert.Reference13Ideal.τ).loc Cert.Reference13Ideal.main_arg28))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S2816x1024, .bf16⟩
  | .hbm, ⟨6, _⟩ => ⟨S2816x1024, .bf16⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S2816x1024, .bf16⟩
  | .hbm, ⟨6, _⟩ => ⟨S2816x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2816x1024, .f32⟩
  | .hbm, ⟨27, _⟩ => ⟨S1024x2816, .f32⟩
  | .hbm, ⟨28, _⟩ => ⟨S4096x2816, .f32⟩
  | .hbm, ⟨29, _⟩ => ⟨S2816x1024, .f32⟩
  | .hbm, ⟨30, _⟩ => ⟨S1024x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S2816x1024 : Shape := ⟨2, ![2816, 1024]⟩
abbrev S8x128 : Shape := ⟨2, ![8, 128]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S8x128, .f32⟩
  | .hbm, ⟨11, _⟩ => ⟨S4096x1024, .bf16⟩
  | .hbm, ⟨12, _⟩ => ⟨S4096x2816, .bf16⟩
  | .hbm, ⟨13, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S8x128, .f32⟩
  | .local _ .vmem, ⟨15, _⟩ => ⟨S512x1024, .bf16⟩
  | .local _ .vmem, ⟨16, _⟩ => ⟨S512x1024, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S2816x1024, .f32⟩
  | .hbm, ⟨23, _⟩ => ⟨S1024x2816, .f32⟩
  | .hbm, ⟨24, _⟩ => ⟨S4096x2816, .f32⟩
  | .hbm, ⟨25, _⟩ => ⟨S2816x1024, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S4096x1024, .f32⟩
  | .hbm, ⟨111, _⟩ => ⟨S4096x1024, .f32⟩
  | .hbm, ⟨112, _⟩ => ⟨S4096x1024, .bf16⟩
  | .hbm, ⟨113, _⟩ => ⟨S8x128, .f32⟩
  | .hbm, ⟨114, _⟩ => ⟨S4096x1024, .bf16⟩
  | .hbm, ⟨115, _⟩ => ⟨S4096x2816, .bf16⟩
  | .hbm, ⟨116, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S7x4096x1024 : Shape := ⟨3, ![7, 4096, 1024]⟩
abbrev S4x1024x1792 : Shape := ⟨3, ![4, 1024, 1792]⟩
abbrev S512x1024 : Shape := ⟨2, ![512, 1024]⟩
abbrev S7x512x1024 : Shape := ⟨3, ![7, 512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S1x512x768 : Shape := ⟨3, ![1, 512, 768]⟩
abbrev S512x768 : Shape := ⟨2, ![512, 768]⟩
abbrev S1x1024x768 : Shape := ⟨3, ![1, 1024, 768]⟩
abbrev S1024x768 : Shape := ⟨2, ![1024, 768]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S7x4096x1024, .bf16⟩
  | .hbm, ⟨4, _⟩ => ⟨S4x1024x1792, .bf16⟩
  | .hbm, ⟨5, _⟩ => ⟨S4096x1024, .f32⟩
  | .hbm, ⟨6, _⟩ => ⟨S1x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S7x512x1024, .bf16⟩
  | .local _ .vmem, ⟨6, _⟩ => ⟨S7x512x1024, .bf16⟩
  | .local _ .vmem, ⟨7, _⟩ => ⟨S4x1024x1792, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4096x1024 : Shape := ⟨2, ![4096, 1024]⟩
abbrev S1x1024 : Shape := ⟨2, ![1, 1024]⟩
abbrev S7x4096x1024 : Shape := ⟨3, ![7, 4096, 1024]⟩
abbrev S4x1024x1792 : Shape := ⟨3, ![4, 1024, 1792]⟩
abbrev S1x4096x1024 : Shape := ⟨3, ![1, 4096, 1024]⟩
abbrev S1024x4x1792 : Shape := ⟨3, ![1024, 4, 1792]⟩
abbrev S1024x7168 : Shape := ⟨2, ![1024, 7168]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S7x4096x1024, .bf16⟩
  | .hbm, ⟨4, _⟩ => ⟨S4x1024x1792, .bf16⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S1x4096x1024, .bf16⟩
  | .hbm, ⟨12, _⟩ => ⟨S4096x1024, .bf16⟩
  | .hbm, ⟨13, _⟩ => ⟨S4096x1024, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S1x4096x1024, .bf16⟩
  | .hbm, ⟨18, _⟩ => ⟨S4096x1024, .bf16⟩
  | .hbm, ⟨19, _⟩ => ⟨S4096x1024, .f32⟩
  | .hbm, ⟨20, _⟩ => ⟨S1x4096x1024, .bf16⟩
  | .hbm, ⟨21, _⟩ => ⟨S4096x1024, .bf16⟩
  | .hbm, ⟨22, _⟩ => ⟨S4096x1024, .f32⟩
  | .hbm, ⟨23, _⟩ => ⟨S1x4096x1024, .bf16⟩
  | .hbm, ⟨24, _⟩ => ⟨S4096x1024, .bf16⟩
  | .hbm, ⟨25, _⟩ => ⟨S4096x1024, .f32⟩
  | .hbm, ⟨26, _⟩ => ⟨S1024x4x1792, .bf16⟩
  | .hbm, ⟨27, _⟩ => ⟨S1024x7168, .bf16⟩
  | .hbm, ⟨28, _⟩ => ⟨S1024x7168, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x7168, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x7168, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== Kernel5.lean ====
abbrev S4096x1024 : Shape := ⟨2, ![4096, 1024]⟩
abbrev S7x4096x1024 : Shape := ⟨3, ![7, 4096, 1024]⟩
abbrev S1024x7168 : Shape := ⟨2, ![1024, 7168]⟩
abbrev S1x4096x1024 : Shape := ⟨3, ![1, 4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S7x4096x1024, .bf16⟩
  | .hbm, ⟨2, _⟩ => ⟨S1024x7168, .f32⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S7x4096x1024 : Shape := ⟨3, ![7, 4096, 1024]⟩
abbrev S_ : Shape := ⟨0, ![]⟩
abbrev S1024x7168 : Shape := ⟨2, ![1024, 7168]⟩
abbrev S1x4096x1024 : Shape := ⟨3, ![1, 4096, 1024]⟩
abbrev S4096x7168 : Shape := ⟨2, ![4096, 7168]⟩
abbrev S7168x1024 : Shape := ⟨2, ![7168, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S7x4096x1024, .bf16⟩
  | .hbm, ⟨2, _⟩ => ⟨S_, .f32⟩
  | .hbm, ⟨3, _⟩ => ⟨S1024x7168, .f32⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S1x4096x1024, .bf16⟩
  | .hbm, ⟨8, _⟩ => ⟨S4096x1024, .bf16⟩
  | .hbm, ⟨9, _⟩ => ⟨S4096x1024, .f32⟩
  | .hbm, ⟨10, _⟩ => ⟨S1x4096x1024, .bf16⟩
  | .hbm, ⟨11, _⟩ => ⟨S4096x1024, .bf16⟩
  | .hbm, ⟨12, _⟩ => ⟨S4096x1024, .f32⟩
  | .hbm, ⟨13, _⟩ => ⟨S1x4096x1024, .bf16⟩
  | .hbm, ⟨14, _⟩ => ⟨S4096x1024, .bf16⟩
  | .hbm, ⟨15, _⟩ => ⟨S4096x1024, .f32⟩
  | .hbm, ⟨16, _⟩ => ⟨S1x4096x1024, .bf16⟩
  | .hbm, ⟨17, _⟩ => ⟨S4096x1024, .bf16⟩
  | .hbm, ⟨18, _⟩ => ⟨S4096x1024, .f32⟩
  | .hbm, ⟨19, _⟩ => ⟨S1x4096x1024, .bf16⟩
  | .hbm, ⟨20, _⟩ => ⟨S4096x1024, .bf16⟩
  | .hbm, ⟨21, _⟩ => ⟨S4096x1024, .f32⟩
  | .hbm, ⟨22, _⟩ => ⟨S1x4096x1024, .bf16⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S4096x7168, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x7168, .f32⟩
  | .hbm, ⟨35, _⟩ => ⟨S7168x1024, .f32⟩
  | .hbm, ⟨36, _⟩ => ⟨S1024x7168, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4x1024x1792 : Shape := ⟨3, ![4, 1024, 1792]⟩
abbrev S7x4096x1024 : Shape := ⟨3, ![7, 4096, 1024]⟩
abbrev S512x1024 : Shape := ⟨2, ![512, 1024]⟩
abbrev S7x512x1024 : Shape := ⟨3, ![7, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1024x768 : Shape := ⟨3, ![1, 1024, 768]⟩
abbrev S1024x768 : Shape := ⟨2, ![1024, 768]⟩
abbrev S512x768 : Shape := ⟨2, ![512, 768]⟩
abbrev S1x512x768 : Shape := ⟨3, ![1, 512, 768]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1792, .bf16⟩
  | .hbm, ⟨3, _⟩ => ⟨S4096x1024, .bf16⟩
  | .hbm, ⟨4, _⟩ => ⟨S7x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1792, .bf16⟩
  | .local _ .vmem, ⟨4, _⟩ => ⟨S512x1024, .bf16⟩
  | .local _ .vmem, ⟨5, _⟩ => ⟨S512x1024, .bf16⟩
  | .local _ .vmem, ⟨6, _⟩ => ⟨S7x512x1024, .bf16⟩
  | .local _ .vmem, ⟨7, _⟩ => ⟨S7x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4096x1024 : Shape := ⟨2, ![4096, 1024]⟩
abbrev S1x1024 : Shape := ⟨2, ![1, 1024]⟩
abbrev S4x1024x1792 : Shape := ⟨3, ![4, 1024, 1792]⟩
abbrev S1024x4x1792 : Shape := ⟨3, ![1024, 4, 1792]⟩
abbrev S1024x7168 : Shape := ⟨2, ![1024, 7168]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩
abbrev S1x4096x1024 : Shape := ⟨3, ![1, 4096, 1024]⟩
abbrev S7x4096x1024 : Shape := ⟨3, ![7, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1792, .bf16⟩
  | .hbm, ⟨3, _⟩ => ⟨S1024x4x1792, .bf16⟩
  | .hbm, ⟨4, _⟩ => ⟨S1024x7168, .bf16⟩
  | .hbm, ⟨5, _⟩ => ⟨S1024x7168, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x7168, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S7x4096x1024, .f32⟩
  | .hbm, ⟨38, _⟩ => ⟨S7x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x1024, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S2816x1024, .f32⟩
  | .hbm, ⟨21, _⟩ => ⟨S1024x2816, .f32⟩
  | .hbm, ⟨22, _⟩ => ⟨S4096x2816, .f32⟩
  | .hbm, ⟨23, _⟩ => ⟨S2816x1024, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x2816, .bf16⟩
  | .hbm, ⟨44, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel9.lean ====
abbrev S4096x1024 : Shape := ⟨2, ![4096, 1024]⟩
abbrev S7x4096x1024 : Shape := ⟨3, ![7, 4096, 1024]⟩
abbrev S1x1024 : Shape := ⟨2, ![1, 1024]⟩
abbrev S1024x1024 : Shape := ⟨2, ![1024, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 14
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S7x4096x1024, .bf16⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference9Ideal.lean ====
abbrev S4096x1024 : Shape := ⟨2, ![4096, 1024]⟩
abbrev S7x4096x1024 : Shape := ⟨3, ![7, 4096, 1024]⟩
abbrev S1x1024 : Shape := ⟨2, ![1, 1024]⟩
abbrev S1024x1024 : Shape := ⟨2, ![1024, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S7x4096x1024, .bf16⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x4096x1024, .bf16⟩
  | .hbm, ⟨10, _⟩ => ⟨S4096x1024, .bf16⟩
  | .hbm, ⟨11, _⟩ => ⟨S4096x1024, .f32⟩
  | .hbm, ⟨12, _⟩ => ⟨S1x4096x1024, .bf16⟩
  | .hbm, ⟨13, _⟩ => ⟨S4096x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S4096x1024, .bf16⟩
  | .hbm, ⟨80, _⟩ => ⟨S4096x1024, .bf16⟩
  | .hbm, ⟨81, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel10.lean ====
abbrev S1024x1792 : Shape := ⟨2, ![1024, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1792 : Shape := ⟨2, ![1024, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1024x1792, .f32⟩
  | .hbm, ⟨2, _⟩ => ⟨S1024x1792, .f32⟩
  | .hbm, ⟨3, _⟩ => ⟨S1024x1792, .f32⟩
  | .hbm, ⟨4, _⟩ => ⟨S_, .f32⟩
  | .hbm, ⟨5, _⟩ => ⟨S1024x1792, .f32⟩
  | .hbm, ⟨6, _⟩ => ⟨S1024x1792, .f32⟩
  | .hbm, ⟨7, _⟩ => ⟨S_, .f32⟩
  | .hbm, ⟨8, _⟩ => ⟨S1024x1792, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S256x1024 : Shape := ⟨2, ![256, 1024]⟩
abbrev S128x1024 : Shape := ⟨2, ![128, 1024]⟩

abbrev nBuf : Space → Nat
  | .hbm => 21
  | .vmem => 42
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference11Ideal.lean ====
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel12.lean ====
abbrev S704x1024 : Shape := ⟨2, ![704, 1024]⟩
abbrev S64x1024 : Shape := ⟨2, ![64, 1024]⟩

abbrev nBuf : Space → Nat
  | .hbm => 42
  | .vmem => 84
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S64x1024, .f32⟩
  | .local _ .vmem, ⟨53, _⟩ => ⟨S64x1024, .f32⟩
  | .local _ .vmem, ⟨54, _⟩ => ⟨S64x1024, .f32⟩
  | .local _ .vmem, ⟨55, _⟩ => ⟨S64x1024, .f32⟩
  | .local _ .vmem, ⟨56, _⟩ => ⟨S64x1024, .f32⟩
  | .local _ .vmem, ⟨57, _⟩ => ⟨S64x1024, .f32⟩
  | .local _ .vmem, ⟨58, _⟩ => ⟨S64x1024, .f32⟩
  | .local _ .vmem, ⟨59, _⟩ => ⟨S64x1024, .f32⟩
  | .local _ .vmem, ⟨60, _⟩ => ⟨S64x1024, .f32⟩
  | .local _ .vmem, ⟨61, _⟩ => ⟨S64x1024, .f32⟩
  | .local _ .vmem, ⟨62, _⟩ => ⟨S64x1024, .f32⟩
  | .local _ .vmem, ⟨63, _⟩ => ⟨S64x1024, .f32⟩
  | .local _ .vmem, ⟨64, _⟩ => ⟨S64x1024, .f32⟩
  | .local _ .vmem, ⟨65, _⟩ => ⟨S64x1024, .f32⟩
  | .local _ .vmem, ⟨66, _⟩ => ⟨S64x1024, .f32⟩
  | .local _ .vmem, ⟨67, _⟩ => ⟨S64x1024, .f32⟩
  | .local _ .vmem, ⟨68, _⟩ => ⟨S64x1024, .f32⟩
  | .local _ .vmem, ⟨69, _⟩ => ⟨S64x1024, .f32⟩
  | .local _ .vmem, ⟨70, _⟩ => ⟨S64x1024, .f32⟩
  | .local _ .vmem, ⟨71, _⟩ => ⟨S64x1024, .f32⟩
  | .local _ .vmem, ⟨72, _⟩ => ⟨S64x1024, .f32⟩
  | .local _ .vmem, ⟨73, _⟩ => ⟨S64x1024, .f32⟩
  | .local _ .vmem, ⟨74, _⟩ => ⟨S64x1024, .f32⟩
  | .local _ .vmem, ⟨75, _⟩ => ⟨S64x1024, .f32⟩
  | .local _ .vmem, ⟨76, _⟩ => ⟨S64x1024, .f32⟩
  | .local _ .vmem, ⟨77, _⟩ => ⟨S64x1024, .f32⟩
  | .local _ .vmem, ⟨78, _⟩ => ⟨S64x1024, .f32⟩
  | .local _ .vmem, ⟨79, _⟩ => ⟨S64x1024, .f32⟩
  | .local _ .vmem, ⟨80, _⟩ => ⟨S64x1024, .f32⟩
  | .local _ .vmem, ⟨81, _⟩ => ⟨S64x1024, .f32⟩
  | .local _ .vmem, ⟨82, _⟩ => ⟨S64x1024, .f32⟩
  | .local _ .vmem, ⟨83, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S64x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S64x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S64x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S64x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S64x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S64x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S64x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S64x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S64x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S64x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S64x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S64x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S64x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S64x1024 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]
-- ==== Reference12Ideal.lean ====
abbrev S704x1024 : Shape := ⟨2, ![704, 1024]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S704x1024, .f32⟩
  | 1 => ⟨S704x1024, .f32⟩
  | 2 => ⟨S704x1024, .f32⟩
  | 3 => ⟨S704x1024, .f32⟩
  | 4 => ⟨S704x1024, .f32⟩
  | 5 => ⟨S704x1024, .f32⟩
  | 6 => ⟨S704x1024, .f32⟩
  | 7 => ⟨S704x1024, .f32⟩
  | 8 => ⟨S704x1024, .f32⟩
  | 9 => ⟨S704x1024, .f32⟩
  | 10 => ⟨S704x1024, .f32⟩
  | 11 => ⟨S704x1024, .f32⟩
  | 12 => ⟨S704x1024, .f32⟩
  | 13 => ⟨S704x1024, .f32⟩
  | 14 => ⟨S704x1024, .f32⟩
  | 15 => ⟨S704x1024, .f32⟩
  | 16 => ⟨S704x1024, .f32⟩
  | 17 => ⟨S704x1024, .f32⟩
  | 18 => ⟨S704x1024, .f32⟩
  | 19 => ⟨S704x1024, .f32⟩
  | 20 => ⟨S704x1024, .f32⟩
  | 21 => ⟨S704x1024, .f32⟩
  | 22 => ⟨S704x1024, .f32⟩
  | 23 => ⟨S704x1024, .f32⟩
  | 24 => ⟨S_, .f32⟩
  | 25 => ⟨S704x1024, .f32⟩
  | 26 => ⟨S704x1024, .f32⟩
  | 27 => ⟨S_, .f32⟩
  | 28 => ⟨S704x1024, .f32⟩
  | 29 => ⟨S704x1024, .f32⟩
  | 30 => ⟨S704x1024, .f32⟩
  | 31 => ⟨S_, .f32⟩
  | 32 => ⟨S704x1024, .f32⟩
  | 33 => ⟨S704x1024, .f32⟩
  | 34 => ⟨S704x1024, .f32⟩
  | 35 => ⟨S_, .f32⟩
  | 36 => ⟨S704x1024, .f32⟩
  | 37 => ⟨S704x1024, .f32⟩
  | 38 => ⟨S704x1024, .f32⟩
  | 39 => ⟨S_, .f32⟩
  | 40 => ⟨S704x1024, .f32⟩
  | 41 => ⟨S704x1024, .f32⟩
  | 42 => ⟨S_, .f32⟩
  | 43 => ⟨S704x1024, .f32⟩
  | 44 => ⟨S704x1024, .f32⟩
  | 45 => ⟨S704x1024, .f32⟩
  | 46 => ⟨S_, .f32⟩
  | 47 => ⟨S704x1024, .f32⟩
  | 48 => ⟨S704x1024, .f32⟩
  | 49 => ⟨S704x1024, .f32⟩
  | 50 => ⟨S_, .f32⟩
  | 51 => ⟨S704x1024, .f32⟩
  | 52 => ⟨S704x1024, .f32⟩
  | 53 => ⟨S704x1024, .f32⟩
  | 54 => ⟨S_, .f32⟩
  | 55 => ⟨S704x1024, .f32⟩
  | 56 => ⟨S704x1024, .f32⟩
  | 57 => ⟨S_, .f32⟩
  | 58 => ⟨S704x1024, .f32⟩
  | 59 => ⟨S704x1024, .f32⟩
  | 60 => ⟨S_, .f32⟩
  | 61 => ⟨S704x1024, .f32⟩
  | 62 => ⟨S704x1024, .f32⟩
  | 63 => ⟨S704x1024, .f32⟩
  | 64 => ⟨S_, .f32⟩
  | 65 => ⟨S704x1024, .f32⟩
  | 66 => ⟨S704x1024, .f32⟩
  | 67 => ⟨S704x1024, .f32⟩
  | 68 => ⟨S_, .f32⟩
  | 69 => ⟨S704x1024, .f32⟩
  | 70 => ⟨S704x1024, .f32⟩
  | 71 => ⟨S704x1024, .f32⟩
  | 72 => ⟨S_, .f32⟩
  | 73 => ⟨S704x1024, .f32⟩
  | 74 => ⟨S704x1024, .f32⟩
  | 75 => ⟨S_, .f32⟩
  | 76 => ⟨S704x1024, .f32⟩
  | 77 => ⟨S704x1024, .f32⟩
  | 78 => ⟨S704x1024, .f32⟩
  | 79 => ⟨S_, .f32⟩
  | 80 => ⟨S704x1024, .f32⟩
  | 81 => ⟨S704x1024, .f32⟩
  | 82 => ⟨S704x1024, .f32⟩
  | 83 => ⟨S_, .f32⟩
  | 84 => ⟨S704x1024, .f32⟩
  | 85 => ⟨S704x1024, .f32⟩
  | 86 => ⟨S704x1024, .f32⟩
  | 87 => ⟨S_, .f32⟩
  | 88 => ⟨S704x1024, .f32⟩
  | 89 => ⟨S704x1024, .f32⟩
  | 90 => ⟨S_, .f32⟩
  | 91 => ⟨S704x1024, .f32⟩
  | 92 => ⟨S704x1024, .f32⟩
  | 93 => ⟨S_, .f32⟩
  | 94 => ⟨S704x1024, .f32⟩
  | 95 => ⟨S704x1024, .f32⟩
  | 96 => ⟨S704x1024, .f32⟩
  | 97 => ⟨S_, .f32⟩
  | 98 => ⟨S704x1024, .f32⟩
  | 99 => ⟨S704x1024, .f32⟩
  | 100 => ⟨S704x1024, .f32⟩
  | 101 => ⟨S_, .f32⟩
  | 102 => ⟨S704x1024, .f32⟩
  | 103 => ⟨S704x1024, .f32⟩
  | 104 => ⟨S704x1024, .f32⟩
  | 105 => ⟨S_, .f32⟩
  | 106 => ⟨S704x1024, .f32⟩
  | 107 => ⟨S704x1024, .f32⟩
  | 108 => ⟨S_, .f32⟩
  | 109 => ⟨S704x1024, .f32⟩
  | 110 => ⟨S704x1024, .f32⟩
  | 111 => ⟨S704x1024, .f32⟩
  | 112 => ⟨S_, .f32⟩
  | 113 => ⟨S704x1024, .f32⟩
  | 114 => ⟨S704x1024, .f32⟩
  | 115 => ⟨S704x1024, .f32⟩
  | 116 => ⟨S_, .f32⟩
  | 117 => ⟨S704x1024, .f32⟩
  | 118 => ⟨S704x1024, .f32⟩
  | 119 => ⟨S704x1024, .f32⟩
  | 120 => ⟨S_, .f32⟩
  | 121 => ⟨S704x1024, .f32⟩
  | 122 => ⟨S704x1024, .f32⟩
  | 123 => ⟨S_, .f32⟩
  | 124 => ⟨S704x1024, .f32⟩
  | 125 => ⟨S704x1024, .f32⟩
  | 126 => ⟨S_, .f32⟩
  | 127 => ⟨S704x1024, .f32⟩
  | _ => ⟨S704x1024, .f32⟩

abbrev hbmTy0_1 (i : Nat) : BufTy := match i % 128 with
  | 0 => ⟨S704x1024, .f32⟩
  | 1 => ⟨S704x1024, .f32⟩
  | 2 => ⟨S_, .f32⟩
  | 3 => ⟨S704x1024, .f32⟩
  | 4 => ⟨S704x1024, .f32⟩
  | 5 => ⟨S704x1024, .f32⟩
  | 6 => ⟨S_, .f32⟩
  | 7 => ⟨S704x1024, .f32⟩
  | 8 => ⟨S704x1024, .f32⟩
  | 9 => ⟨S704x1024, .f32⟩
  | 10 => ⟨S_, .f32⟩
  | 11 => ⟨S704x1024, .f32⟩
  | 12 => ⟨S704x1024, .f32⟩
  | 13 => ⟨S_, .f32⟩
  | 14 => ⟨S704x1024, .f32⟩
  | 15 => ⟨S704x1024, .f32⟩
  | 16 => ⟨S704x1024, .f32⟩
  | 17 => ⟨S_, .f32⟩
  | 18 => ⟨S704x1024, .f32⟩
  | 19 => ⟨S704x1024, .f32⟩
  | 20 => ⟨S704x1024, .f32⟩
  | 21 => ⟨S_, .f32⟩
  | 22 => ⟨S704x1024, .f32⟩
  | 23 => ⟨S704x1024, .f32⟩
  | 24 => ⟨S704x1024, .f32⟩
  | 25 => ⟨S_, .f32⟩
  | 26 => ⟨S704x1024, .f32⟩
  | 27 => ⟨S704x1024, .f32⟩
  | 28 => ⟨S_, .f32⟩
  | 29 => ⟨S704x1024, .f32⟩
  | 30 => ⟨S704x1024, .f32⟩
  | 31 => ⟨S_, .f32⟩
  | 32 => ⟨S704x1024, .f32⟩
  | 33 => ⟨S704x1024, .f32⟩
  | 34 => ⟨S704x1024, .f32⟩
  | 35 => ⟨S_, .f32⟩
  | 36 => ⟨S704x1024, .f32⟩
  | 37 => ⟨S704x1024, .f32⟩
  | 38 => ⟨S704x1024, .f32⟩
  | 39 => ⟨S_, .f32⟩
  | 40 => ⟨S704x1024, .f32⟩
  | 41 => ⟨S704x1024, .f32⟩
  | 42 => ⟨S704x1024, .f32⟩
  | 43 => ⟨S_, .f32⟩
  | 44 => ⟨S704x1024, .f32⟩
  | 45 => ⟨S704x1024, .f32⟩
  | 46 => ⟨S_, .f32⟩
  | 47 => ⟨S704x1024, .f32⟩
  | 48 => ⟨S704x1024, .f32⟩
  | 49 => ⟨S704x1024, .f32⟩
  | 50 => ⟨S_, .f32⟩
  | 51 => ⟨S704x1024, .f32⟩
  | 52 => ⟨S704x1024, .f32⟩
  | 53 => ⟨S704x1024, .f32⟩
  | 54 => ⟨S_, .f32⟩
  | 55 => ⟨S704x1024, .f32⟩
  | 56 => ⟨S704x1024, .f32⟩
  | 57 => ⟨S704x1024, .f32⟩
  | 58 => ⟨S_, .f32⟩
  | 59 => ⟨S704x1024, .f32⟩
  | 60 => ⟨S704x1024, .f32⟩
  | 61 => ⟨S_, .f32⟩
  | 62 => ⟨S704x1024, .f32⟩
  | 63 => ⟨S704x1024, .f32⟩
  | 64 => ⟨S_, .f32⟩
  | 65 => ⟨S704x1024, .f32⟩
  | 66 => ⟨S704x1024, .f32⟩
  | 67 => ⟨S704x1024, .f32⟩
  | 68 => ⟨S_, .f32⟩
  | 69 => ⟨S704x1024, .f32⟩
  | 70 => ⟨S704x1024, .f32⟩
  | 71 => ⟨S704x1024, .f32⟩
  | 72 => ⟨S_, .f32⟩
  | 73 => ⟨S704x1024, .f32⟩
  | 74 => ⟨S704x1024, .f32⟩
  | 75 => ⟨S704x1024, .f32⟩
  | 76 => ⟨S_, .f32⟩
  | 77 => ⟨S704x1024, .f32⟩
  | 78 => ⟨S704x1024, .f32⟩
  | 79 => ⟨S_, .f32⟩
  | 80 => ⟨S704x1024, .f32⟩
  | 81 => ⟨S704x1024, .f32⟩
  | 82 => ⟨S704x1024, .f32⟩
  | 83 => ⟨S_, .f32⟩
  | 84 => ⟨S704x1024, .f32⟩
  | 85 => ⟨S704x1024, .f32⟩
  | 86 => ⟨S704x1024, .f32⟩
  | 87 => ⟨S_, .f32⟩
  | 88 => ⟨S704x1024, .f32⟩
  | 89 => ⟨S704x1024, .f32⟩
  | 90 => ⟨S704x1024, .f32⟩
  | 91 => ⟨S_, .f32⟩
  | 92 => ⟨S704x1024, .f32⟩
  | 93 => ⟨S704x1024, .f32⟩
  | _ => ⟨S704x1024, .f32⟩

abbrev hbmTy (i : Nat) : BufTy := match i / 128 with
  | 0 => hbmTy0_0 i
  | 1 => hbmTy0_1 i
  | _ => ⟨S704x1024, .f32⟩

abbrev bufTy : (tb : Table) → Fin (tcTables nBuf tb) → BufTy
  | .hbm, ⟨i, _⟩ => hbmTy i
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel13.lean ====
abbrev S2 : Shape := ⟨1, ![2]⟩
abbrev S48x1024 : Shape := ⟨2, ![48, 1024]⟩
abbrev S1x1024 : Shape := ⟨2, ![1, 1024]⟩
abbrev S1x31x256 : Shape := ⟨3, ![1, 31, 256]⟩
abbrev S1x3x256 : Shape := ⟨3, ![1, 3, 256]⟩
abbrev S1 : Shape := ⟨1, ![1]⟩
abbrev S31x256 : Shape := ⟨2, ![31, 256]⟩
abbrev S3x256 : Shape := ⟨2, ![3, 256]⟩

abbrev nBuf : Space → Nat
  | .hbm => 65
  | .vmem => 64
  | .smem => 1
  | _ => 0

abbrev bufTy : (tb : Table) → Fin (tcTables nBuf tb) → BufTy
  | .hbm, ⟨0, _⟩ => ⟨S2, .i32⟩
  | .hbm, ⟨1, _⟩ => ⟨S48x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x31x256, .f32⟩
  | .hbm, ⟨24, _⟩ => ⟨S1x31x256, .f32⟩
  | .hbm, ⟨25, _⟩ => ⟨S1x31x256, .f32⟩
  | .hbm, ⟨26, _⟩ => ⟨S1x3x256, .f32⟩
  | .hbm, ⟨27, _⟩ => ⟨S1x3x256, .f32⟩
  | .hbm, ⟨28, _⟩ => ⟨S1x3x256, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x31x256, .f32⟩
  | .hbm, ⟨58, _⟩ => ⟨S1x31x256, .f32⟩
  | .hbm, ⟨59, _⟩ => ⟨S1x31x256, .f32⟩
  | .hbm, ⟨60, _⟩ => ⟨S1x31x256, .f32⟩
  | .hbm, ⟨61, _⟩ => ⟨S1x3x256, .f32⟩
  | .hbm, ⟨62, _⟩ => ⟨S1x3x256, .f32⟩
  | .hbm, ⟨63, _⟩ => ⟨S1x3x256, .f32⟩
  | .hbm, ⟨64, _⟩ => ⟨S1x3x256, .f32⟩
  | .local _ .vmem, ⟨0, _⟩ => ⟨S48x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x31x256, .f32⟩
  | .local _ .vmem, ⟨23, _⟩ => ⟨S1x31x256, .f32⟩
  | .local _ .vmem, ⟨24, _⟩ => ⟨S1x31x256, .f32⟩
  | .local _ .vmem, ⟨25, _⟩ => ⟨S1x3x256, .f32⟩
  | .local _ .vmem, ⟨26, _⟩ => ⟨S1x3x256, .f32⟩
  | .local _ .vmem, ⟨27, _⟩ => ⟨S1x3x256, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x31x256, .f32⟩
  | .local _ .vmem, ⟨57, _⟩ => ⟨S1x31x256, .f32⟩
  | .local _ .vmem, ⟨58, _⟩ => ⟨S1x31x256, .f32⟩
  | .local _ .vmem, ⟨59, _⟩ => ⟨S1x31x256, .f32⟩
  | .local _ .vmem, ⟨60, _⟩ => ⟨S1x3x256, .f32⟩
  | .local _ .vmem, ⟨61, _⟩ => ⟨S1x3x256, .f32⟩
  | .local _ .vmem, ⟨62, _⟩ => ⟨S1x3x256, .f32⟩
  | .local _ .vmem, ⟨63, _⟩ => ⟨S1x3x256, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .smem, ⟨0, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev main_v0_29 : Ref sig .tc := ⟨.hbm, 58, rfl⟩
abbrev main_v0_30 : Ref sig .tc := ⟨.hbm, 59, rfl⟩
abbrev main_v0_31 : Ref sig .tc := ⟨.hbm, 60, rfl⟩
abbrev main_v0_32 : Ref sig .tc := ⟨.hbm, 61, rfl⟩
abbrev main_v0_33 : Ref sig .tc := ⟨.hbm, 62, rfl⟩
abbrev main_v0_34 : Ref sig .tc := ⟨.hbm, 63, rfl⟩
abbrev main_v0_35 : Ref sig .tc := ⟨.hbm, 64, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg33_0 : Ref sig .tc := ⟨.vmem, 32, rfl⟩
abbrev cc0_stg34_0 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg50_0 : Ref sig .tc := ⟨.vmem, 49, rfl⟩
abbrev cc0_stg51_0 : Ref sig .tc := ⟨.vmem, 50, rfl⟩
abbrev cc0_stg52_0 : Ref sig .tc := ⟨.vmem, 51, rfl⟩
abbrev cc0_stg53_0 : Ref sig .tc := ⟨.vmem, 52, rfl⟩
abbrev cc0_stg54_0 : Ref sig .tc := ⟨.vmem, 53, rfl⟩
abbrev cc0_stg55_0 : Ref sig .tc := ⟨.vmem, 54, rfl⟩
abbrev cc0_stg56_0 : Ref sig .tc := ⟨.vmem, 55, rfl⟩
abbrev cc0_stg57_0 : Ref sig .tc := ⟨.vmem, 56, rfl⟩
abbrev cc0_stg58_0 : Ref sig .tc := ⟨.vmem, 57, rfl⟩
abbrev cc0_stg59_0 : Ref sig .tc := ⟨.vmem, 58, rfl⟩
abbrev cc0_stg60_0 : Ref sig .tc := ⟨.vmem, 59, rfl⟩
abbrev cc0_stg61_0 : Ref sig .tc := ⟨.vmem, 60, rfl⟩
abbrev cc0_stg62_0 : Ref sig .tc := ⟨.vmem, 61, rfl⟩
abbrev cc0_stg63_0 : Ref sig .tc := ⟨.vmem, 62, rfl⟩
abbrev cc0_stg64_0 : Ref sig .tc := ⟨.vmem, 63, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x31x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x31x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x31x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x3x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x3x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x3x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x31x256 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x31x256 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x31x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x31x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x3x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x3x256 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x3x256 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x3x256 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
-- ==== Reference13Ideal.lean ====
abbrev S2 : Shape := ⟨1, ![2]⟩
abbrev S48x1024 : Shape := ⟨2, ![48, 1024]⟩
abbrev S1x1024 : Shape := ⟨2, ![1, 1024]⟩
abbrev S1x31x256 : Shape := ⟨3, ![1, 31, 256]⟩
abbrev S1x3x256 : Shape := ⟨3, ![1, 3, 256]⟩
abbrev S31x1024 : Shape := ⟨2, ![31, 1024]⟩
abbrev S1 : Shape := ⟨1, ![1]⟩
abbrev S_ : Shape := ⟨0, ![]⟩
abbrev S31x256 : Shape := ⟨2, ![31, 256]⟩
abbrev S3x1024 : Shape := ⟨2, ![3, 1024]⟩
abbrev S3x256 : Shape := ⟨2, ![3, 256]⟩

abbrev nBuf : Space → Nat
  | .hbm => 421
  | .vmem => 0
  | .smem => 0
  | _ => 0

abbrev hbmTy0_0 (i : Nat) : BufTy := match i % 128 with
  | 0 => ⟨S2, .i32⟩
  | 1 => ⟨S48x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x31x256, .f32⟩
  | 24 => ⟨S1x31x256, .f32⟩
  | 25 => ⟨S1x31x256, .f32⟩
  | 26 => ⟨S1x3x256, .f32⟩
  | 27 => ⟨S1x3x256, .f32⟩
  | 28 => ⟨S1x3x256, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S31x1024, .f32⟩
  | 37 => ⟨S1, .i32⟩
  | 38 => ⟨S_, .i32⟩
  | 39 => ⟨S_, .i32⟩
  | 40 => ⟨S_, .i1⟩
  | 41 => ⟨S31x256, .f32⟩
  | 42 => ⟨S_, .f32⟩
  | 43 => ⟨S_, .f32⟩
  | 44 => ⟨S31x256, .f32⟩
  | 45 => ⟨S31x256, .f32⟩
  | 46 => ⟨S_, .f32⟩
  | 47 => ⟨S31x256, .f32⟩
  | 48 => ⟨S31x256, .f32⟩
  | 49 => ⟨S1, .i32⟩
  | 50 => ⟨S_, .i32⟩
  | 51 => ⟨S_, .i32⟩
  | 52 => ⟨S_, .i1⟩
  | 53 => ⟨S31x256, .f32⟩
  | 54 => ⟨S_, .f32⟩
  | 55 => ⟨S_, .f32⟩
  | 56 => ⟨S31x256, .f32⟩
  | 57 => ⟨S31x256, .f32⟩
  | 58 => ⟨S31x256, .f32⟩
  | 59 => ⟨S1, .i32⟩
  | 60 => ⟨S_, .i32⟩
  | 61 => ⟨S_, .i32⟩
  | 62 => ⟨S_, .i1⟩
  | 63 => ⟨S31x256, .f32⟩
  | 64 => ⟨S_, .f32⟩
  | 65 => ⟨S_, .f32⟩
  | 66 => ⟨S31x256, .f32⟩
  | 67 => ⟨S31x256, .f32⟩
  | 68 => ⟨S31x256, .f32⟩
  | 69 => ⟨S1, .i32⟩
  | 70 => ⟨S_, .i32⟩
  | 71 => ⟨S_, .i32⟩
  | 72 => ⟨S_, .i1⟩
  | 73 => ⟨S31x256, .f32⟩
  | 74 => ⟨S_, .f32⟩
  | 75 => ⟨S_, .f32⟩
  | 76 => ⟨S31x256, .f32⟩
  | 77 => ⟨S31x256, .f32⟩
  | 78 => ⟨S31x256, .f32⟩
  | 79 => ⟨S1x31x256, .f32⟩
  | 80 => ⟨S3x1024, .f32⟩
  | 81 => ⟨S1, .i32⟩
  | 82 => ⟨S_, .i32⟩
  | 83 => ⟨S_, .i32⟩
  | 84 => ⟨S_, .i1⟩
  | 85 => ⟨S3x256, .f32⟩
  | 86 => ⟨S_, .f32⟩
  | 87 => ⟨S_, .f32⟩
  | 88 => ⟨S3x256, .f32⟩
  | 89 => ⟨S3x256, .f32⟩
  | 90 => ⟨S_, .f32⟩
  | 91 => ⟨S3x256, .f32⟩
  | 92 => ⟨S3x256, .f32⟩
  | 93 => ⟨S1, .i32⟩
  | 94 => ⟨S_, .i32⟩
  | 95 => ⟨S_, .i32⟩
  | 96 => ⟨S_, .i1⟩
  | 97 => ⟨S3x256, .f32⟩
  | 98 => ⟨S_, .f32⟩
  | 99 => ⟨S_, .f32⟩
  | 100 => ⟨S3x256, .f32⟩
  | 101 => ⟨S3x256, .f32⟩
  | 102 => ⟨S3x256, .f32⟩
  | 103 => ⟨S1, .i32⟩
  | 104 => ⟨S_, .i32⟩
  | 105 => ⟨S_, .i32⟩
  | 106 => ⟨S_, .i1⟩
  | 107 => ⟨S3x256, .f32⟩
  | 108 => ⟨S_, .f32⟩
  | 109 => ⟨S_, .f32⟩
  | 110 => ⟨S3x256, .f32⟩
  | 111 => ⟨S3x256, .f32⟩
  | 112 => ⟨S3x256, .f32⟩
  | 113 => ⟨S1, .i32⟩
  | 114 => ⟨S_, .i32⟩
  | 115 => ⟨S_, .i32⟩
  | 116 => ⟨S_, .i1⟩
  | 117 => ⟨S3x256, .f32⟩
  | 118 => ⟨S_, .f32⟩
  | 119 => ⟨S_, .f32⟩
  | 120 => ⟨S3x256, .f32⟩
  | 121 => ⟨S3x256, .f32⟩
  | 122 => ⟨S3x256, .f32⟩
  | 123 => ⟨S1x3x256, .f32⟩
  | 124 => ⟨S_, .f32⟩
  | 125 => ⟨S1x1024, .f32⟩
  | 126 => ⟨S1x1024, .f32⟩
  | 127 => ⟨S_, .f32⟩
  | _ => ⟨S2, .i32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S2, .i32⟩

abbrev hbmTy0_2 (i : Nat) : BufTy := match i % 128 with
  | 0 => ⟨S_, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x31x256, .f32⟩
  | 101 => ⟨S1x31x256, .f32⟩
  | 102 => ⟨S_, .f32⟩
  | 103 => ⟨S1x31x256, .f32⟩
  | 104 => ⟨S1x31x256, .f32⟩
  | 105 => ⟨S1x31x256, .f32⟩
  | 106 => ⟨S_, .f32⟩
  | 107 => ⟨S1x31x256, .f32⟩
  | 108 => ⟨S1x31x256, .f32⟩
  | 109 => ⟨S1x31x256, .f32⟩
  | 110 => ⟨S_, .f32⟩
  | 111 => ⟨S1x31x256, .f32⟩
  | 112 => ⟨S1x31x256, .f32⟩
  | 113 => ⟨S1x31x256, .f32⟩
  | 114 => ⟨S_, .f32⟩
  | 115 => ⟨S1x31x256, .f32⟩
  | 116 => ⟨S1x31x256, .f32⟩
  | 117 => ⟨S_, .f32⟩
  | 118 => ⟨S1x31x256, .f32⟩
  | 119 => ⟨S1x31x256, .f32⟩
  | 120 => ⟨S1x31x256, .f32⟩
  | 121 => ⟨S_, .f32⟩
  | 122 => ⟨S1x31x256, .f32⟩
  | 123 => ⟨S1x31x256, .f32⟩
  | 124 => ⟨S1x31x256, .f32⟩
  | 125 => ⟨S_, .f32⟩
  | 126 => ⟨S1x31x256, .f32⟩
  | 127 => ⟨S1x31x256, .f32⟩
  | _ => ⟨S2, .i32⟩

abbrev hbmTy0_3 (i : Nat) : BufTy := match i % 128 with
  | 0 => ⟨S1x31x256, .f32⟩
  | 1 => ⟨S_, .f32⟩
  | 2 => ⟨S1x31x256, .f32⟩
  | 3 => ⟨S1x31x256, .f32⟩
  | 4 => ⟨S_, .f32⟩
  | 5 => ⟨S1x3x256, .f32⟩
  | 6 => ⟨S1x3x256, .f32⟩
  | 7 => ⟨S_, .f32⟩
  | 8 => ⟨S1x3x256, .f32⟩
  | 9 => ⟨S1x3x256, .f32⟩
  | 10 => ⟨S1x3x256, .f32⟩
  | 11 => ⟨S_, .f32⟩
  | 12 => ⟨S1x3x256, .f32⟩
  | 13 => ⟨S1x3x256, .f32⟩
  | 14 => ⟨S1x3x256, .f32⟩
  | 15 => ⟨S_, .f32⟩
  | 16 => ⟨S1x3x256, .f32⟩
  | 17 => ⟨S1x3x256, .f32⟩
  | 18 => ⟨S1x3x256, .f32⟩
  | 19 => ⟨S_, .f32⟩
  | 20 => ⟨S1x3x256, .f32⟩
  | 21 => ⟨S1x3x256, .f32⟩
  | 22 => ⟨S_, .f32⟩
  | 23 => ⟨S1x3x256, .f32⟩
  | 24 => ⟨S1x3x256, .f32⟩
  | 25 => ⟨S1x3x256, .f32⟩
  | 26 => ⟨S_, .f32⟩
  | 27 => ⟨S1x3x256, .f32⟩
  | 28 => ⟨S1x3x256, .f32⟩
  | 29 => ⟨S1x3x256, .f32⟩
  | 30 => ⟨S_, .f32⟩
  | 31 => ⟨S1x3x256, .f32⟩
  | 32 => ⟨S1x3x256, .f32⟩
  | 33 => ⟨S1x3x256, .f32⟩
  | 34 => ⟨S_, .f32⟩
  | 35 => ⟨S1x3x256, .f32⟩
  | 36 => ⟨S1x3x256, .f32⟩
  | _ => ⟨S2, .i32⟩

abbrev hbmTy (i : Nat) : BufTy := match i / 128 with
  | 0 => hbmTy0_0 i
  | 1 => hbmTy0_1 i
  | 2 => hbmTy0_2 i
  | 3 => hbmTy0_3 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v12 : Ref sig .tc := ⟨.hbm, 45, rfl⟩
abbrev main_cst_0 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_1 : Ref sig .tc := ⟨.hbm, 51, rfl⟩
abbrev main_v17 : Ref sig .tc := ⟨.hbm, 52, rfl⟩
abbrev main_v18 : Ref sig .tc := ⟨.hbm, 53, rfl⟩
abbrev main_cst_2 : Ref sig .tc := ⟨.hbm, 54, rfl⟩
abbrev main_call1_v0 : Ref sig .tc := ⟨.hbm, 55, rfl⟩
abbrev main_call1_v1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_c_3 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_call2_v0 : Ref sig .tc := ⟨.hbm, 65, rfl⟩
abbrev main_call2_v1 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c_5 : Ref sig .tc := ⟨.hbm, 71, rfl⟩
abbrev main_v29 : Ref sig .tc := ⟨.hbm, 72, rfl⟩
abbrev main_v30 : Ref sig .tc := ⟨.hbm, 73, rfl⟩
abbrev main_cst_6 : Ref sig .tc := ⟨.hbm, 74, rfl⟩
abbrev main_call3_v0 : Ref sig .tc := ⟨.hbm, 75, rfl⟩
abbrev main_call3_v1 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_c_7 : Ref sig .tc := ⟨.hbm, 83, rfl⟩
abbrev main_v37 : Ref sig .tc := ⟨.hbm, 84, rfl⟩
abbrev main_v38 : Ref sig .tc := ⟨.hbm, 85, rfl⟩
abbrev main_cst_8 : Ref sig .tc := ⟨.hbm, 86, rfl⟩
abbrev main_call4_v0 : Ref sig .tc := ⟨.hbm, 87, rfl⟩
abbrev main_call4_v1 : Ref sig .tc := ⟨.hbm, 88, rfl⟩
abbrev main_v39 : Ref sig .tc := ⟨.hbm, 89, rfl⟩
abbrev main_cst_9 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c_10 : Ref sig .tc := ⟨.hbm, 95, rfl⟩
abbrev main_v44 : Ref sig .tc := ⟨.hbm, 96, rfl⟩
abbrev main_v45 : Ref sig .tc := ⟨.hbm, 97, rfl⟩
abbrev main_cst_11 : Ref sig .tc := ⟨.hbm, 98, rfl⟩
abbrev main_call5_v0 : Ref sig .tc := ⟨.hbm, 99, rfl⟩
abbrev main_call5_v1 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_c_12 : Ref sig .tc := ⟨.hbm, 105, rfl⟩
abbrev main_v50 : Ref sig .tc := ⟨.hbm, 106, rfl⟩
abbrev main_v51 : Ref sig .tc := ⟨.hbm, 107, rfl⟩
abbrev main_cst_13 : Ref sig .tc := ⟨.hbm, 108, rfl⟩
abbrev main_call6_v0 : Ref sig .tc := ⟨.hbm, 109, rfl⟩
abbrev main_call6_v1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c_14 : Ref sig .tc := ⟨.hbm, 115, rfl⟩
abbrev main_v56 : Ref sig .tc := ⟨.hbm, 116, rfl⟩
abbrev main_v57 : Ref sig .tc := ⟨.hbm, 117, rfl⟩
abbrev main_cst_15 : Ref sig .tc := ⟨.hbm, 118, rfl⟩
abbrev main_call7_v0 : Ref sig .tc := ⟨.hbm, 119, rfl⟩
abbrev main_call7_v1 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_16 : Ref sig .tc := ⟨.hbm, 124, rfl⟩
abbrev main_v61 : Ref sig .tc := ⟨.hbm, 125, rfl⟩
abbrev main_v62 : Ref sig .tc := ⟨.hbm, 126, rfl⟩
abbrev main_cst_17 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_18 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_cst_19 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_cst_20 : Ref sig .tc := ⟨.hbm, 139, rfl⟩
abbrev main_v72 : Ref sig .tc := ⟨.hbm, 140, rfl⟩
abbrev main_v73 : Ref sig .tc := ⟨.hbm, 141, rfl⟩
abbrev main_cst_21 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_22 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_23 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_24 : Ref sig .tc := ⟨.hbm, 154, rfl⟩
abbrev main_v83 : Ref sig .tc := ⟨.hbm, 155, rfl⟩
abbrev main_v84 : Ref sig .tc := ⟨.hbm, 156, rfl⟩
abbrev main_cst_25 : Ref sig .tc := ⟨.hbm, 157, rfl⟩
abbrev main_v85 : Ref sig .tc := ⟨.hbm, 158, rfl⟩
abbrev main_v86 : Ref sig .tc := ⟨.hbm, 159, rfl⟩
abbrev main_cst_26 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_27 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_cst_28 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_cst_29 : Ref sig .tc := ⟨.hbm, 172, rfl⟩
abbrev main_v96 : Ref sig .tc := ⟨.hbm, 173, rfl⟩
abbrev main_v97 : Ref sig .tc := ⟨.hbm, 174, rfl⟩
abbrev main_cst_30 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_31 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_32 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_33 : Ref sig .tc := ⟨.hbm, 187, rfl⟩
abbrev main_v107 : Ref sig .tc := ⟨.hbm, 188, rfl⟩
abbrev main_v108 : Ref sig .tc := ⟨.hbm, 189, rfl⟩
abbrev main_cst_34 : Ref sig .tc := ⟨.hbm, 190, rfl⟩
abbrev main_v109 : Ref sig .tc := ⟨.hbm, 191, rfl⟩
abbrev main_v110 : Ref sig .tc := ⟨.hbm, 192, rfl⟩
abbrev main_cst_35 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_36 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_37 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_cst_38 : Ref sig .tc := ⟨.hbm, 205, rfl⟩
abbrev main_v120 : Ref sig .tc := ⟨.hbm, 206, rfl⟩
abbrev main_v121 : Ref sig .tc := ⟨.hbm, 207, rfl⟩
abbrev main_cst_39 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_40 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_41 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_42 : Ref sig .tc := ⟨.hbm, 220, rfl⟩
abbrev main_v131 : Ref sig .tc := ⟨.hbm, 221, rfl⟩
abbrev main_v132 : Ref sig .tc := ⟨.hbm, 222, rfl⟩
abbrev main_cst_43 : Ref sig .tc := ⟨.hbm, 223, rfl⟩
abbrev main_v133 : Ref sig .tc := ⟨.hbm, 224, rfl⟩
abbrev main_v134 : Ref sig .tc := ⟨.hbm, 225, rfl⟩
abbrev main_cst_44 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_45 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_cst_46 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_cst_47 : Ref sig .tc := ⟨.hbm, 238, rfl⟩
abbrev main_v144 : Ref sig .tc := ⟨.hbm, 239, rfl⟩
abbrev main_v145 : Ref sig .tc := ⟨.hbm, 240, rfl⟩
abbrev main_cst_48 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_49 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_50 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_51 : Ref sig .tc := ⟨.hbm, 253, rfl⟩
abbrev main_v155 : Ref sig .tc := ⟨.hbm, 254, rfl⟩
abbrev main_v156 : Ref sig .tc := ⟨.hbm, 255, rfl⟩
abbrev main_cst_52 : Ref sig .tc := ⟨.hbm, 256, rfl⟩
abbrev main_v157 : Ref sig .tc := ⟨.hbm, 257, rfl⟩
abbrev main_v158 : Ref sig .tc := ⟨.hbm, 258, rfl⟩
abbrev main_cst_53 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_cst_54 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_cst_55 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_cst_56 : Ref sig .tc := ⟨.hbm, 271, rfl⟩
abbrev main_v168 : Ref sig .tc := ⟨.hbm, 272, rfl⟩
abbrev main_v169 : Ref sig .tc := ⟨.hbm, 273, rfl⟩
abbrev main_cst_57 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_58 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_59 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_60 : Ref sig .tc := ⟨.hbm, 286, rfl⟩
abbrev main_v179 : Ref sig .tc := ⟨.hbm, 287, rfl⟩
abbrev main_v180 : Ref sig .tc := ⟨.hbm, 288, rfl⟩
abbrev main_cst_61 : Ref sig .tc := ⟨.hbm, 289, rfl⟩
abbrev main_v181 : Ref sig .tc := ⟨.hbm, 290, rfl⟩
abbrev main_v182 : Ref sig .tc := ⟨.hbm, 291, rfl⟩
abbrev main_cst_62 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_cst_63 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_cst_64 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_cst_65 : Ref sig .tc := ⟨.hbm, 304, rfl⟩
abbrev main_v192 : Ref sig .tc := ⟨.hbm, 305, rfl⟩
abbrev main_v193 : Ref sig .tc := ⟨.hbm, 306, rfl⟩
abbrev main_cst_66 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_67 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_68 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_69 : Ref sig .tc := ⟨.hbm, 319, rfl⟩
abbrev main_v203 : Ref sig .tc := ⟨.hbm, 320, rfl⟩
abbrev main_v204 : Ref sig .tc := ⟨.hbm, 321, rfl⟩
abbrev main_cst_70 : Ref sig .tc := ⟨.hbm, 322, rfl⟩
abbrev main_v205 : Ref sig .tc := ⟨.hbm, 323, rfl⟩
abbrev main_v206 : Ref sig .tc := ⟨.hbm, 324, rfl⟩
abbrev main_cst_71 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_cst_72 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_cst_73 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_cst_74 : Ref sig .tc := ⟨.hbm, 337, rfl⟩
abbrev main_v216 : Ref sig .tc := ⟨.hbm, 338, rfl⟩
abbrev main_v217 : Ref sig .tc := ⟨.hbm, 339, rfl⟩
abbrev main_cst_75 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_76 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_77 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_78 : Ref sig .tc := ⟨.hbm, 352, rfl⟩
abbrev main_v227 : Ref sig .tc := ⟨.hbm, 353, rfl⟩
abbrev main_v228 : Ref sig .tc := ⟨.hbm, 354, rfl⟩
abbrev main_cst_79 : Ref sig .tc := ⟨.hbm, 355, rfl⟩
abbrev main_v229 : Ref sig .tc := ⟨.hbm, 356, rfl⟩
abbrev main_v230 : Ref sig .tc := ⟨.hbm, 357, rfl⟩
abbrev main_cst_80 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_cst_81 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_cst_82 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_cst_83 : Ref sig .tc := ⟨.hbm, 370, rfl⟩
abbrev main_v240 : Ref sig .tc := ⟨.hbm, 371, rfl⟩
abbrev main_v241 : Ref sig .tc := ⟨.hbm, 372, rfl⟩
abbrev main_cst_84 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_cst_85 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_cst_86 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_cst_87 : Ref sig .tc := ⟨.hbm, 385, rfl⟩
abbrev main_v251 : Ref sig .tc := ⟨.hbm, 386, rfl⟩
abbrev main_v252 : Ref sig .tc := ⟨.hbm, 387, rfl⟩
abbrev main_cst_88 : Ref sig .tc := ⟨.hbm, 388, rfl⟩
abbrev main_v253 : Ref sig .tc := ⟨.hbm, 389, rfl⟩
abbrev main_v254 : Ref sig .tc := ⟨.hbm, 390, rfl⟩
abbrev main_cst_89 : Ref sig .tc := ⟨.hbm, 391, rfl⟩
abbrev main_v255 : Ref sig .tc := ⟨.hbm, 392, rfl⟩
abbrev main_v256 : Ref sig .tc := ⟨.hbm, 393, rfl⟩
abbrev main_v257 : Ref sig .tc := ⟨.hbm, 394, rfl⟩
abbrev main_cst_90 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_cst_91 : Ref sig .tc := ⟨.hbm, 399, rfl⟩
abbrev main_v261 : Ref sig .tc := ⟨.hbm, 400, rfl⟩
abbrev main_v262 : Ref sig .tc := ⟨.hbm, 401, rfl⟩
abbrev main_v263 : Ref sig .tc := ⟨.hbm, 402, rfl⟩
abbrev main_cst_92 : Ref sig .tc := ⟨.hbm, 403, rfl⟩
abbrev main_v264 : Ref sig .tc := ⟨.hbm, 404, rfl⟩
abbrev main_v265 : Ref sig .tc := ⟨.hbm, 405, rfl⟩
abbrev main_cst_93 : Ref sig .tc := ⟨.hbm, 406, rfl⟩
abbrev main_v266 : Ref sig .tc := ⟨.hbm, 407, rfl⟩
abbrev main_v267 : Ref sig .tc := ⟨.hbm, 408, rfl⟩
abbrev main_v268 : Ref sig .tc := ⟨.hbm, 409, rfl⟩
abbrev main_cst_94 : Ref sig .tc := ⟨.hbm, 410, rfl⟩
abbrev main_v269 : Ref sig .tc := ⟨.hbm, 411, rfl⟩
abbrev main_v270 : Ref sig .tc := ⟨.hbm, 412, rfl⟩
abbrev main_v271 : Ref sig .tc := ⟨.hbm, 413, rfl⟩
abbrev main_cst_95 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_cst_96 : Ref sig .tc := ⟨.hbm, 418, rfl⟩
abbrev main_v275 : Ref sig .tc := ⟨.hbm, 419, rfl⟩
abbrev main_v276 : Ref sig .tc := ⟨.hbm, 420, rfl⟩

abbrev nD : Nat := 1
abbrev τ : Topo := Topo.v7x

variable {F : FTy → Type} [FloatOps F]
-- ==== Proof.Norm.lean ====
/-
  The root-mean-square norm in the ideal model, row by row: the mean square is a positive number or `⊤`, and the two
  spellings of the norm's gradient (the kernels' closed form and the reference's chain of derivatives) agree for
  every row, finite or not.
-/
module

public import Idealize.ShloMosaic.Lib.Pipeline.ValueKit
public import Idealize.ShloMosaic.Lib.Pointwise
public import Idealize.ShloMosaic.Lib.Claim

@[expose] public section

noncomputable section

namespace Cert.Norm

open Idealize.ShloMosaic

/-- The width of a row, as the programs spell it. -/
abbrev width : EReal := Ideal.ofBits .f32 0x44800000#32

/-- The number added below the root. -/
abbrev small : EReal := Ideal.ofBits .f32 0x358637BD#32

/-- The factor of the derivative of the inverse root. -/
abbrev minusHalf : EReal := Ideal.ofBits .f32 0xBF000000#32

theorem width_eq : width = ((1024 : ℝ) : EReal) := by
  simp [Ideal.ofBits, Ideal.ieee]; rw [← EReal.coe_mul]; norm_num

theorem minusHalf_eq : minusHalf = ((-1/2 : ℝ) : EReal) := by
  simp [Ideal.ofBits, Ideal.ieee]; rw [← EReal.coe_mul]; norm_num

theorem small_eq : ∃ e : ℝ, 0 < e ∧ small = (e : EReal) := by
  refine ⟨_, ?_, by simp only [Ideal.ofBits, Ideal.ieee]; rfl⟩
  simp

/-- A square is not negative. -/
theorem sq_nonneg (x : EReal) : 0 ≤ x * x := by
  rcases le_total 0 x with h | h
  · exact mul_nonneg h h
  · have := mul_nonneg (EReal.neg_nonneg.mpr h) (EReal.neg_nonneg.mpr h)
    simpa using this

/-- The mean square of a row plus the small number is a positive number, or `⊤`. -/
theorem mean_cases {q : EReal} (hq : 0 ≤ q) :
    Ideal.div q width + small = ⊤ ∨ ∃ v : ℝ, 0 < v ∧ Ideal.div q width + small = (v : EReal) := by
  obtain ⟨e, he, hs⟩ := small_eq
  rw [width_eq, hs, Ideal.div_coe (by norm_num)]
  induction q with
  | bot => simp at hq
  | coe q =>
    have hq : 0 ≤ q := by exact_mod_cast hq
    exact Or.inr ⟨q * (1 / 1024) + e, by positivity, by push_cast; rfl⟩
  | top =>
    left
    rw [EReal.top_mul_coe_of_pos (by norm_num)]; rfl

/-- A negated double share is the sum of two negated shares. -/
theorem neg_mul_two (y : EReal) {k : ℝ} (hk : 0 ≤ k) :
    -(y * ((k + k : ℝ) : EReal)) = y * ((-k : ℝ) : EReal) + y * ((-k : ℝ) : EReal) := by
  have h : (0 : EReal) ≤ (k : EReal) := by exact_mod_cast hk
  rw [EReal.coe_add, ← EReal.neg_mul, EReal.left_distrib_of_nonneg h h, EReal.coe_neg,
    mul_comm y (-(k : EReal)), EReal.neg_mul, EReal.neg_mul, mul_comm y]

/-- The norm's gradient at an entry `x` of a row with sum of squares `q`: `p` is the entry's incoming gradient times
    the weight, `S` the row's sum of such products with the row, `a` what is added to it. -/
theorem back {q : EReal} (hq : 0 ≤ q) (S a p x : EReal) :
    a + (Ideal.rsqrt (Ideal.div q width + small) * p
        - x * Ideal.rsqrt (Ideal.div q width + small)
            * (Ideal.rsqrt (Ideal.div q width + small) * Ideal.rsqrt (Ideal.div q width + small)) * Ideal.div S width)
      = a + p * Ideal.rsqrt (Ideal.div q width + small)
          + x * Ideal.div (S * (minusHalf * Ideal.div (Ideal.rsqrt (Ideal.div q width + small)) (Ideal.div q width + small))) width
          + x * Ideal.div (S * (minusHalf * Ideal.div (Ideal.rsqrt (Ideal.div q width + small)) (Ideal.div q width + small))) width := by
  rcases mean_cases hq with h | ⟨v, hv, h⟩
  · rw [h, width_eq, Ideal.div_coe (by norm_num), Ideal.div_coe (by norm_num)]
    simp [Ideal.div]
  · rw [h, width_eq, minusHalf_eq, Ideal.div_coe (by norm_num), Ideal.div_coe (by norm_num), Ideal.div_coe hv.ne']
    have hr : Ideal.rsqrt ((v : ℝ) : EReal) = (((√v)⁻¹ : ℝ) : EReal) := by
      simp [Ideal.rsqrt_coe, hv.le, hv.ne', not_lt.mpr hv.le]
    rw [hr]
    have hs : (√v)⁻¹ * (√v)⁻¹ = 1 / v := by
      rw [← mul_inv, Real.mul_self_sqrt hv.le, one_div]
    have hk : (0 : ℝ) ≤ (√v)⁻¹ * (1 / v) * (1 / 2048) := by positivity
    rw [sub_eq_add_neg, add_assoc a, add_assoc a]
    congr 1
    rw [add_assoc, mul_comm p]
    congr 1
    have e1 : x * (((√v)⁻¹ : ℝ) : EReal) * ((((√v)⁻¹ : ℝ) : EReal) * (((√v)⁻¹ : ℝ) : EReal)) * (S * ((1 / 1024 : ℝ) : EReal))
        = (x * S) * (((√v)⁻¹ * (1 / v) * (1 / 2048) + (√v)⁻¹ * (1 / v) * (1 / 2048) : ℝ) : EReal) := by
      rw [← EReal.coe_mul, hs]
      have : ((√v)⁻¹ * (1 / v) * (1 / 2048) + (√v)⁻¹ * (1 / v) * (1 / 2048) : ℝ) = (√v)⁻¹ * ((1 / v) * (1 / 1024)) := by ring
      rw [this, EReal.coe_mul, EReal.coe_mul]
      ac_rfl
    have e2 : x * (S * (((-1/2 : ℝ) : EReal) * ((((√v)⁻¹ : ℝ) : EReal) * ((1 / v : ℝ) : EReal))) * ((1 / 1024 : ℝ) : EReal))
        = (x * S) * ((-((√v)⁻¹ * (1 / v) * (1 / 2048)) : ℝ) : EReal) := by
      have : (-((√v)⁻¹ * (1 / v) * (1 / 2048)) : ℝ) = (-1/2) * ((√v)⁻¹ * (1 / v)) * (1 / 1024) := by ring
      rw [this, EReal.coe_mul, EReal.coe_mul, EReal.coe_mul]
      ac_rfl
    rw [e1, e2, neg_mul_two _ hk]

end Cert.Norm

end
-- ==== Proof.BwdInput.lean ====
/-
  The gradient with respect to the feed-forward's input (the first program): the block's input gradient row by row,
  and the norm weight's gradient as the sum over all rows, accumulated block of rows by block of rows.
-/
module

public import proofs.«01_k».proof.Defs
public import proofs.«01_k».proof.Proof.Norm
public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.KernelIdeal.BwdInput

open Idealize.ShloMosaic Idealize.ShloMosaic.TcCoe Idealize.SL.Sem
open Idealize.ShloMosaic.Pipeline (Dat)
open Cert.KernelIdeal Cert.KernelIdeal.Gen Cert.Norm

variable (m : (ℓ : Loc nD τ sig) → Buf (Elt Ideal) ℓ)

/-- The gradient of the normed row, before the norm: both projections' gradients through their weights. -/
def back {n : ℕ} (dg du : FVec Ideal ⟨2, ![n, 2816]⟩ .bf16) (wg wu : FVec Ideal S2816x1024 .bf16) (r : Fin n) (d : Fin 1024) : EReal :=
  ∑ f : Fin 2816, dg (ix2 r f) * wg (ix2 f d) + ∑ f : Fin 2816, du (ix2 r f) * wu (ix2 f d)

/-- The sum of squares of a row. -/
def sumsq {n : ℕ} (x : FVec Ideal ⟨2, ![n, 1024]⟩ .f32) (r : Fin n) : EReal := ∑ k : Fin 1024, x (ix2 r k) * x (ix2 r k)

theorem sumsq_nonneg {n : ℕ} (x : FVec Ideal ⟨2, ![n, 1024]⟩ .f32) (r : Fin n) : 0 ≤ sumsq x r :=
  Finset.sum_nonneg fun k _ => sq_nonneg _

/-- The inverse root of a row's mean square. -/
def inv {n : ℕ} (x : FVec Ideal ⟨2, ![n, 1024]⟩ .f32) (r : Fin n) : EReal := Ideal.rsqrt (Ideal.div (sumsq x r) width + small)

/-- The row's product with its incoming gradient times the weight. -/
def along {n : ℕ} (x : FVec Ideal ⟨2, ![n, 1024]⟩ .f32) (g : FVec Ideal S1x1024 .f32) (dn : Fin n → Fin 1024 → EReal) (r : Fin n) : EReal :=
  ∑ k : Fin 1024, x (ix2 r k) * (dn r k * g (ix2 0 k))

/-- The input's gradient, as the kernel forms it. -/
def dx {n : ℕ} (a x : FVec Ideal ⟨2, ![n, 1024]⟩ .f32) (g : FVec Ideal S1x1024 .f32) (dn : Fin n → Fin 1024 → EReal) (r : Fin n) (d : Fin 1024) : EReal :=
  a (ix2 r d) + (inv x r * (dn r d * g (ix2 0 d))
    - x (ix2 r d) * inv x r * (inv x r * inv x r) * Ideal.div (along x g dn r) width)

theorem pay4 (dg : FVec Ideal S512x2816 .bf16) (wg : FVec Ideal S2816x1024 .bf16) (du : FVec Ideal S512x2816 .bf16)
    (wu : FVec Ideal S2816x1024 .bf16) (j : S512x1024.Idx) :
    k0_pay4 (F := Ideal) dg wg du wu j = back dg du wg wu (j 0) (j 1) := by
  pointwise [k0_pay4, back]

theorem pay5 (x : FVec Ideal S512x1024 .f32) (j : S512x1.Idx) : k0_pay5 (F := Ideal) x j = inv x (j 0) := by
  pointwise [k0_pay5, inv, sumsq]

/-- One block of the input's gradient. -/
theorem pay1 (a x : FVec Ideal S512x1024 .f32) (g : FVec Ideal S1x1024 .f32) (dg : FVec Ideal S512x2816 .bf16)
    (wg : FVec Ideal S2816x1024 .bf16) (du : FVec Ideal S512x2816 .bf16) (wu : FVec Ideal S2816x1024 .bf16) (j : S512x1024.Idx) :
    k0_pay1 (F := Ideal) (k0_pay9 dg wg du wu x g) (k0_pay10 x) (k0_pay11 dg wg du wu x g) k0_pay12 a j
      = dx a x g (back dg du wg wu) (j 0) (j 1) := by
  pointwise [k0_pay1, k0_pay9, k0_pay10, k0_pay11, k0_pay12, k0_pay8, k0_pay6, pay4, pay5, dx, along]

/-- One block's share of the norm weight's gradient. -/
theorem pay2 (x : FVec Ideal S512x1024 .f32) (dg : FVec Ideal S512x2816 .bf16)
    (wg : FVec Ideal S2816x1024 .bf16) (du : FVec Ideal S512x2816 .bf16) (wu : FVec Ideal S2816x1024 .bf16)
    (acc : FVec Ideal S1x1024 .f32) (j : S1x1024.Idx) :
    k0_pay2 (F := Ideal) (k0_pay7 dg wg du wu x) acc j
      = acc j + ∑ r : Fin 512, back dg du wg wu r (j 1) * (x (ix2 r (j 1)) * inv x r) := by
  pointwise [k0_pay2, k0_pay7, k0_pay6, pay4, pay5]

theorem pay3 (j : S1x1024.Idx) : k0_pay3 (F := Ideal) j = 0 := by
  pointwise [k0_pay3]

/-- Which block each window holds at a grid point: 512 rows, the weights whole. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

/-- The input's gradient, whole. -/
def dh (a x : FVec Ideal S4096x1024 .f32) (g : FVec Ideal S1x1024 .f32) (dg du : FVec Ideal S4096x2816 .bf16)
    (wg wu : FVec Ideal S2816x1024 .bf16) : FVec Ideal S4096x1024 .f32 :=
  fun i => dx a x g (back dg du wg wu) (i 0) (i 1)

/-- The norm weight's gradient. -/
def dnorm (x : FVec Ideal S4096x1024 .f32) (dg du : FVec Ideal S4096x2816 .bf16)
    (wg wu : FVec Ideal S2816x1024 .bf16) : FVec Ideal S1x1024 .f32 :=
  fun i => ∑ r : Fin 4096, back dg du wg wu r (i 1) * (x (ix2 r (i 1)) * inv x r)

/-- The first result array after the run. -/
theorem final7 (c : Dev nD) : (dats m 0 c).arrAt 7 (cfgs 0).N
    = dh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  by_cases h : t.val % 8 = 0
  · rw [outsAt0_A m c t h]; frame_out
    refine (pay1 _ _ _ _ _ _ _ _).trans ?_
    pointwise [dh, dx, inv, sumsq, along, back]
    blk_point [iblk, V, idx t]
  · rw [outsAt0_B m c t h]; frame_out
    refine (pay1 _ _ _ _ _ _ _ _).trans ?_
    pointwise [dh, dx, inv, sumsq, along, back]
    blk_point [iblk, V, idx t]

/-- The second result array after the run. -/
theorem final8 (c : Dev nD) : (dats m 0 c).arrAt 8 (cfgs 0).N
    = dnorm (m ((c : Thread nD τ).loc main_arg1))
        (m ((c : Thread nD τ).loc main_arg3)) (m ((c : Thread nD τ).loc main_arg4)) (m ((c : Thread nD τ).loc main_arg5))
        (m ((c : Thread nD τ).loc main_arg6)) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0) _
    (fun t h j => by rw [outsAt0_A m c t h]; frame_out; rw [pay2, pay3])
    (fun t h j => by rw [outsAt0_B m c t h]; frame_out; rw [pay2])
    (le_of_eq N_0) t0_7 rfl j, zero_add]
  simp only [dnorm]
  refine Fin.sum_mul_add_congr fun s k hl => ?_
  pointwise [inv, sumsq, back]
  blk_point [iblk, V, idx s]

section Reference

open Cert.ReferenceIdeal.Read

/-- The reference's input gradient, read at an index: the chain of derivatives is the kernel's closed form. -/
theorem ref_dh (a x : FVec Ideal S4096x1024 .f32) (g : FVec Ideal S1x1024 .f32) (dg du : FVec Ideal S4096x2816 .bf16)
    (wg wu : FVec Ideal S2816x1024 .bf16) : val_main_v45 (F := Ideal) a x g dg du wg wu = dh a x g dg du wg wu := by
  have hz : val_main_v25 (F := Ideal) dg du wg wu = fun i => back dg du wg wu (i 0) (i 1) := by
    funext i
    pointwise [val_main_v25, val_main_v24, val_main_v23, val_main_v22, val_main_v21, val_main_v19, val_main_v18,
      val_main_v16, val_main_v15, back]
    exact add_comm _ _
  unfold val_main_v45 val_main_v44 val_main_v43 val_main_v42 val_main_v41 val_main_v40 val_main_v39 val_main_v38
    val_main_v37 val_main_v36 val_main_v35 val_main_v34 val_main_v33 val_main_v32 val_main_v31 val_main_v30 val_main_v29
    val_main_v10 val_main_v9 val_main_v8 val_main_v7 val_main_v6 val_main_v5 val_main_v4 val_main_v3 val_main_v2
    val_main_v1 val_main_v0 val_main_cst val_main_cst_0 val_main_cst_1 val_main_cst_2 val_main_cst_4 val_main_cst_5
    val_main_cst_6
  rw [hz]
  funext i
  refine Eq.trans ?_ ((Norm.back (sumsq_nonneg x (i 0)) (along x g (back dg du wg wu) (i 0)) (a i)
    (back dg du wg wu (i 0) (i 1) * g (ix2 0 (i 1))) (x i)).symm.trans ?_)
  case refine_2 => pointwise [dh, dx, inv]
  generalize back dg du wg wu = z
  pointwise [sumsq, along]
  simp only [Fin.sum_univ_one, Finset.univ_unique, Finset.sum_singleton]
  rw [mul_comm _ (x i)]

/-- The reference's norm weight gradient. -/
theorem ref_dnorm (x : FVec Ideal S4096x1024 .f32) (dg du : FVec Ideal S4096x2816 .bf16)
    (wg wu : FVec Ideal S2816x1024 .bf16) : val_main_v28 (F := Ideal) x dg du wg wu = dnorm x dg du wg wu := by
  funext i
  pointwise [val_main_v28, val_main_v27, val_main_v26, val_main_v25, val_main_v24, val_main_v23, val_main_v22,
    val_main_v21, val_main_v19, val_main_v18, val_main_v16, val_main_v15, val_main_v12, val_main_v11, val_main_v7,
    val_main_v6, val_main_v5, val_main_v4, val_main_v3, val_main_v2, val_main_v1, val_main_v0, val_main_cst,
    val_main_cst_0, val_main_cst_1, val_main_cst_3, dnorm, back, inv, sumsq]
  refine Finset.sum_congr rfl fun k _ => ?_
  rw [mul_comm]
  congr 1
  exact add_comm _ _

end Reference

/-- The first program's value claim. -/
theorem algebraic : Cert.algebraic_KernelIdeal_ReferenceIdeal := by
  intro m g m' g' _ hagree
  refine ⟨fun c => dh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)),
    fun c => dnorm (m ((c : Thread nD τ).loc main_arg1)) (m ((c : Thread nD τ).loc main_arg3)) (m ((c : Thread nD τ).loc main_arg4))
        (m ((c : Thread nD τ).loc main_arg5)) (m ((c : Thread nD τ).loc main_arg6)), ?_, ?_⟩
  · run_from Cert.KernelIdeal.Gen.run_main m g
    · exact final7 m c
    · exact final8 m c
  · refine θ_run_mono (Cert.ReferenceIdeal.Value.run m' g') fun r h c => ?_
    obtain ⟨h0, h1, h2, h3, h4, h5, h6⟩ := hagree c
    refine ⟨(h c).1.trans ((Cert.ReferenceIdeal.Read.val_main_v45_eq m' c).trans ?_),
      (h c).2.1.trans ((Cert.ReferenceIdeal.Read.val_main_v28_eq _ _ _ _ _).trans ?_), (h c).2.2⟩
    · rw [h0, h1, h2, h3, h4, h5, h6]; exact ref_dh _ _ _ _ _ _ _
    · rw [h1, h3, h4, h5, h6]; exact ref_dnorm _ _ _ _ _

end Cert.KernelIdeal.BwdInput

end
-- ==== Proof.Wgrad.lean ====
/-
  The weight gradient of a feed-forward projection (the second program): what the kernel leaves in its result array,
  block of columns by block of columns, is the plain reference's product `hidᵀ · tok`, entry by entry.
-/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Wgrad

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The weight gradient: entry `(f, d)` is the sum over the tokens of `hid[·, f] * tok[·, d]`. -/
def grad (hid : FVec Ideal S4096x2816 .bf16) (tok : FVec Ideal S4096x1024 .bf16) : FVec Ideal S2816x1024 .f32 :=
  fun i => ∑ k : Fin 4096, hid (ix2 k (i 0)) * tok (ix2 k (i 1))

/-- Which block each window holds at a grid point: half of the hidden columns, all of the tokens. -/
theorem idx : ∀ t : Fin cfg0.N, win0_0.index t = ![0, t.val] ∧ win0_1.index t = ![0, 0] ∧ win0_2.index t = ![t.val, 0] :=
  (by decide +kernel : ∀ t : Fin grid0.N, _)

/-- The product of one block, read at an index. -/
theorem pay (x : FVec Ideal S4096x1408 .bf16) (y : FVec Ideal S4096x1024 .bf16) (j : S1408x1024.Idx) :
    k0_pay1 (F := Ideal) x y j = ∑ k : Fin 4096, x (ix2 k (j 0)) * y (ix2 k (j 1)) := by
  pointwise [k0_pay1]

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  refine (pay _ _ _).trans ?_
  pointwise [grad]
  blk_point [iblk, V, idx t]

/-- The second program's value claim. -/
theorem algebraic : Cert.algebraic_Kernel2Ideal_Reference2Ideal := by
  pair_intro
  · run_from Cert.Kernel2Ideal.Gen.run_main m g
  · run_from Cert.Reference2Ideal.Value.run m' g'
    rw [final m c]
    funext i
    pointwise [grad]

end Cert.Kernel2Ideal.Wgrad

end
-- ==== Proof.Rows.lean ====
/-
  The functions of one token's row that the forward pass and the loss head are made of: the root-mean-square norm, the
  feed-forward, the error against the target, and the norm's gradient.
-/
module

public import proofs.«01_k».proof.Proof.Norm

@[expose] public section

noncomputable section

namespace Cert.Rows

open Idealize.ShloMosaic Cert.Norm

/-- One row of an array of rows. -/
def row {n d : ℕ} {e : FTy} (x : FVec Ideal ⟨2, ![n, d]⟩ e) (r : Fin n) : Fin d → EReal := fun k => x (ix2 r k)

/-- One half, as the programs spell it. -/
abbrev half : EReal := Ideal.ofBits .f32 0x3F000000#32

/-- The sum of squares of a row. -/
def sumsq (x : Fin 1024 → EReal) : EReal := ∑ k, x k * x k

theorem sumsq_nonneg (x : Fin 1024 → EReal) : 0 ≤ sumsq x := Finset.sum_nonneg fun k _ => sq_nonneg _

/-- The inverse root of a row's mean square. -/
def invRoot (x : Fin 1024 → EReal) : EReal := Ideal.rsqrt (Ideal.div (sumsq x) width + small)

/-- The normed row, times the weight `g`. -/
def nrm (x g : Fin 1024 → EReal) : Fin 1024 → EReal := fun k => x k * invRoot x * g k

/-- A row times the transpose of a weight. -/
def proj {n : ℕ} (x : Fin n → EReal) {f : ℕ} (w : Fin f → Fin n → EReal) : Fin f → EReal := fun f => ∑ k, x k * w f k

/-- The gated activation of two projections. -/
def act {f : ℕ} (a b : Fin f → EReal) : Fin f → EReal := fun f => a f * Ideal.logistic (a f) * b f

/-- A row times a weight. -/
def mix {f n : ℕ} (a : Fin f → EReal) (w : Fin f → Fin n → EReal) : Fin n → EReal := fun k => ∑ f, a f * w f k

/-- The feed-forward block with its residual. -/
def ffn (x g : Fin 1024 → EReal) (wg wu wd : Fin 2816 → Fin 1024 → EReal) : Fin 1024 → EReal :=
  fun k => x k + half * mix (act (proj (nrm x g) wg) (proj (nrm x g) wu)) wd k

/-- The normed row's distance from the target. -/
def err (h g t : Fin 1024 → EReal) : Fin 1024 → EReal := fun k => nrm h g k - t k

/-- A row's product with its incoming gradient `dn` times the weight. -/
def along (x g dn : Fin 1024 → EReal) : EReal := ∑ k, x k * (dn k * g k)

/-- The norm's gradient with respect to the row, as the kernels form it. -/
def dnrm (x g dn : Fin 1024 → EReal) : Fin 1024 → EReal := fun k =>
  invRoot x * (dn k * g k) - x k * invRoot x * (invRoot x * invRoot x) * Ideal.div (along x g dn) width

/-- The same gradient, as the chain of derivatives forms it. -/
def chain (x g dn : Fin 1024 → EReal) : Fin 1024 → EReal := fun k =>
  dn k * g k * invRoot x
    + x k * Ideal.div (along x g dn * (minusHalf * Ideal.div (invRoot x) (Ideal.div (sumsq x) width + small))) width
    + Ideal.div (along x g dn * (minusHalf * Ideal.div (invRoot x) (Ideal.div (sumsq x) width + small))) width * x k

theorem dnrm_eq_chain (x g dn : Fin 1024 → EReal) : dnrm x g dn = chain x g dn := by
  funext k
  have h := back (sumsq_nonneg x) (along x g dn) 0 (dn k * g k) (x k)
  rw [zero_add, zero_add] at h
  refine Eq.trans h ?_
  simp only [chain, invRoot]
  rw [mul_comm (x k)]

/-- A sum over the hidden columns is the sum over the first half and the sum over the second. -/
theorem sum_halves (f : Fin 2816 → EReal) :
    ∑ i, f i = ∑ i : Fin 1408, f ⟨i.val, by omega⟩ + ∑ i : Fin 1408, f ⟨1408 + i.val, by omega⟩ :=
  Fin.sum_univ_add (a := 1408) (b := 1408) f

end Cert.Rows

end
-- ==== Proof.FwdLoss.lean ====
/-
  The feed-forward's forward pass with the loss and the loss head's backward pass (the third program): seven result
  arrays, five of them row by row, and two accumulated over the blocks of rows.
-/
module

public import proofs.«01_k».proof.Defs
public import proofs.«01_k».proof.Proof.Rows
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.FwdLoss

open Idealize.ShloMosaic Idealize.ShloMosaic.TcCoe Idealize.SL.Sem
open Idealize.ShloMosaic.Pipeline (Dat)
open Cert.Kernel3Ideal Cert.Kernel3Ideal.Gen Cert.Norm Cert.Rows

variable (m : (ℓ : Loc nD τ sig) → Buf (Elt Ideal) ℓ)

/-! ### The payloads of one block of rows -/

/-- The first half of a weight's rows. -/
def lo (w : FVec Ideal S2816x1024 .bf16) : FVec Ideal S1408x1024 .bf16 :=
  View.ld (Val := Elt Ideal) (e' := .bf16) w (Rect.unit ![0, 0] ![1408, 1024] inb_S2816x1024_S1408x1024_0_0)

/-- The second half. -/
def hi (w : FVec Ideal S2816x1024 .bf16) : FVec Ideal S1408x1024 .bf16 :=
  View.ld (Val := Elt Ideal) (e' := .bf16) w (Rect.unit ![1408, 0] ![1408, 1024] inb_S2816x1024_S1408x1024_1408_0)

theorem lo_apply (w : FVec Ideal S2816x1024 .bf16) (f : Fin 1408) (k : Fin 1024) :
    lo w (ix2 f k) = w (ix2 ⟨f.val, by omega⟩ k) := by
  refine congrArg w (funext fun a => ?_)
  fin_cases a <;> exact Fin.ext (by simp [Rect.unit, LoadRect.idx, ix2])

theorem hi_apply (w : FVec Ideal S2816x1024 .bf16) (f : Fin 1408) (k : Fin 1024) :
    hi w (ix2 f k) = w (ix2 ⟨1408 + f.val, by omega⟩ k) := by
  refine congrArg w (funext fun a => ?_)
  fin_cases a <;> exact Fin.ext (by simp [Rect.unit, LoadRect.idx, ix2])

/-- The rows after the feed-forward. -/
def outRow {n : ℕ} (x : FVec Ideal ⟨2, ![n, 1024]⟩ .f32) (g : FVec Ideal S1x1024 .f32) (wg wu wd : FVec Ideal S2816x1024 .bf16)
    (r : Fin n) : Fin 1024 → EReal := ffn (row x r) (row g 0) (row wg) (row wu) (row wd)

/-- The rows' errors. -/
def errRow {n : ℕ} (x : FVec Ideal ⟨2, ![n, 1024]⟩ .f32) (g : FVec Ideal S1x1024 .f32) (wg wu wd : FVec Ideal S2816x1024 .bf16)
    (t : FVec Ideal ⟨2, ![n, 1024]⟩ .f32) (gf : FVec Ideal S1x1024 .f32) (r : Fin n) : Fin 1024 → EReal :=
  err (outRow x g wg wu wd r) (row gf 0) (row t r)

section Payloads

variable (x : FVec Ideal S512x1024 .f32) (g gf : FVec Ideal S1x1024 .f32) (wg wu wd : FVec Ideal S2816x1024 .bf16)
  (t : FVec Ideal S512x1024 .f32)

theorem pay3 (j : S512x1024.Idx) : k0_pay3 (F := Ideal) x g j = nrm (row x (j 0)) (row g 0) (j 1) := by
  pointwise [k0_pay3, nrm, invRoot, sumsq, row]

theorem pay6 (j : S512x1408.Idx) (w : FVec Ideal S1408x1024 .bf16) :
    k0_pay6 (F := Ideal) x g w j = proj (nrm (row x (j 0)) (row g 0)) (row w) (j 1) := by
  pointwise [k0_pay6, k0_pay4, pay3, proj]
  rfl

theorem pay7 (j : S512x1408.Idx) (w : FVec Ideal S1408x1024 .bf16) :
    k0_pay7 (F := Ideal) x g w j = proj (nrm (row x (j 0)) (row g 0)) (row w) (j 1) := by
  pointwise [k0_pay7, k0_pay5, pay3, proj]
  rfl

theorem pay11 (j : S512x1408.Idx) (w : FVec Ideal S1408x1024 .bf16) :
    k0_pay11 (F := Ideal) (k0_pay3 x g) w (constant S512x1408 .f32 0#32) j = proj (nrm (row x (j 0)) (row g 0)) (row w) (j 1) := by
  pointwise [k0_pay11, k0_pay9, pay3, proj]
  rfl

theorem pay12 (j : S512x1408.Idx) (w : FVec Ideal S1408x1024 .bf16) :
    k0_pay12 (F := Ideal) (k0_pay3 x g) w j = proj (nrm (row x (j 0)) (row g 0)) (row w) (j 1) := by
  pointwise [k0_pay12, k0_pay10, pay3, proj]
  rfl

theorem pay13 : k0_pay13 (F := Ideal) x (k0_pay3 x g) (k0_pay8 x g (lo wg) (lo wu) (lo wd)) (hi wg)
      (constant S512x1408 .f32 0#32) (hi wu) (hi wd)
    = fun j => outRow x g wg wu wd (j 0) (j 1) := by
  funext j
  refine Eq.trans (b := row x (j 0) (j 1) + half * (mix (act (proj (nrm (row x (j 0)) (row g 0)) (row (lo wg)))
      (proj (nrm (row x (j 0)) (row g 0)) (row (lo wu)))) (row (lo wd)) (j 1)
    + mix (act (proj (nrm (row x (j 0)) (row g 0)) (row (hi wg)))
      (proj (nrm (row x (j 0)) (row g 0)) (row (hi wu)))) (row (hi wd)) (j 1))) ?_ ?_
  · generalize lo wg = a1, lo wu = a2, lo wd = a3, hi wg = b1, hi wu = b2, hi wd = b3
    pointwise [k0_pay13, k0_pay8, k0_pay9, k0_pay10, k0_pay4, k0_pay5, pay3, proj, mix, act, row]
  · simp only [outRow, ffn, mix]
    rw [sum_halves]
    simp only [act, proj, row, lo_apply, hi_apply,
      show ∀ f, lo wd (ix2 f (j 1)) = _ from fun f => lo_apply wd f (j 1),
      show ∀ f, hi wd (ix2 f (j 1)) = _ from fun f => hi_apply wd f (j 1)]

theorem pay16 : k0_pay16 (F := Ideal) x (k0_pay3 x g) (k0_pay8 x g (lo wg) (lo wu) (lo wd)) (hi wg)
      (constant S512x1408 .f32 0#32) (hi wu) (hi wd) gf t
    = fun j => errRow x g wg wu wd t gf (j 0) (j 1) := by
  unfold k0_pay16
  rw [pay13]
  funext j
  pointwise [errRow, err, nrm, invRoot, sumsq, row]

end Payloads

/-- The factor of the error in the loss's gradient, as the kernel spells it. -/
abbrev part : EReal := Ideal.ofBits .f32 0x3A800000#32

section Head

variable (h : Fin 512 → Fin 1024 → EReal) (e : Fin 512 → Fin 1024 → EReal) (gf : FVec Ideal S1x1024 .f32)

theorem pay22 (j : S512x1024.Idx) : k0_pay22 (F := Ideal) (fun j => h (j 0) (j 1)) (fun j => e (j 0) (j 1)) gf j
    = dnrm (h (j 0)) (row gf 0) (fun k => e (j 0) k * part) (j 1) := by
  pointwise [k0_pay22, k0_pay18, k0_pay19, k0_pay20, dnrm, invRoot, sumsq, along, row]

theorem pay1 (v : FVec Ideal S512x1024 .f32) (j : S512x1024.Idx) : k0_pay1 (F := Ideal) v j = half * v j := by
  pointwise [k0_pay1]

theorem pay2 (acc : FVec Ideal S1x1024 .f32) (j : S1x1024.Idx) :
    k0_pay2 (F := Ideal) (k0_pay21 (fun j => h (j 0) (j 1)) (fun j => e (j 0) (j 1))) acc j
      = acc j + ∑ r : Fin 512, e r (j 1) * part * (h r (j 1) * invRoot (h r)) := by
  pointwise [k0_pay2, k0_pay21, k0_pay18, k0_pay19, k0_pay20, invRoot, sumsq]

theorem pay17 (acc : FVec Ideal S8x128 .f32) (j : S8x128.Idx) :
    k0_pay17 (F := Ideal) (fun j => e (j 0) (j 1)) acc j
      = acc j + Ideal.ofBits .f32 0x3A000000#32 * ∑ r : Fin 512, ∑ k : Fin 1024, e r k * e r k := by
  pointwise [k0_pay17]

theorem pay14 (j : S1x1024.Idx) : k0_pay14 (F := Ideal) j = 0 := by
  pointwise [k0_pay14]

theorem pay15 (j : S8x128.Idx) : k0_pay15 (F := Ideal) j = 0 := by
  pointwise [k0_pay15]

end Head

/-- The loss's factor of one row's sum of squares. -/
abbrev scale : EReal := Ideal.ofBits .f32 0x3A000000#32

/-- A factor goes into a sum of terms that are not negative. -/
theorem scale_sum (a : EReal) {n : ℕ} (f : Fin n → EReal) (hf : ∀ r, 0 ≤ f r) : a * ∑ r, f r = ∑ r, a * f r := by
  induction n with
  | zero => simp
  | succ n ih =>
    rw [Fin.sum_univ_succ, Fin.sum_univ_succ, EReal.left_distrib_of_nonneg (hf 0) (Finset.sum_nonneg fun r _ => hf _),
      ih _ fun r => hf _]

/-! ### The result arrays -/

section Whole

variable (x : FVec Ideal S4096x1024 .f32) (g gf : FVec Ideal S1x1024 .f32) (wg wu wd : FVec Ideal S2816x1024 .bf16)
  (t : FVec Ideal S4096x1024 .f32)

/-- The gradient of the loss with respect to the feed-forward's rows. -/
def dh : FVec Ideal S4096x1024 .f32 := fun i =>
  dnrm (outRow x g wg wu wd (i 0)) (row gf 0) (fun k => errRow x g wg wu wd t gf (i 0) k * part) (i 1)

/-- Half of it: the feed-forward's share. -/
def dhalf : FVec Ideal S4096x1024 .bf16 := fun i => half * dh x g gf wg wu wd t i

/-- The gradient of the loss with respect to the last norm's weight. -/
def dfinal : FVec Ideal S1x1024 .f32 := fun i =>
  ∑ r : Fin 4096, errRow x g wg wu wd t gf r (i 1) * part * (outRow x g wg wu wd r (i 1) * invRoot (outRow x g wg wu wd r))

/-- The loss, in every entry. -/
def loss : FVec Ideal S8x128 .f32 := fun _ =>
  ∑ r : Fin 4096, scale * ∑ k : Fin 1024, errRow x g wg wu wd t gf r k * errRow x g wg wu wd t gf r k

/-- The normed rows. -/
def normed : FVec Ideal S4096x1024 .bf16 := fun i => nrm (row x (i 0)) (row g 0) (i 1)

/-- A projection of the normed rows. -/
def projected : FVec Ideal S4096x2816 .bf16 := fun i => proj (nrm (row x (i 0)) (row g 0)) (row wg) (i 1)

end Whole

/-- Which block each window holds at a grid point: 512 rows, the weights whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ win0_13.index t = ![t.val, 0] :=
  (by decide +kernel : ∀ t : Fin grid0.N, _)

section Blocks

variable (c : Dev nD) (t : Fin cfg0.N)

/-- A block's row among all rows. -/
def at_ (r : Fin 512) : Fin 4096 := ⟨t.val * 512 + r.val, by have := t.isLt; have : cfg0.N = 8 := N_0; omega⟩

theorem blk1 : iblk m c 1 t = m ((c : Thread nD τ).loc main_arg1) := by
  funext j; blk_ext [iblk, V, idx t]

theorem blk2 : iblk m c 2 t = m ((c : Thread nD τ).loc main_arg2) := by
  funext j; blk_ext [iblk, V, idx t]

theorem blk3 : iblk m c 3 t = m ((c : Thread nD τ).loc main_arg3) := by
  funext j; blk_ext [iblk, V, idx t]

theorem blk4 : iblk m c 4 t = m ((c : Thread nD τ).loc main_arg4) := by
  funext j; blk_ext [iblk, V, idx t]

theorem blk6 : iblk m c 6 t = m ((c : Thread nD τ).loc main_arg6) := by
  funext j; blk_ext [iblk, V, idx t]

theorem row0 (r : Fin 512) : row (n := 512) (d := 1024) (e := .f32) (iblk m c 0 t) r
    = row (n := 4096) (d := 1024) (e := .f32) (m ((c : Thread nD τ).loc main_arg0)) (at_ t r) := by
  funext k; simp only [row, at_]; blk_ext [iblk, V, idx t]

theorem row5 (r : Fin 512) : row (n := 512) (d := 1024) (e := .f32) (iblk m c 5 t) r
    = row (n := 4096) (d := 1024) (e := .f32) (m ((c : Thread nD τ).loc main_arg5)) (at_ t r) := by
  funext k; simp only [row, at_]; blk_ext [iblk, V, idx t]

/-- All rows after the feed-forward, and all errors, of the arrays the run starts from. -/
def H : Fin 4096 → Fin 1024 → EReal := outRow (m ((c : Thread nD τ).loc main_arg0)) (m ((c : Thread nD τ).loc main_arg1)) (m ((c : Thread nD τ).loc main_arg2)) (m ((c : Thread nD τ).loc main_arg3)) (m ((c : Thread nD τ).loc main_arg4))

@[inherit_doc H]
def E : Fin 4096 → Fin 1024 → EReal := errRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem outRow_blk : outRow (n := 512) (iblk m c 0 t) (iblk m c 1 t) (iblk m c 2 t) (iblk m c 3 t) (iblk m c 4 t) = fun r => H m c (at_ t r) := by
  funext r
  simp only [outRow, H]
  rw [row0, blk1, blk2, blk3, blk4]

theorem errRow_blk : errRow (n := 512) (iblk m c 0 t) (iblk m c 1 t) (iblk m c 2 t) (iblk m c 3 t) (iblk m c 4 t) (iblk m c 5 t) (iblk m c 6 t) = fun r => E m c (at_ t r) := by
  funext r
  simp only [errRow, E, outRow]
  rw [row0, row5, blk1, blk2, blk3, blk4, blk6]

/-- The block's rows after the feed-forward, as the body leaves them. -/
theorem bodyH : k0_pay13 (F := Ideal) (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t))
    = fun j => H m c (at_ t (j 0)) (j 1) :=
  (pay13 (iblk m c 0 t) (iblk m c 1 t) (iblk m c 2 t) (iblk m c 3 t) (iblk m c 4 t)).trans (funext fun j => congrFun (congrFun (outRow_blk m c t) (j 0)) (j 1))

/-- The block's errors, as the body leaves them. -/
theorem bodyE : k0_pay16 (F := Ideal) (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)) (iblk m c 6 t) (iblk m c 5 t)
    = fun j => E m c (at_ t (j 0)) (j 1) :=
  (pay16 (iblk m c 0 t) (iblk m c 1 t) (iblk m c 6 t) (iblk m c 2 t) (iblk m c 3 t) (iblk m c 4 t) (iblk m c 5 t)).trans (funext fun j => congrFun (congrFun (errRow_blk m c t) (j 0)) (j 1))

/-- The block's gradient. -/
theorem bodyD (y : S512x1024.Idx) : k0_pay22 (F := Ideal) (k0_pay13 (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)))
      (k0_pay16 (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)) (iblk m c 6 t) (iblk m c 5 t)) (iblk m c 6 t) y
    = dh (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)) (ix2 (at_ t (y 0)) (y 1)) := by
  rw [bodyH, bodyE, blk6]
  exact pay22 (fun r => H m c (at_ t r)) (fun r => E m c (at_ t r)) _ y

/-- The block's share of the last norm's weight gradient. -/
theorem bodyF (acc : FVec Ideal S1x1024 .f32) (y : S1x1024.Idx) : k0_pay2 (F := Ideal) (k0_pay21 (k0_pay13 (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)))
      (k0_pay16 (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)) (iblk m c 6 t) (iblk m c 5 t))) acc y
    = acc y + ∑ r : Fin 512, E m c (at_ t r) (y 1) * part * (H m c (at_ t r) (y 1) * invRoot (H m c (at_ t r))) := by
  rw [bodyH, bodyE]
  exact pay2 (fun r => H m c (at_ t r)) (fun r => E m c (at_ t r)) acc y

/-- The block's share of the loss. -/
theorem bodyL (acc : FVec Ideal S8x128 .f32) (y : S8x128.Idx) : k0_pay17 (F := Ideal)
      (k0_pay16 (iblk m c 0 t) (k0_pay3 (iblk m c 0 t) (iblk m c 1 t)) (k0_pay8 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)) (iblk m c 6 t) (iblk m c 5 t)) acc y
    = acc y + ∑ r : Fin 512, scale * ∑ k : Fin 1024, E m c (at_ t r) k * E m c (at_ t r) k := by
  rw [bodyE]
  refine (pay17 (fun r => E m c (at_ t r)) acc y).trans ?_
  rw [scale_sum]
  exact fun r => sumsq_nonneg _

theorem nrm_blk (r : Fin 512) : nrm (row (n := 512) (d := 1024) (e := .f32) (iblk m c 0 t) r) (row (n := 1) (d := 1024) (e := .f32) (iblk m c 1 t) 0)
    = nrm (row (n := 4096) (d := 1024) (e := .f32) (m ((c : Thread nD τ).loc main_arg0)) (at_ t r)) (row (n := 1) (d := 1024) (e := .f32) (m ((c : Thread nD τ).loc main_arg1)) 0) := by
  rw [row0, blk1]

/-- The block's normed rows. -/
theorem bodyN (y : S512x1024.Idx) : k0_pay3 (F := Ideal) (iblk m c 0 t) (iblk m c 1 t) y
    = normed (m ((c : Thread nD τ).loc main_arg0)) (m ((c : Thread nD τ).loc main_arg1)) (ix2 (at_ t (y 0)) (y 1)) := by
  refine (pay3 (iblk m c 0 t) (iblk m c 1 t) y).trans ?_
  exact congrFun (nrm_blk m c t (y 0)) (y 1)

/-- The block's projection to the gate, first half of the columns. -/
theorem bodyGlo (y : S512x1408.Idx) : k0_pay6 (F := Ideal) (iblk m c 0 t) (iblk m c 1 t) (lo (iblk m c 2 t)) y
    = projected (m ((c : Thread nD τ).loc main_arg0)) (m ((c : Thread nD τ).loc main_arg1)) (m ((c : Thread nD τ).loc main_arg2)) (ix2 (at_ t (y 0)) ⟨(y 1).val, lt_of_lt_of_le (y 1).isLt (by decide)⟩) := by
  refine (pay6 (iblk m c 0 t) (iblk m c 1 t) y _).trans ?_
  refine Finset.sum_congr rfl fun k _ => congrArg₂ (· * ·) (congrFun (nrm_blk m c t (y 0)) k) ?_
  exact (lo_apply (iblk m c 2 t) (y 1) k).trans (by rw [blk2]; rfl)

@[inherit_doc bodyGlo]
theorem bodyGhi (y : S512x1408.Idx) : k0_pay11 (F := Ideal) (k0_pay3 (iblk m c 0 t) (iblk m c 1 t)) (hi (iblk m c 2 t)) (constant S512x1408 .f32 0#32) y
    = projected (m ((c : Thread nD τ).loc main_arg0)) (m ((c : Thread nD τ).loc main_arg1)) (m ((c : Thread nD τ).loc main_arg2)) (ix2 (at_ t (y 0)) ⟨1408 + (y 1).val, Nat.add_lt_add_left (y 1).isLt 1408⟩) := by
  refine (pay11 (iblk m c 0 t) (iblk m c 1 t) y _).trans ?_
  refine Finset.sum_congr rfl fun k _ => congrArg₂ (· * ·) (congrFun (nrm_blk m c t (y 0)) k) ?_
  exact (hi_apply (iblk m c 2 t) (y 1) k).trans (by rw [blk2]; rfl)

/-- The block's projection up, first half of the columns. -/
theorem bodyUlo (y : S512x1408.Idx) : k0_pay7 (F := Ideal) (iblk m c 0 t) (iblk m c 1 t) (lo (iblk m c 3 t)) y
    = projected (m ((c : Thread nD τ).loc main_arg0)) (m ((c : Thread nD τ).loc main_arg1)) (m ((c : Thread nD τ).loc main_arg3)) (ix2 (at_ t (y 0)) ⟨(y 1).val, lt_of_lt_of_le (y 1).isLt (by decide)⟩) := by
  refine (pay7 (iblk m c 0 t) (iblk m c 1 t) y _).trans ?_
  refine Finset.sum_congr rfl fun k _ => congrArg₂ (· * ·) (congrFun (nrm_blk m c t (y 0)) k) ?_
  exact (lo_apply (iblk m c 3 t) (y 1) k).trans (by rw [blk3]; rfl)

@[inherit_doc bodyUlo]
theorem bodyUhi (y : S512x1408.Idx) : k0_pay12 (F := Ideal) (k0_pay3 (iblk m c 0 t) (iblk m c 1 t)) (hi (iblk m c 3 t)) y
    = projected (m ((c : Thread nD τ).loc main_arg0)) (m ((c : Thread nD τ).loc main_arg1)) (m ((c : Thread nD τ).loc main_arg3)) (ix2 (at_ t (y 0)) ⟨1408 + (y 1).val, Nat.add_lt_add_left (y 1).isLt 1408⟩) := by
  refine (pay12 (iblk m c 0 t) (iblk m c 1 t) y _).trans ?_
  refine Finset.sum_congr rfl fun k _ => congrArg₂ (· * ·) (congrFun (nrm_blk m c t (y 0)) k) ?_
  exact (hi_apply (iblk m c 3 t) (y 1) k).trans (by rw [blk3]; rfl)

end Blocks

theorem final7 (c : Dev nD) : (dats m 0 c).arrAt 7 (cfgs 0).N = dh (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  refine Eq.trans ?_ (congrArg (dh (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5))) (?_ : ix2 (at_ t (y 0)) (y 1) = _))
  · by_cases h : t.val % 8 = 0
    · rw [outsAt0_A m c t h]; frame_out
      exact bodyD m c t y
    · rw [outsAt0_B m c t h]; frame_out
      exact bodyD m c t y
  · simp only [at_]; blk_ext [idx t]

theorem final8 (c : Dev nD) : (dats m 0 c).arrAt 8 (cfgs 0).N = dhalf (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  refine Eq.trans ?_ (congrArg (dhalf (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5))) (?_ : ix2 (at_ t (y 0)) (y 1) = _))
  · by_cases h : t.val % 8 = 0
    · rw [outsAt0_A m c t h]; frame_out
      exact (pay1 _ y).trans (congrArg (half * ·) (bodyD m c t y))
    · rw [outsAt0_B m c t h]; frame_out
      exact (pay1 _ y).trans (congrArg (half * ·) (bodyD m c t y))
  · simp only [at_]; blk_ext [idx t]

theorem final11 (c : Dev nD) : (dats m 0 c).arrAt 11 (cfgs 0).N = normed (m ((c : Thread nD τ).loc main_arg0)) (m ((c : Thread nD τ).loc main_arg1)) := by
  refine (dats m 0 c).arrAt_eq_of_covers 11 _ (by decide +kernel) fun t _ y => ?_
  blk_simp
  rw [after0_11]
  refine Eq.trans ?_ (congrArg (normed (m ((c : Thread nD τ).loc main_arg0)) (m ((c : Thread nD τ).loc main_arg1))) (?_ : ix2 (at_ t (y 0)) (y 1) = _))
  · by_cases h : t.val % 8 = 0
    · rw [outsAt0_A m c t h]; frame_out
      exact bodyN m c t y
    · rw [outsAt0_B m c t h]; frame_out
      exact bodyN m c t y
  · simp only [at_]; blk_ext [idx t]

theorem final9 (c : Dev nD) : (dats m 0 c).arrAt 9 (cfgs 0).N = dfinal (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0)
    (fun t => fun j => ∑ r : Fin 512, E m c (at_ t r) (j 1) * part * (H m c (at_ t r) (j 1) * invRoot (H m c (at_ t r))))
    (fun t h j => by
      rw [outsAt0_A m c t h]; frame_out
      exact (bodyF m c t (k0_pay14 (F := Ideal)) j).trans (by rw [pay14]))
    (fun t h j => by
      rw [outsAt0_B m c t h]; frame_out
      exact bodyF m c t _ j)
    (le_of_eq N_0) t0_7 rfl j, zero_add]
  exact Fin.sum_mul_add_congr fun s k hl => rfl

theorem final10 (c : Dev nD) : (dats m 0 c).arrAt 10 (cfgs 0).N = loss (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t => fun j => ∑ r : Fin 512, scale * ∑ k : Fin 1024, E m c (at_ t r) k * E m c (at_ t r) k)
    (fun t h j => by
      rw [outsAt0_A m c t h]; frame_out
      exact (bodyL m c t (k0_pay15 (F := Ideal)) j).trans (by rw [pay15]))
    (fun t h j => by
      rw [outsAt0_B m c t h]; frame_out
      exact bodyL m c t _ j)
    (le_of_eq N_0) t0_7 rfl j, zero_add]
  exact Fin.sum_mul_add_congr fun s k hl => rfl

theorem final12 (c : Dev nD) : (dats m 0 c).arrAt 12 (cfgs 0).N = projected (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  by_cases h : t.val % 8 = 0
  · rw [outsAt0_A m c t h]; frame_out
    canon_tiles x h
    · refine (bodyGhi m c t x).trans (congrArg _ ?_)
      simp only [at_]; blk_ext [idx t, h0, h1]
    · refine (bodyGlo m c t x).trans (congrArg _ ?_)
      simp only [at_]; blk_ext [idx t, h0, h1]
  · rw [outsAt0_B m c t h]; frame_out
    canon_tiles x h
    · refine (bodyGhi m c t x).trans (congrArg _ ?_)
      simp only [at_]; blk_ext [idx t, h0, h1]
    · refine (bodyGlo m c t x).trans (congrArg _ ?_)
      simp only [at_]; blk_ext [idx t, h0, h1]

theorem final13 (c : Dev nD) : (dats m 0 c).arrAt 13 (cfgs 0).N = projected (m ((c : Thread nD τ).loc main_arg0)) (m ((c : Thread nD τ).loc main_arg1)) (m ((c : Thread nD τ).loc main_arg3)) := by
  refine (dats m 0 c).arrAt_eq_of_covers 13 _ (by decide +kernel) fun t _ y => ?_
  blk_simp
  rw [after0_13]
  by_cases h : t.val % 8 = 0
  · rw [outsAt0_A m c t h]; frame_out
    canon_tiles x h
    · refine (bodyUhi m c t x).trans (congrArg _ ?_)
      simp only [at_]; blk_ext [idx t, h0, h1]
    · refine (bodyUlo m c t x).trans (congrArg _ ?_)
      simp only [at_]; blk_ext [idx t, h0, h1]
  · rw [outsAt0_B m c t h]; frame_out
    canon_tiles x h
    · refine (bodyUhi m c t x).trans (congrArg _ ?_)
      simp only [at_]; blk_ext [idx t, h0, h1]
    · refine (bodyUlo m c t x).trans (congrArg _ ?_)
      simp only [at_]; blk_ext [idx t, h0, h1]

end Cert.Kernel3Ideal.FwdLoss

end
-- ==== Proof.FwdLossRef.lean ====
/-
  The reference of the third program, stage by stage, as functions of one row; and the third program's value claim.
-/
module

public import proofs.«01_k».proof.Proof.FwdLoss

@[expose] public section

set_option maxRecDepth 16384

noncomputable section

namespace Cert.Kernel3Ideal.FwdLoss

open Idealize.ShloMosaic Idealize.ShloMosaic.TcCoe Idealize.SL.Sem
open Cert.Kernel3Ideal Cert.Norm Cert.Rows
open Cert.Reference3Ideal.Read

theorem half_eq : half = ((1 / 2 : ℝ) : EReal) := by
  simp [half, Ideal.ofBits, Ideal.ieee]; rw [← EReal.coe_mul]; norm_num

theorem one_eq : Ideal.ofBits .f32 0x3F800000#32 = 1 := by
  simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

theorem part_eq : part = ((1 / 1024 : ℝ) : EReal) := by
  simp [part, Ideal.ofBits, Ideal.ieee]; rw [← EReal.coe_mul]; norm_num

theorem scale_eq : scale = ((1 / 2048 : ℝ) : EReal) := by
  simp [scale, Ideal.ofBits, Ideal.ieee]; rw [← EReal.coe_mul]; norm_num

/-- The reference's gradient of the mean square, times the square's own factor, is the kernel's single factor. -/
theorem part_mul (e : EReal) : Ideal.div (half * Ideal.ofBits .f32 0x3F800000#32) width * (Ideal.ofBits .f32 0x40000000#32 * e) = e * part := by
  rw [half_eq, one_eq, two_eq, part_eq, mul_one, width_eq, Ideal.div_coe (by norm_num), ← mul_assoc, ← EReal.coe_mul, ← EReal.coe_mul,
    mul_comm e]
  norm_num

/-- Half of the mean of a row's squares is the row's sum of squares times the loss's factor. -/
theorem half_mean (s : EReal) : half * Ideal.div s width = scale * s := by
  rw [half_eq, scale_eq, width_eq, Ideal.div_coe (by norm_num), mul_comm s, ← mul_assoc, ← EReal.coe_mul]
  norm_num

section Stages

variable (x : FVec Ideal S4096x1024 .f32) (g : FVec Ideal S1x1024 .f32) (wg wu wd : FVec Ideal S2816x1024 .bf16)
  (t : FVec Ideal S4096x1024 .f32) (gf : FVec Ideal S1x1024 .f32)

theorem ref_n : val_main_v11 (F := Ideal) x g = fun i => nrm (row x (i 0)) (row g 0) (i 1) := by
  funext i
  pointwise [val_main_v0, val_main_v1, val_main_v2, val_main_v3, val_main_v4, val_main_v5, val_main_v6, val_main_v7, val_main_v8, val_main_v9, val_main_v10, val_main_v11, val_main_cst, val_main_cst_0, val_main_cst_1, nrm, invRoot, sumsq, row]

theorem ref_gate : val_main_v14 (F := Ideal) x g wg = fun i => proj (nrm (row x (i 0)) (row g 0)) (row wg) (i 1) := by
  unfold val_main_v14
  rw [ref_n]
  funext i
  pointwise [val_main_v12, val_main_v13, proj, row]

theorem ref_up : val_main_v17 (F := Ideal) x g wu = fun i => proj (nrm (row x (i 0)) (row g 0)) (row wu) (i 1) := by
  unfold val_main_v17
  rw [ref_n]
  funext i
  pointwise [val_main_v15, val_main_v16, proj, row]

theorem ref_act : val_main_v19 (F := Ideal) x g wg wu = fun i =>
    act (proj (nrm (row x (i 0)) (row g 0)) (row wg)) (proj (nrm (row x (i 0)) (row g 0)) (row wu)) (i 1) := by
  unfold val_main_v19 val_main_v18 val_main_call0_v5 val_main_call0_v4 val_main_call0_v3 val_main_call0_v2 val_main_call0_v1
    val_main_call0_v0 val_main_call0_cst val_main_call0_cst_0
  rw [ref_gate, ref_up]
  funext i
  pointwise [act, Ideal.logistic, one_eq]

theorem ref_h : val_main_v24 (F := Ideal) x g wg wu wd = fun i => outRow x g wg wu wd (i 0) (i 1) := by
  unfold val_main_v24 val_main_v23 val_main_v22 val_main_v21 val_main_v20 val_main_cst_2
  rw [ref_act]
  funext i
  pointwise [outRow, ffn, mix, row]

theorem ref_hr : val_main_v37 (F := Ideal) x g wg wu wd = fun i => outRow x g wg wu wd (i 0) (i 1) * invRoot (outRow x g wg wu wd (i 0)) := by
  unfold val_main_v37 val_main_v36 val_main_v32 val_main_v31 val_main_v30 val_main_v29 val_main_v28 val_main_v27 val_main_v26 val_main_v25 val_main_cst_3 val_main_cst_4 val_main_cst_5
  rw [ref_h]
  funext i
  pointwise [invRoot, sumsq]

theorem ref_err : val_main_v40 (F := Ideal) x g wg wu wd t gf = fun i => errRow x g wg wu wd t gf (i 0) (i 1) := by
  unfold val_main_v40 val_main_v39 val_main_v38
  rw [ref_hr]
  funext i
  pointwise [errRow, err, nrm, row]

theorem ref_dy : val_main_v54 (F := Ideal) x g wg wu wd t gf = fun i => errRow x g wg wu wd t gf (i 0) (i 1) * part := by
  unfold val_main_v54 val_main_v53 val_main_v52 val_main_v51 val_main_v50 val_main_v49 val_main_v43 val_main_v42 val_main_cst_14 val_main_cst_13 val_main_cst_12 val_main_cst_7
  rw [ref_err]
  funext i
  refine Eq.trans ?_ (part_mul _)
  pointwise []

/-- The reference's gradient with respect to the rows. -/
theorem ref_dh : val_main_v73 (F := Ideal) x g wg wu wd t gf = dh x g gf wg wu wd t := by
  funext i
  simp only [dh]
  rw [dnrm_eq_chain]
  unfold val_main_v73 val_main_v72 val_main_v71 val_main_v70 val_main_v69 val_main_v68 val_main_v67 val_main_v66 val_main_v65 val_main_v64 val_main_v63 val_main_v62 val_main_v61 val_main_v60 val_main_v59 val_main_v58 val_main_v35 val_main_v34 val_main_v33 val_main_v32 val_main_v31 val_main_v30 val_main_v29 val_main_v28 val_main_v27 val_main_v26 val_main_v25 val_main_cst_3 val_main_cst_4 val_main_cst_5
    val_main_cst_6 val_main_cst_16 val_main_cst_17 val_main_cst_18
  rw [ref_dy, ref_h]
  pointwise [chain, invRoot, sumsq, along, row]
  simp only [Fin.sum_univ_one, Finset.univ_unique, Finset.sum_singleton]

theorem ref_dhalf : val_main_v76 (F := Ideal) x g wg wu wd t gf = dhalf x g gf wg wu wd t := by
  unfold val_main_v76 val_main_v75 val_main_v74 val_main_cst_19
  rw [ref_dh]
  funext i
  pointwise [dhalf]

theorem ref_dfinal : val_main_v57 (F := Ideal) x g wg wu wd t gf = dfinal x g gf wg wu wd t := by
  unfold val_main_v57 val_main_v56 val_main_v55 val_main_cst_15
  rw [ref_hr, ref_dy]
  funext i
  pointwise [dfinal]
  exact Finset.sum_congr rfl fun k _ => mul_comm _ _

theorem ref_loss : val_main_v77 (F := Ideal) x g wg wu wd t gf = loss x g gf wg wu wd t := by
  funext i
  simp only [loss]
  refine Eq.trans (b := half * ∑ r : Fin 4096, Ideal.div (sumsq (errRow x g wg wu wd t gf r)) width) ?_ ?_
  · unfold val_main_v77 val_main_v48 val_main_v47 val_main_v46 val_main_v45 val_main_v44 val_main_v41 val_main_cst_11 val_main_cst_10 val_main_cst_9 val_main_cst_8
    rw [ref_err]
    pointwise [sumsq]
  · rw [scale_sum]
    · exact Finset.sum_congr rfl fun r _ => half_mean _
    · intro r
      rw [width_eq, Ideal.div_coe (by norm_num)]
      exact mul_nonneg (sumsq_nonneg _) (by positivity)

theorem ref_normed : val_main_v78 (F := Ideal) x g = normed x g := by
  unfold val_main_v78
  rw [ref_n]
  funext i
  pointwise [normed]

theorem ref_pgate : val_main_v79 (F := Ideal) x g wg = projected x g wg := by
  unfold val_main_v79
  rw [ref_gate]
  funext i
  pointwise [projected]

theorem ref_pup : val_main_v80 (F := Ideal) x g wu = projected x g wu := by
  unfold val_main_v80
  rw [ref_up]
  funext i
  pointwise [projected]

end Stages

set_option maxHeartbeats 3000000 in
/-- The third program's value claim. -/
theorem algebraic : Cert.algebraic_Kernel3Ideal_Reference3Ideal := by
  intro m g m' g' _ hagree
  refine ⟨fun c => dh (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)), fun c => dhalf (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)), fun c => dfinal (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)), fun c => loss (m ((c : Thread nD τ).loc main_arg0)) (m ((c : Thread nD τ).loc main_arg1)) (m ((c : Thread nD τ).loc main_arg6)) (m ((c : Thread nD τ).loc main_arg2)) (m ((c : Thread nD τ).loc main_arg3)) (m ((c : Thread nD τ).loc main_arg4)) (m ((c : Thread nD τ).loc main_arg5)),
    fun c => normed (m ((c : Thread nD τ).loc main_arg0)) (m ((c : Thread nD τ).loc main_arg1)), fun c => projected (m ((c : Thread nD τ).loc main_arg0)) (m ((c : Thread nD τ).loc main_arg1)) (m ((c : Thread nD τ).loc main_arg2)), fun c => projected (m ((c : Thread nD τ).loc main_arg0)) (m ((c : Thread nD τ).loc main_arg1)) (m ((c : Thread nD τ).loc main_arg3)), ?_, ?_⟩
  · run_from Cert.Kernel3Ideal.Gen.run_main m g
    · exact final7 m c
    · exact final8 m c
    · exact final9 m c
    · exact final10 m c
    · exact final11 m c
    · exact final12 m c
    · exact final13 m c
  · refine θ_run_mono (Cert.Reference3Ideal.Value.run m' g') fun r h c => ?_
    obtain ⟨h0, h1, h2, h3, h4, h5, h6⟩ := hagree c
    obtain ⟨r0, r1, r2, r3, r4, r5, r6, rest⟩ := h c
    refine ⟨r0.trans ((val_main_v73_eq m' c).trans ?_), r1.trans ((val_main_v76_eq m' c).trans ?_),
      r2.trans ((val_main_v57_eq m' c).trans ?_), r3.trans ((val_main_v77_eq m' c).trans ?_),
      r4.trans ((val_main_v78_eq _ _).trans ?_), r5.trans ((val_main_v79_eq _ _ _).trans ?_),
      r6.trans ((val_main_v80_eq _ _ _).trans ?_), rest⟩
    · rw [h0, h1, h2, h3, h4, h5, h6]; exact ref_dh _ _ _ _ _ _ _
    · rw [h0, h1, h2, h3, h4, h5, h6]; exact ref_dhalf _ _ _ _ _ _ _
    · rw [h0, h1, h2, h3, h4, h5, h6]; exact ref_dfinal _ _ _ _ _ _ _
    · rw [h0, h1, h2, h3, h4, h5, h6]; exact ref_loss _ _ _ _ _ _ _
    · rw [h0, h1]; exact ref_normed _ _
    · rw [h0, h1, h2]; exact ref_pgate _ _ _
    · rw [h0, h1, h3]; exact ref_pup _ _ _

end Cert.Kernel3Ideal.FwdLoss

end
-- ==== Proof.Columns.lean ====
/-
  The 7168 columns of the mixer's input projection: seven groups of 1024, and, as the devices keep the weight, four
  quarters of 1792.
-/
module

public import Idealize.ShloMosaic.Lib.Pointwise

@[expose] public section

noncomputable section

namespace Cert.Columns

/-- The group that a column belongs to. -/
def group (j : Fin 7168) : Fin 7 := ⟨j.val / 1024, by omega⟩

/-- A column's place in its group. -/
def place (j : Fin 7168) : Fin 1024 := ⟨j.val % 1024, by omega⟩

/-- The quarter of the weight that holds a column. -/
def quarter (j : Fin 7168) : Fin 4 := ⟨j.val / 1792, by omega⟩

/-- A column's place in its quarter. -/
def lane (j : Fin 7168) : Fin 1792 := ⟨j.val % 1792, by omega⟩

/-- The column at a place of a group. -/
def column (k : Fin 7) (p : Fin 1024) : Fin 7168 := ⟨k.val * 1024 + p.val, by omega⟩

theorem group_val (j : Fin 7168) : (group j).val = j.val / 1024 := rfl
theorem place_val (j : Fin 7168) : (place j).val = j.val % 1024 := rfl
theorem quarter_val (j : Fin 7168) : (quarter j).val = j.val / 1792 := rfl
theorem lane_val (j : Fin 7168) : (lane j).val = j.val % 1792 := rfl
theorem column_val (k : Fin 7) (p : Fin 1024) : (column k p).val = k.val * 1024 + p.val := rfl

/-- An entry at a group and a place in it is the entry of the column that lies there. -/
theorem at_group {α : Type*} (f : Fin 7 → Fin 1024 → α) (j : Fin 7168) {k : Fin 7} {p : Fin 1024}
    (hk : k.val = j.val / 1024) (hp : p.val = j.val % 1024) : f k p = f (group j) (place j) := by
  obtain rfl : k = group j := Fin.ext hk
  obtain rfl : p = place j := Fin.ext hp
  rfl

/-- A sum cut in two. -/
theorem cut_sum {M : Type*} [AddCommMonoid M] {a b n : ℕ} (h : a + b = n) (f : Fin n → M) :
    ∑ j, f j = (∑ p : Fin a, f ⟨p.val, by omega⟩) + ∑ p : Fin b, f ⟨a + p.val, by omega⟩ := by
  subst h
  exact Fin.sum_univ_add f

/-- A sum over the columns, cut wherever a group or a quarter ends. -/
theorem pieces {M : Type*} [AddCommMonoid M] (f : Fin 7168 → M) :
    ∑ j, f j =
      ∑ p : Fin 1024, f ⟨0 + p.val, by omega⟩
        + ∑ p : Fin 768, f ⟨1024 + p.val, by omega⟩
        + ∑ p : Fin 256, f ⟨1792 + p.val, by omega⟩
        + ∑ p : Fin 1024, f ⟨2048 + p.val, by omega⟩
        + ∑ p : Fin 512, f ⟨3072 + p.val, by omega⟩
        + ∑ p : Fin 512, f ⟨3584 + p.val, by omega⟩
        + ∑ p : Fin 1024, f ⟨4096 + p.val, by omega⟩
        + ∑ p : Fin 256, f ⟨5120 + p.val, by omega⟩
        + ∑ p : Fin 768, f ⟨5376 + p.val, by omega⟩
        + ∑ p : Fin 1024, f ⟨6144 + p.val, by omega⟩ := by
  rw [cut_sum (a := 6144) (b := 1024) (n := 7168) rfl f,
    cut_sum (a := 5376) (b := 768) (n := 6144) rfl (fun p : Fin 6144 => f ⟨p.val, by omega⟩),
    cut_sum (a := 5120) (b := 256) (n := 5376) rfl (fun p : Fin 5376 => f ⟨p.val, by omega⟩),
    cut_sum (a := 4096) (b := 1024) (n := 5120) rfl (fun p : Fin 5120 => f ⟨p.val, by omega⟩),
    cut_sum (a := 3584) (b := 512) (n := 4096) rfl (fun p : Fin 4096 => f ⟨p.val, by omega⟩),
    cut_sum (a := 3072) (b := 512) (n := 3584) rfl (fun p : Fin 3584 => f ⟨p.val, by omega⟩),
    cut_sum (a := 2048) (b := 1024) (n := 3072) rfl (fun p : Fin 3072 => f ⟨p.val, by omega⟩),
    cut_sum (a := 1792) (b := 256) (n := 2048) rfl (fun p : Fin 2048 => f ⟨p.val, by omega⟩),
    cut_sum (a := 1024) (b := 768) (n := 1792) rfl (fun p : Fin 1792 => f ⟨p.val, by omega⟩)]
  simp only [Nat.zero_add]

end Cert.Columns

end
-- ==== Proof.MixInBwd.lean ====
/-
  The mixer's input backward (the fourth program): the seven groups' cotangents through the transposed projection, whose
  weight the devices keep in four quarters, and through the norm's derivative.
-/
module

public import proofs.«01_k».proof.Defs
public import proofs.«01_k».proof.Proof.Columns
public import proofs.«01_k».proof.Proof.Norm
public import proofs.«01_k».proof.Proof.BwdInput
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.MixInBwd

open Idealize.ShloMosaic Idealize.ShloMosaic.TcCoe Idealize.SL.Sem
open Idealize.ShloMosaic.Pipeline (Dat)
open Cert.Kernel4Ideal Cert.Kernel4Ideal.Gen Cert.Columns Cert.Norm
open Cert.KernelIdeal.BwdInput (sumsq sumsq_nonneg along dx)
open Cert.KernelIdeal.BwdInput renaming inv → rootInv

variable (m : (ℓ : Loc nD τ sig) → Buf (Elt Ideal) ℓ)

/-- The normed row's cotangent: all columns' cotangents through the weight. -/
def back {n : ℕ} (z : FVec Ideal ⟨3, ![7, n, 1024]⟩ .bf16) (w : FVec Ideal S4x1024x1792 .bf16) (r : Fin n) (d : Fin 1024) : EReal :=
  ∑ j : Fin 7168, z (ix3 (group j) r (place j)) * w (ix3 (quarter j) d (lane j))

/-- Some columns of one group's cotangents. -/
def zcut (z : FVec Ideal S7x512x1024 .bf16) (k d0 n : ℕ) (inb : ∀ a, ![k, 0, d0] a + ![1, 512, n] a ≤ S7x512x1024.size a) :
    FVec Ideal ⟨3, ![1, 512, n]⟩ .bf16 :=
  View.ld (Val := Elt Ideal) (e' := .bf16) z (Rect.unit ![k, 0, d0] ![1, 512, n] inb)

/-- Some columns of one quarter of the weight. -/
def wcut (w : FVec Ideal S4x1024x1792 .bf16) (q c0 n : ℕ) (inb : ∀ a, ![q, 0, c0] a + ![1, 1024, n] a ≤ S4x1024x1792.size a) :
    FVec Ideal ⟨3, ![1, 1024, n]⟩ .bf16 :=
  View.ld (Val := Elt Ideal) (e' := .bf16) w (Rect.unit ![q, 0, c0] ![1, 1024, n] inb)

theorem zcut_at (z : FVec Ideal S7x512x1024 .bf16) (k d0 n : ℕ) (inb) (r : Fin 512) (p : Fin n) (j : Fin 7168)
    (hk : j.val / 1024 = k) (hl : j.val % 1024 = d0 + p.val) : zcut z k d0 n inb (ix3 0 r p) = z (ix3 (group j) r (place j)) := by
  refine congrArg z (funext fun a => Fin.ext ?_)
  match a with
  | ⟨0, _⟩ => exact Eq.trans (by simp [Rect.unit, LoadRect.idx, ix3]) hk.symm
  | ⟨1, _⟩ => simp [Rect.unit, LoadRect.idx, ix3]
  | ⟨2, _⟩ => exact Eq.trans (by simp [Rect.unit, LoadRect.idx, ix3]) hl.symm

theorem wcut_at (w : FVec Ideal S4x1024x1792 .bf16) (q c0 n : ℕ) (inb) (d : Fin 1024) (p : Fin n) (j : Fin 7168)
    (hq : j.val / 1792 = q) (hl : j.val % 1792 = c0 + p.val) : wcut w q c0 n inb (ix3 0 d p) = w (ix3 (quarter j) d (lane j)) := by
  refine congrArg w (funext fun a => Fin.ext ?_)
  match a with
  | ⟨0, _⟩ => exact Eq.trans (by simp [Rect.unit, LoadRect.idx, ix3]) hq.symm
  | ⟨1, _⟩ => simp [Rect.unit, LoadRect.idx, ix3]
  | ⟨2, _⟩ => exact Eq.trans (by simp [Rect.unit, LoadRect.idx, ix3]) hl.symm

/-- One piece of the sum over the columns, from column `o`. -/
theorem piece (z : FVec Ideal S7x512x1024 .bf16) (w : FVec Ideal S4x1024x1792 .bf16) (k d0 q c0 n o : ℕ) (inz) (inb)
    (r : Fin 512) (d : Fin 1024) (ho : o = k * 1024 + d0) (hq : o = q * 1792 + c0) (fz : d0 + n ≤ 1024) (fw : c0 + n ≤ 1792)
    (fo : o + n ≤ 7168) :
    ∑ p : Fin n, zcut z k d0 n inz (ix3 0 r p) * wcut w q c0 n inb (ix3 0 d p)
      = ∑ p : Fin n, (fun j : Fin 7168 => z (ix3 (group j) r (place j)) * w (ix3 (quarter j) d (lane j))) ⟨o + p.val, by omega⟩ := by
  refine Finset.sum_congr rfl fun p _ => ?_
  have := p.isLt
  exact congrArg₂ (· * ·) (zcut_at z k d0 n inz r p _ (by dsimp only; omega) (by dsimp only; omega))
    (wcut_at w q c0 n inb d p _ (by dsimp only; omega) (by dsimp only; omega))

/-- The cotangent of a block of normed rows. -/
theorem pay8 (z : FVec Ideal S7x512x1024 .bf16) (w : FVec Ideal S4x1024x1792 .bf16) :
    k0_pay8 (F := Ideal) (k0_pay5 (k0_pay4 (zcut z 0 0 1024 inb_S7x512x1024_S1x512x1024_0_0_0) (wcut w 0 0 1024 inb_S4x1024x1792_S1x1024x1024_0_0_0)
      (zcut z 1 0 768 inb_S7x512x1024_S1x512x768_1_0_0) (wcut w 0 1024 768 inb_S4x1024x1792_S1x1024x768_0_0_1024)
      (zcut z 1 768 256 inb_S7x512x1024_S1x512x256_1_0_768) (wcut w 1 0 256 inb_S4x1024x1792_S1x1024x256_1_0_0)
      (zcut z 2 0 1024 inb_S7x512x1024_S1x512x1024_2_0_0) (wcut w 1 256 1024 inb_S4x1024x1792_S1x1024x1024_1_0_256))
      (zcut z 3 0 512 inb_S7x512x1024_S1x512x512_3_0_0) (wcut w 1 1280 512 inb_S4x1024x1792_S1x1024x512_1_0_1280)
      (zcut z 3 512 512 inb_S7x512x1024_S1x512x512_3_0_512) (wcut w 2 0 512 inb_S4x1024x1792_S1x1024x512_2_0_0)
      (zcut z 4 0 1024 inb_S7x512x1024_S1x512x1024_4_0_0) (wcut w 2 512 1024 inb_S4x1024x1792_S1x1024x1024_2_0_512)
      (zcut z 5 0 256 inb_S7x512x1024_S1x512x256_5_0_0) (wcut w 2 1536 256 inb_S4x1024x1792_S1x1024x256_2_0_1536))
      (k0_pay6 (zcut z 5 256 768 inb_S7x512x1024_S1x512x768_5_0_256)) (k0_pay7 (wcut w 3 0 768 inb_S4x1024x1792_S1x1024x768_3_0_0))
      (zcut z 6 0 1024 inb_S7x512x1024_S1x512x1024_6_0_0) (wcut w 3 768 1024 inb_S4x1024x1792_S1x1024x1024_3_0_768) = fun j => back z w (j 0) (j 1) := by
  funext j
  refine Eq.trans ?_ (pieces _).symm
  rw [← piece z w 0 0 0 0 1024 0 inb_S7x512x1024_S1x512x1024_0_0_0 inb_S4x1024x1792_S1x1024x1024_0_0_0 (j 0) (j 1) rfl rfl (by decide) (by decide) (by decide),
    ← piece z w 1 0 0 1024 768 1024 inb_S7x512x1024_S1x512x768_1_0_0 inb_S4x1024x1792_S1x1024x768_0_0_1024 (j 0) (j 1) rfl rfl (by decide) (by decide) (by decide),
    ← piece z w 1 768 1 0 256 1792 inb_S7x512x1024_S1x512x256_1_0_768 inb_S4x1024x1792_S1x1024x256_1_0_0 (j 0) (j 1) rfl rfl (by decide) (by decide) (by decide),
    ← piece z w 2 0 1 256 1024 2048 inb_S7x512x1024_S1x512x1024_2_0_0 inb_S4x1024x1792_S1x1024x1024_1_0_256 (j 0) (j 1) rfl rfl (by decide) (by decide) (by decide),
    ← piece z w 3 0 1 1280 512 3072 inb_S7x512x1024_S1x512x512_3_0_0 inb_S4x1024x1792_S1x1024x512_1_0_1280 (j 0) (j 1) rfl rfl (by decide) (by decide) (by decide),
    ← piece z w 3 512 2 0 512 3584 inb_S7x512x1024_S1x512x512_3_0_512 inb_S4x1024x1792_S1x1024x512_2_0_0 (j 0) (j 1) rfl rfl (by decide) (by decide) (by decide),
    ← piece z w 4 0 2 512 1024 4096 inb_S7x512x1024_S1x512x1024_4_0_0 inb_S4x1024x1792_S1x1024x1024_2_0_512 (j 0) (j 1) rfl rfl (by decide) (by decide) (by decide),
    ← piece z w 5 0 2 1536 256 5120 inb_S7x512x1024_S1x512x256_5_0_0 inb_S4x1024x1792_S1x1024x256_2_0_1536 (j 0) (j 1) rfl rfl (by decide) (by decide) (by decide),
    ← piece z w 5 256 3 0 768 5376 inb_S7x512x1024_S1x512x768_5_0_256 inb_S4x1024x1792_S1x1024x768_3_0_0 (j 0) (j 1) rfl rfl (by decide) (by decide) (by decide),
    ← piece z w 6 0 3 768 1024 6144 inb_S7x512x1024_S1x512x1024_6_0_0 inb_S4x1024x1792_S1x1024x1024_3_0_768 (j 0) (j 1) rfl rfl (by decide) (by decide) (by decide)]
  pointwise [k0_pay8, k0_pay5, k0_pay4, k0_pay6, k0_pay7]

theorem pay9 (x : FVec Ideal S512x1024 .f32) (j : S512x1.Idx) : k0_pay9 (F := Ideal) x j = rootInv x (j 0) := by
  pointwise [k0_pay9, rootInv, sumsq]

theorem pay10 (x : FVec Ideal S512x1024 .f32) (j : S512x1024.Idx) : k0_pay10 (F := Ideal) x j = x j * rootInv x (j 0) := by
  pointwise [k0_pay10, pay9]

/-- One block of the input's gradient. -/
theorem pay12 (v49 : FVec Ideal S512x1024 .f32) (v51 : FVec Ideal S512x768 .bf16) (v53 : FVec Ideal S1024x768 .bf16)
    (v56 : FVec Ideal S1x512x1024 .bf16) (v58 : FVec Ideal S1x1024x1024 .bf16) (x : FVec Ideal S512x1024 .f32) (g : FVec Ideal S1x1024 .f32)
    (a : FVec Ideal S512x1024 .f32) (b : Fin 512 → Fin 1024 → EReal)
    (hb : k0_pay8 (F := Ideal) v49 v51 v53 v56 v58 = fun j => b (j 0) (j 1)) (j : S512x1024.Idx) :
    k0_pay12 (F := Ideal) v49 v51 v53 v56 v58 x g a j = dx a x g b (j 0) (j 1) := by
  unfold k0_pay12
  rw [hb]
  pointwise [pay9, pay10, dx, along]

/-- One block's share of the norm weight's gradient. -/
theorem pay11 (v49 : FVec Ideal S512x1024 .f32) (v51 : FVec Ideal S512x768 .bf16) (v53 : FVec Ideal S1024x768 .bf16)
    (v56 : FVec Ideal S1x512x1024 .bf16) (v58 : FVec Ideal S1x1024x1024 .bf16) (x : FVec Ideal S512x1024 .f32) (b : Fin 512 → Fin 1024 → EReal)
    (hb : k0_pay8 (F := Ideal) v49 v51 v53 v56 v58 = fun j => b (j 0) (j 1)) (acc : FVec Ideal S1x1024 .f32) (j : S1x1024.Idx) :
    k0_pay2 (F := Ideal) (k0_pay11 v49 v51 v53 v56 v58 x) acc j = acc j + ∑ r : Fin 512, b r (j 1) * (x (ix2 r (j 1)) * rootInv x r) := by
  unfold k0_pay2 k0_pay11
  rw [hb]
  pointwise [pay10]

theorem pay3 (j : S1x1024.Idx) : k0_pay3 (F := Ideal) j = 0 := by
  pointwise [k0_pay3]

/-- One half, as the programs spell it. -/
abbrev half : EReal := Ideal.ofBits .f32 0x3F000000#32

/-- Half of a block, as the next call takes it. -/
theorem pay1 (v : FVec Ideal S512x1024 .f32) (j : S512x1024.Idx) : k0_pay1 (F := Ideal) v j = half * v j := by
  pointwise [k0_pay1]

/-- Which block each window holds at a grid point. -/
theorem idx : ∀ t : Fin cfg0.N, win0_0.index t = ![t.val, 0] ∧ win0_1.index t = ![t.val, 0] ∧ win0_2.index t = ![0, 0]
    ∧ win0_3.index t = ![0, t.val, 0] ∧ win0_4.index t = ![0, 0, 0] ∧ win0_5.index t = ![t.val, 0] ∧ win0_6.index t = ![0, 0]
    ∧ win0_7.index t = ![t.val, 0] :=
  (by decide +kernel : ∀ t : Fin grid0.N, _)

/-- The input's gradient, whole. -/
def dh (a x : FVec Ideal S4096x1024 .f32) (g : FVec Ideal S1x1024 .f32) (z : FVec Ideal S7x4096x1024 .bf16)
    (w : FVec Ideal S4x1024x1792 .bf16) : FVec Ideal S4096x1024 .f32 := fun i => dx a x g (back z w) (i 0) (i 1)

/-- Half of it. -/
def dhalf (a x : FVec Ideal S4096x1024 .f32) (g : FVec Ideal S1x1024 .f32) (z : FVec Ideal S7x4096x1024 .bf16)
    (w : FVec Ideal S4x1024x1792 .bf16) : FVec Ideal S4096x1024 .bf16 := fun i => half * dh a x g z w i

/-- One row's share of the norm weight's gradient. -/
def contrib (x : FVec Ideal S4096x1024 .f32) (z : FVec Ideal S7x4096x1024 .bf16) (w : FVec Ideal S4x1024x1792 .bf16)
    (r : Fin 4096) (d : Fin 1024) : EReal := back z w r d * (x (ix2 r d) * rootInv x r)

/-- The norm weight's gradient. -/
def dnorm (x : FVec Ideal S4096x1024 .f32) (z : FVec Ideal S7x4096x1024 .bf16) (w : FVec Ideal S4x1024x1792 .bf16) :
    FVec Ideal S1x1024 .f32 := fun i => ∑ r : Fin 4096, contrib x z w r (i 1)

/-- A row of a grid point's block, among all rows. -/
def at_ (t : Fin cfg0.N) (r : Fin 512) : Fin 4096 := ⟨t.val * 512 + r.val, by have := t.isLt; have : cfg0.N = 8 := N_0; omega⟩

theorem rows0 (c : Dev nD) (t : Fin cfg0.N) (r : Fin 512) (k : Fin 1024) : iblk m c 0 t (ix2 r k) = (m ((c : Thread nD τ).loc main_arg0)) (ix2 (at_ t r) k) := by
  simp only [at_]; blk_ext [iblk, V, idx t]

theorem rows1 (c : Dev nD) (t : Fin cfg0.N) (r : Fin 512) (k : Fin 1024) : iblk m c 1 t (ix2 r k) = (m ((c : Thread nD τ).loc main_arg1)) (ix2 (at_ t r) k) := by
  simp only [at_]; blk_ext [iblk, V, idx t]

theorem blk2 (c : Dev nD) (t : Fin cfg0.N) : iblk m c 2 t = (m ((c : Thread nD τ).loc main_arg2)) := by
  funext j; blk_ext [iblk, V, idx t]

theorem rows3 (c : Dev nD) (t : Fin cfg0.N) (k : Fin 7) (r : Fin 512) (p : Fin 1024) :
    iblk m c 3 t (ix3 k r p) = (m ((c : Thread nD τ).loc main_arg3)) (ix3 k (at_ t r) p) := by
  simp only [at_]; blk_ext [iblk, V, idx t]

theorem blk4 (c : Dev nD) (t : Fin cfg0.N) : iblk m c 4 t = (m ((c : Thread nD τ).loc main_arg4)) := by
  funext j; blk_ext [iblk, V, idx t]

theorem inv_blk (c : Dev nD) (t : Fin cfg0.N) (r : Fin 512) : rootInv (n := 512) (iblk m c 1 t) r = rootInv (m ((c : Thread nD τ).loc main_arg1)) (at_ t r) := by
  have hs : sumsq (n := 512) (iblk m c 1 t) r = sumsq (m ((c : Thread nD τ).loc main_arg1)) (at_ t r) :=
    Finset.sum_congr rfl fun k _ => congrArg₂ (· * ·) (rows1 m c t r k) (rows1 m c t r k)
  unfold rootInv
  rw [hs]

theorem back_blk (c : Dev nD) (t : Fin cfg0.N) (r : Fin 512) (d : Fin 1024) :
    back (n := 512) (iblk m c 3 t) (iblk m c 4 t) r d = back (m ((c : Thread nD τ).loc main_arg3)) (m ((c : Thread nD τ).loc main_arg4)) (at_ t r) d := by
  rw [blk4]
  exact Finset.sum_congr rfl fun j _ => congrArg (· * _) (rows3 m c t _ r _)

/-- A block of the input's gradient, of the arrays the run starts from. -/
theorem body (c : Dev nD) (t : Fin cfg0.N) (j : S512x1024.Idx) :
    k0_pay12 (F := Ideal) (k0_pay5 (k0_pay4 (zcut (iblk m c 3 t) 0 0 1024 inb_S7x512x1024_S1x512x1024_0_0_0) (wcut (iblk m c 4 t) 0 0 1024 inb_S4x1024x1792_S1x1024x1024_0_0_0)
      (zcut (iblk m c 3 t) 1 0 768 inb_S7x512x1024_S1x512x768_1_0_0) (wcut (iblk m c 4 t) 0 1024 768 inb_S4x1024x1792_S1x1024x768_0_0_1024)
      (zcut (iblk m c 3 t) 1 768 256 inb_S7x512x1024_S1x512x256_1_0_768) (wcut (iblk m c 4 t) 1 0 256 inb_S4x1024x1792_S1x1024x256_1_0_0)
      (zcut (iblk m c 3 t) 2 0 1024 inb_S7x512x1024_S1x512x1024_2_0_0) (wcut (iblk m c 4 t) 1 256 1024 inb_S4x1024x1792_S1x1024x1024_1_0_256))
      (zcut (iblk m c 3 t) 3 0 512 inb_S7x512x1024_S1x512x512_3_0_0) (wcut (iblk m c 4 t) 1 1280 512 inb_S4x1024x1792_S1x1024x512_1_0_1280)
      (zcut (iblk m c 3 t) 3 512 512 inb_S7x512x1024_S1x512x512_3_0_512) (wcut (iblk m c 4 t) 2 0 512 inb_S4x1024x1792_S1x1024x512_2_0_0)
      (zcut (iblk m c 3 t) 4 0 1024 inb_S7x512x1024_S1x512x1024_4_0_0) (wcut (iblk m c 4 t) 2 512 1024 inb_S4x1024x1792_S1x1024x1024_2_0_512)
      (zcut (iblk m c 3 t) 5 0 256 inb_S7x512x1024_S1x512x256_5_0_0) (wcut (iblk m c 4 t) 2 1536 256 inb_S4x1024x1792_S1x1024x256_2_0_1536))
      (k0_pay6 (zcut (iblk m c 3 t) 5 256 768 inb_S7x512x1024_S1x512x768_5_0_256)) (k0_pay7 (wcut (iblk m c 4 t) 3 0 768 inb_S4x1024x1792_S1x1024x768_3_0_0))
      (zcut (iblk m c 3 t) 6 0 1024 inb_S7x512x1024_S1x512x1024_6_0_0) (wcut (iblk m c 4 t) 3 768 1024 inb_S4x1024x1792_S1x1024x1024_3_0_768)
        (iblk m c 1 t) (iblk m c 2 t) (iblk m c 0 t) j
      = dh (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t (j 0)) (j 1)) := by
  refine (pay12 _ _ _ _ _ (iblk m c 1 t) (iblk m c 2 t) (iblk m c 0 t) _ (pay8 (iblk m c 3 t) (iblk m c 4 t)) j).trans ?_
  have ha : along (n := 512) (iblk m c 1 t) (iblk m c 2 t) (back (n := 512) (iblk m c 3 t) (iblk m c 4 t)) (j 0)
      = along (m ((c : Thread nD τ).loc main_arg1)) (m ((c : Thread nD τ).loc main_arg2)) (back (m ((c : Thread nD τ).loc main_arg3)) (m ((c : Thread nD τ).loc main_arg4))) (at_ t (j 0)) := by
    rw [blk2]
    exact Finset.sum_congr rfl fun k _ => congrArg₂ (· * ·) (rows1 m c t _ k) (congrArg (· * _) (back_blk m c t _ k))
  have hx := rows1 m c t (j 0) (j 1)
  have h0 := rows0 m c t (j 0) (j 1)
  have hb := back_blk m c t (j 0) (j 1)
  have hi := inv_blk m c t (j 0)
  rw [blk2] at ha ⊢
  unfold dh dx
  exact congrArg₂ (· + ·) h0 (congrArg₂ (· - ·) (congrArg₂ (· * ·) hi (congrArg (· * _) hb))
    (congrArg₂ (· * ·) (congrArg₂ (· * ·) (congrArg₂ (· * ·) hx hi) (congrArg₂ (· * ·) hi hi))
      (congrArg (fun s => Ideal.div s width) ha)))

/-- The first result array after the run. -/
theorem final5 (c : Dev nD) : (dats m 0 c).arrAt 5 (cfgs 0).N
    = dh (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (congrArg (dh (m ((c : Thread nD τ).loc main_arg0)) (m ((c : Thread nD τ).loc main_arg1)) (m ((c : Thread nD τ).loc main_arg2)) (m ((c : Thread nD τ).loc main_arg3)) (m ((c : Thread nD τ).loc main_arg4))) (?_ : ix2 (at_ t (y 0)) (y 1) = _))
  · by_cases h : t.val % 8 = 0
    · rw [outsAt0_A m c t h]; frame_out
      exact body m c t y
    · rw [outsAt0_B m c t h]; frame_out
      exact body m c t y
  · simp only [at_]; blk_ext [idx t]

/-- The third result array after the run. -/
theorem final7 (c : Dev nD) : (dats m 0 c).arrAt 7 (cfgs 0).N
    = dhalf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  refine Eq.trans ?_ (congrArg (dhalf (m ((c : Thread nD τ).loc main_arg0)) (m ((c : Thread nD τ).loc main_arg1)) (m ((c : Thread nD τ).loc main_arg2)) (m ((c : Thread nD τ).loc main_arg3)) (m ((c : Thread nD τ).loc main_arg4))) (?_ : ix2 (at_ t (y 0)) (y 1) = _))
  · by_cases h : t.val % 8 = 0
    · rw [outsAt0_A m c t h]; frame_out
      exact (pay1 _ y).trans (congrArg (half * ·) (body m c t y))
    · rw [outsAt0_B m c t h]; frame_out
      exact (pay1 _ y).trans (congrArg (half * ·) (body m c t y))
  · simp only [at_]; blk_ext [idx t]

/-- The block's share of the norm weight's gradient, of the arrays the run starts from. -/
theorem share (c : Dev nD) (t : Fin cfg0.N) (acc : FVec Ideal S1x1024 .f32) (j : S1x1024.Idx) :
    k0_pay2 (F := Ideal) (k0_pay11 (k0_pay5 (k0_pay4 (zcut (iblk m c 3 t) 0 0 1024 inb_S7x512x1024_S1x512x1024_0_0_0) (wcut (iblk m c 4 t) 0 0 1024 inb_S4x1024x1792_S1x1024x1024_0_0_0)
      (zcut (iblk m c 3 t) 1 0 768 inb_S7x512x1024_S1x512x768_1_0_0) (wcut (iblk m c 4 t) 0 1024 768 inb_S4x1024x1792_S1x1024x768_0_0_1024)
      (zcut (iblk m c 3 t) 1 768 256 inb_S7x512x1024_S1x512x256_1_0_768) (wcut (iblk m c 4 t) 1 0 256 inb_S4x1024x1792_S1x1024x256_1_0_0)
      (zcut (iblk m c 3 t) 2 0 1024 inb_S7x512x1024_S1x512x1024_2_0_0) (wcut (iblk m c 4 t) 1 256 1024 inb_S4x1024x1792_S1x1024x1024_1_0_256))
      (zcut (iblk m c 3 t) 3 0 512 inb_S7x512x1024_S1x512x512_3_0_0) (wcut (iblk m c 4 t) 1 1280 512 inb_S4x1024x1792_S1x1024x512_1_0_1280)
      (zcut (iblk m c 3 t) 3 512 512 inb_S7x512x1024_S1x512x512_3_0_512) (wcut (iblk m c 4 t) 2 0 512 inb_S4x1024x1792_S1x1024x512_2_0_0)
      (zcut (iblk m c 3 t) 4 0 1024 inb_S7x512x1024_S1x512x1024_4_0_0) (wcut (iblk m c 4 t) 2 512 1024 inb_S4x1024x1792_S1x1024x1024_2_0_512)
      (zcut (iblk m c 3 t) 5 0 256 inb_S7x512x1024_S1x512x256_5_0_0) (wcut (iblk m c 4 t) 2 1536 256 inb_S4x1024x1792_S1x1024x256_2_0_1536))
      (k0_pay6 (zcut (iblk m c 3 t) 5 256 768 inb_S7x512x1024_S1x512x768_5_0_256)) (k0_pay7 (wcut (iblk m c 4 t) 3 0 768 inb_S4x1024x1792_S1x1024x768_3_0_0))
      (zcut (iblk m c 3 t) 6 0 1024 inb_S7x512x1024_S1x512x1024_6_0_0) (wcut (iblk m c 4 t) 3 768 1024 inb_S4x1024x1792_S1x1024x1024_3_0_768)
        (iblk m c 1 t)) acc j
      = acc j + ∑ r : Fin 512, contrib (m ((c : Thread nD τ).loc main_arg1)) (m ((c : Thread nD τ).loc main_arg3)) (m ((c : Thread nD τ).loc main_arg4)) (at_ t r) (j 1) := by
  refine (pay11 _ _ _ _ _ (iblk m c 1 t) _ (pay8 (iblk m c 3 t) (iblk m c 4 t)) acc j).trans ?_
  exact congrArg (acc j + ·) (Finset.sum_congr rfl fun r _ => congrArg₂ (· * ·) (back_blk m c t r (j 1))
    (congrArg₂ (· * ·) (rows1 m c t r (j 1)) (inv_blk m c t r)))

/-- The second result array after the run. -/
theorem final6 (c : Dev nD) : (dats m 0 c).arrAt 6 (cfgs 0).N
    = dnorm (m ((c : Thread nD τ).loc main_arg1)) (m ((c : Thread nD τ).loc main_arg3)) (m ((c : Thread nD τ).loc main_arg4)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t => fun j => ∑ r : Fin 512, contrib (m ((c : Thread nD τ).loc main_arg1)) (m ((c : Thread nD τ).loc main_arg3)) (m ((c : Thread nD τ).loc main_arg4)) (at_ t r) (j 1))
    (fun t h j => by
      rw [outsAt0_A m c t h]; frame_out
      exact (share m c t (k0_pay3 (F := Ideal)) j).trans (by rw [pay3]))
    (fun t h j => by
      rw [outsAt0_B m c t h]; frame_out
      exact share m c t _ j)
    (le_of_eq N_0) t0_7 rfl j, zero_add]
  exact Fin.sum_mul_add_congr fun s k hl => rfl

section Reference

open Cert.Reference4Ideal.Read

/-- The seven groups' cotangents side by side, read at a row and a column. -/
theorem beside (z : FVec Ideal S7x4096x1024 .bf16) (s : Fin 4096) (j : Fin 7168) :
    val_main_v47 (F := Ideal) z (ix2 s j) = z (ix3 (group j) s (place j)) := by
  have here : ∀ (k : Fin 7) (p : Fin 1024), k.val = j.val / 1024 → p.val = j.val % 1024 →
      z (ix3 k s p) = z (ix3 (group j) s (place j)) := fun k p => at_group (fun k p => z (ix3 k s p)) j
  pointwise [val_main_v47, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  split_ifs <;> refine here _ _ ?_ ?_ <;> first | omega | (dsimp only; omega) | (simp only []; omega)

/-- The weight as the reference lays it out, read at a row and a column. -/
theorem weight (w : FVec Ideal S4x1024x1792 .bf16) (d : Fin 1024) (j : Fin 7168) :
    val_main_v23 (F := Ideal) w (ix2 d j) = w (ix3 (quarter j) d (lane j)) := by
  pointwise [val_main_v23, val_main_v22, val_main_v21]
  rfl

/-- The normed row's cotangent in the reference. -/
theorem ref_back (z : FVec Ideal S7x4096x1024 .bf16) (w : FVec Ideal S4x1024x1792 .bf16) :
    val_main_v48 (F := Ideal) z w = fun i => back z w (i 0) (i 1) := by
  funext i
  pointwise [val_main_v48]
  exact Finset.sum_congr rfl fun j _ => congrArg₂ (· * ·) (beside z _ j) (weight w _ j)

theorem ref_dh (a x : FVec Ideal S4096x1024 .f32) (g : FVec Ideal S1x1024 .f32) (z : FVec Ideal S7x4096x1024 .bf16)
    (w : FVec Ideal S4x1024x1792 .bf16) : val_main_v68 (F := Ideal) a x g z w = dh a x g z w := by
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v34 val_main_v33 val_main_v32 val_main_v31 val_main_v30 val_main_v29 val_main_v28 val_main_v27 val_main_v26 val_main_v25 val_main_v24 val_main_cst val_main_cst_0 val_main_cst_1 val_main_cst_2 val_main_cst_4 val_main_cst_5 val_main_cst_6
  rw [ref_back]
  funext i
  refine Eq.trans ?_ ((Norm.back (sumsq_nonneg x (i 0)) (along x g (back z w) (i 0)) (a i)
    (back z w (i 0) (i 1) * g (ix2 0 (i 1))) (x i)).symm.trans ?_)
  case refine_2 => pointwise [dh, dx, rootInv]
  generalize back z w = b
  pointwise [sumsq, along]
  simp only [Fin.sum_univ_one, Finset.univ_unique, Finset.sum_singleton]
  rw [mul_comm _ (x i)]

theorem ref_half (a x : FVec Ideal S4096x1024 .f32) (g : FVec Ideal S1x1024 .f32) (z : FVec Ideal S7x4096x1024 .bf16)
    (w : FVec Ideal S4x1024x1792 .bf16) : val_main_v71 (F := Ideal) a x g z w = dhalf a x g z w := by
  unfold val_main_v71 val_main_v70 val_main_v69 val_main_cst_7
  rw [ref_dh]
  funext i
  pointwise [dhalf]

theorem ref_dnorm (x : FVec Ideal S4096x1024 .f32) (z : FVec Ideal S7x4096x1024 .bf16) (w : FVec Ideal S4x1024x1792 .bf16) :
    val_main_v51 (F := Ideal) x z w = dnorm x z w := by
  unfold val_main_v51 val_main_v50 val_main_v49
  rw [ref_back]
  funext i
  pointwise [val_main_v36, val_main_v35, val_main_v31, val_main_v30, val_main_v29, val_main_v28, val_main_v27, val_main_v26, val_main_v25, val_main_v24, val_main_cst, val_main_cst_0, val_main_cst_1, val_main_cst_3, dnorm, contrib, rootInv, sumsq]
  exact Finset.sum_congr rfl fun k _ => mul_comm _ _

end Reference

/-- The fourth program's value claim. -/
theorem algebraic : Cert.algebraic_Kernel4Ideal_Reference4Ideal := by
  intro m g m' g' _ hagree
  refine ⟨fun c => dh (m ((c : Thread nD τ).loc main_arg0)) (m ((c : Thread nD τ).loc main_arg1)) (m ((c : Thread nD τ).loc main_arg2)) (m ((c : Thread nD τ).loc main_arg3)) (m ((c : Thread nD τ).loc main_arg4)),
    fun c => dnorm (m ((c : Thread nD τ).loc main_arg1)) (m ((c : Thread nD τ).loc main_arg3)) (m ((c : Thread nD τ).loc main_arg4)),
    fun c => dhalf (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · run_from Cert.Kernel4Ideal.Gen.run_main m g
    · exact final5 m c
    · exact final6 m c
    · exact final7 m c
  · refine θ_run_mono (Cert.Reference4Ideal.Value.run m' g') fun r h c => ?_
    obtain ⟨h0, h1, h2, h3, h4⟩ := hagree c
    refine ⟨(h c).1.trans ((Cert.Reference4Ideal.Read.val_main_v68_eq m' c).trans ?_),
      (h c).2.1.trans ((Cert.Reference4Ideal.Read.val_main_v51_eq _ _ _).trans ?_),
      (h c).2.2.1.trans ((Cert.Reference4Ideal.Read.val_main_v71_eq m' c).trans ?_), (h c).2.2.2⟩
    · rw [h0, h1, h2, h3, h4]; exact ref_dh _ _ _ _ _
    · rw [h1, h3, h4]; exact ref_dnorm _ _ _
    · rw [h0, h1, h2, h3, h4]; exact ref_half _ _ _ _ _

end Cert.Kernel4Ideal.MixInBwd

end
-- ==== Proof.WinGrad.lean ====
/-
  The gradient of the mixer's input projection (the fifth program): group of columns by group of columns, the product of
  the transposed normed input with that group's cotangent.
-/
module

public import proofs.«01_k».proof.Defs
public import proofs.«01_k».proof.Proof.Columns
public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.WinGrad

open Idealize.ShloMosaic Idealize.ShloMosaic.TcCoe Idealize.SL.Sem
open Idealize.ShloMosaic.Pipeline (Dat)
open Cert.Kernel5Ideal Cert.Kernel5Ideal.Gen Cert.Columns

variable (m : (ℓ : Loc nD τ sig) → Buf (Elt Ideal) ℓ)

/-- The gradient: column `j` belongs to group `j / 1024`, at that group's column `j % 1024`. -/
def grad (u : FVec Ideal S4096x1024 .bf16) (dz : FVec Ideal S7x4096x1024 .bf16) : FVec Ideal S1024x7168 .f32 :=
  fun i => ∑ s : Fin 4096, u (ix2 s (i 0)) * dz (ix3 (group (i 1)) s (place (i 1)))

/-- Which block each window holds at a grid point. -/
theorem idx : ∀ t : Fin cfg0.N, win0_0.index t = ![0, 0] ∧ win0_1.index t = ![t.val, 0, 0] ∧ win0_2.index t = ![0, t.val] :=
  (by decide +kernel : ∀ t : Fin grid0.N, _)

/-- The product of one group, read at an index. -/
theorem pay (x : FVec Ideal S4096x1024 .bf16) (y : FVec Ideal S1x4096x1024 .bf16) (j : S1024x1024.Idx) :
    k0_pay1 (F := Ideal) x y j = ∑ s : Fin 4096, x (ix2 s (j 0)) * y (ix3 0 s (j 1)) := by
  pointwise [k0_pay1]

/-- The result array after the run. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  refine (pay _ _ _).trans ?_
  have hj : (((View.whole main_v0).slice (win0_2.rect t)).emb y 1).val = t.val * 1024 + (y 1).val := by
    blk_point [idx t]
  simp only [grad]
  blk_point [iblk, V, idx t]
  case «0» => refine Eq.trans ?_ (group_val _).symm; rw [hj]; omega
  case «2» => refine Eq.trans ?_ (place_val _).symm; rw [hj]; omega

section Reference

open Cert.Reference5Ideal.Read

/-- The seven groups' cotangents side by side, read at a row and a column. -/
theorem beside (dz : FVec Ideal S7x4096x1024 .bf16) (s : Fin 4096) (j : Fin 7168) :
    val_main_v31 (F := Ideal) dz (ix2 s j) = dz (ix3 (group j) s (place j)) := by
  have here : ∀ (k : Fin 7) (p : Fin 1024), k.val = j.val / 1024 → p.val = j.val % 1024 →
      dz (ix3 k s p) = dz (ix3 (group j) s (place j)) := fun k p => at_group (fun k p => dz (ix3 k s p)) j
  pointwise [val_main_v31, val_main_v3, val_main_v2, val_main_v1, val_main_v6, val_main_v5, val_main_v4, val_main_v9,
    val_main_v8, val_main_v7, val_main_v12, val_main_v11, val_main_v10, val_main_v15, val_main_v14, val_main_v13,
    val_main_v18, val_main_v17, val_main_v16, val_main_v21, val_main_v20, val_main_v19]
  split_ifs <;> refine here _ _ ?_ ?_ <;> first | omega | (dsimp only; omega) | (simp only []; omega)

/-- The reference's value. -/
theorem ref (u : FVec Ideal S4096x1024 .bf16) (dz : FVec Ideal S7x4096x1024 .bf16) :
    val_main_v33 (F := Ideal) u dz = grad u dz := by
  funext i
  simp only [grad]
  pointwise [val_main_v33, val_main_v32, val_main_v22]
  refine Finset.sum_congr rfl fun s _ => ?_
  rw [mul_comm]
  exact congrArg (_ * ·) (beside dz s _)

end Reference

/-- The fifth program's value claim. -/
theorem algebraic : Cert.algebraic_Kernel5Ideal_Reference5Ideal := by
  pair_intro
  · run_from Cert.Kernel5Ideal.Gen.run_main m g
  · run_from Cert.Reference5Ideal.Value.run m' g'
    rw [final m c]
    exact (Cert.Reference5Ideal.Read.val_main_v33_eq _ _).trans (ref _ _)

end Cert.Kernel5Ideal.WinGrad

end
-- ==== Proof.MixerWgrads.lean ====
/-
  The gradients of the three square weights of the mixers (the sixth program): each is the product of the transposed
  activation with the incoming cotangent, gathered over eight blocks of rows.
-/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.MixerWgrads

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- A weight's gradient. -/
def grad (x y : FVec Ideal S4096x1024 .bf16) : FVec Ideal S1024x1024 .f32 :=
  fun i => ∑ s : Fin 4096, x (ix2 s (i 0)) * y (ix2 s (i 1))

/-- Which block each window holds at a grid point: 512 rows of the inputs, the gradients whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] :=
  (by decide +kernel : ∀ t : Fin grid0.N, _)

theorem pay1 (j : S1024x1024.Idx) : k0_pay1 (F := Ideal) j = 0 := by
  pointwise [k0_pay1]

/-- One block's share of the first gradient. -/
theorem pay4 (acc : FVec Ideal S1024x1024 .f32) (x y : FVec Ideal S512x1024 .bf16) (j : S1024x1024.Idx) :
    k0_pay4 (F := Ideal) acc x y j = acc j + ∑ r : Fin 512, x (ix2 r (j 0)) * y (ix2 r (j 1)) := by
  pointwise [k0_pay4]

theorem pay2 (j : S1024x1024.Idx) : k0_pay2 (F := Ideal) j = 0 := by
  pointwise [k0_pay2]

/-- One block's share of the second gradient. -/
theorem pay5 (acc : FVec Ideal S1024x1024 .f32) (x y : FVec Ideal S512x1024 .bf16) (j : S1024x1024.Idx) :
    k0_pay5 (F := Ideal) acc x y j = acc j + ∑ r : Fin 512, x (ix2 r (j 0)) * y (ix2 r (j 1)) := by
  pointwise [k0_pay5]

theorem pay3 (j : S1024x1024.Idx) : k0_pay3 (F := Ideal) j = 0 := by
  pointwise [k0_pay3]

/-- One block's share of the third gradient. -/
theorem pay6 (acc : FVec Ideal S1024x1024 .f32) (x y : FVec Ideal S512x1024 .bf16) (j : S1024x1024.Idx) :
    k0_pay6 (F := Ideal) acc x y j = acc j + ∑ r : Fin 512, x (ix2 r (j 0)) * y (ix2 r (j 1)) := by
  pointwise [k0_pay6]

/-- The first result array after the run. -/
theorem final6 (c : Dev nD) : (dats m 0 c).arrAt 6 (cfgs 0).N
    = grad (m ((c : Thread nD τ).loc main_arg0)) (m ((c : Thread nD τ).loc main_arg1)) := by
  refine (dats m 0 c).arrAt_eq_of_after_last 6 t0_7 (by decide +kernel) _ fun j => ?_
  blk_simp
  rw [after0_6, Pipeline.eq_sum_fin_of_reset_step_apply_last (fun n h => (outsAt0 m c n h).1) 8 (fun _ => 0) _
    (fun t h j => by rw [outsAt0_A m c t h]; frame_out; rw [pay4, pay1])
    (fun t h j => by rw [outsAt0_B m c t h]; frame_out; rw [pay4])
    (le_of_eq N_0) t0_7 rfl j, zero_add]
  simp only [grad]
  refine Fin.sum_mul_add_congr fun s k hl => ?_
  blk_point [iblk, V, idx s]

/-- The second result array after the run. -/
theorem final7 (c : Dev nD) : (dats m 0 c).arrAt 7 (cfgs 0).N
    = grad (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => 0) _
    (fun t h j => by rw [outsAt0_A m c t h]; frame_out; rw [pay5, pay2])
    (fun t h j => by rw [outsAt0_B m c t h]; frame_out; rw [pay5])
    (le_of_eq N_0) t0_7 rfl j, zero_add]
  simp only [grad]
  refine Fin.sum_mul_add_congr fun s k hl => ?_
  blk_point [iblk, V, idx s]

/-- The third result array after the run. -/
theorem final8 (c : Dev nD) : (dats m 0 c).arrAt 8 (cfgs 0).N
    = grad (m ((c : Thread nD τ).loc main_arg4)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0) _
    (fun t h j => by rw [outsAt0_A m c t h]; frame_out; rw [pay6, pay3])
    (fun t h j => by rw [outsAt0_B m c t h]; frame_out; rw [pay6])
    (le_of_eq N_0) t0_7 rfl j, zero_add]
  simp only [grad]
  refine Fin.sum_mul_add_congr fun s k hl => ?_
  blk_point [iblk, V, idx s]

section Reference

open Cert.Reference6Ideal.Read

/-- The reference's first gradient. -/
theorem ref15 (x y : FVec Ideal S4096x1024 .bf16) : val_main_v15 (F := Ideal) x y = grad x y := by
  funext i
  pointwise [val_main_v15, val_main_v14, val_main_v4, val_main_v1, grad]
  exact Finset.sum_congr rfl fun s _ => mul_comm _ _

/-- The reference's second gradient. -/
theorem ref13 (x y : FVec Ideal S4096x1024 .bf16) : val_main_v13 (F := Ideal) x y = grad x y := by
  funext i
  pointwise [val_main_v13, val_main_v12, val_main_v5, val_main_v2, grad]
  exact Finset.sum_congr rfl fun s _ => mul_comm _ _

/-- The reference's third gradient. -/
theorem ref11 (x y : FVec Ideal S4096x1024 .bf16) : val_main_v11 (F := Ideal) x y = grad x y := by
  funext i
  pointwise [val_main_v11, val_main_v10, val_main_v6, val_main_v3, grad]
  exact Finset.sum_congr rfl fun s _ => mul_comm _ _

end Reference

/-- The sixth program's value claim. -/
theorem algebraic : Cert.algebraic_Kernel6Ideal_Reference6Ideal := by
  intro m g m' g' _ hagree
  refine ⟨fun c => grad (m ((c : Thread nD τ).loc main_arg0)) (m ((c : Thread nD τ).loc main_arg1)),
    fun c => grad (m ((c : Thread nD τ).loc main_arg2)) (m ((c : Thread nD τ).loc main_arg3)),
    fun c => grad (m ((c : Thread nD τ).loc main_arg4)) (m ((c : Thread nD τ).loc main_arg5)), ?_, ?_⟩
  · run_from Cert.Kernel6Ideal.Gen.run_main m g
    · exact final6 m c
    · exact final7 m c
    · exact final8 m c
  · refine θ_run_mono (Cert.Reference6Ideal.Value.run m' g') fun r h c => ?_
    obtain ⟨h0, h1, h2, h3, h4, h5⟩ := hagree c
    refine ⟨(h c).1.trans ((Cert.Reference6Ideal.Read.val_main_v15_eq _ _).trans ?_),
      (h c).2.1.trans ((Cert.Reference6Ideal.Read.val_main_v13_eq _ _).trans ?_),
      (h c).2.2.1.trans ((Cert.Reference6Ideal.Read.val_main_v11_eq _ _).trans ?_), (h c).2.2.2⟩
    · rw [h0, h1]; exact ref15 _ _
    · rw [h2, h3]; exact ref13 _ _
    · rw [h4, h5]; exact ref11 _ _

end Cert.Kernel6Ideal.MixerWgrads

end
-- ==== Proof.MixIn.lean ====
/-
  The mixer's input projection forward (the seventh program): the normed row, and for each of the seven groups of columns
  its product with the weight, which the devices keep in four quarters.
-/
module

public import proofs.«01_k».proof.Defs
public import proofs.«01_k».proof.Proof.Columns
public import proofs.«01_k».proof.Proof.Norm
public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.MixIn

open Idealize.ShloMosaic Idealize.ShloMosaic.TcCoe Idealize.SL.Sem
open Idealize.ShloMosaic.Pipeline (Dat)
open Cert.Kernel7Ideal Cert.Kernel7Ideal.Gen Cert.Columns Cert.Norm

variable (m : (ℓ : Loc nD τ sig) → Buf (Elt Ideal) ℓ)

/-- The sum of squares of a row. -/
def sumsq {n : ℕ} (x : FVec Ideal ⟨2, ![n, 1024]⟩ .f32) (r : Fin n) : EReal := ∑ k : Fin 1024, x (ix2 r k) * x (ix2 r k)

/-- The inverse root of a row's mean square. -/
def inv {n : ℕ} (x : FVec Ideal ⟨2, ![n, 1024]⟩ .f32) (r : Fin n) : EReal := Ideal.rsqrt (Ideal.div (sumsq x r) width + small)

/-- An entry of the normed row. -/
def norm {n : ℕ} (x : FVec Ideal ⟨2, ![n, 1024]⟩ .f32) (g : FVec Ideal S1x1024 .f32) (r : Fin n) (d : Fin 1024) : EReal :=
  x (ix2 r d) * inv x r * g (ix2 0 d)

/-- The normed input, whole. -/
def normed (x : FVec Ideal S4096x1024 .f32) (g : FVec Ideal S1x1024 .f32) : FVec Ideal S4096x1024 .bf16 :=
  fun i => norm x g (i 0) (i 1)

/-- A row of the projection at a column. -/
def at_column {n : ℕ} (x : FVec Ideal ⟨2, ![n, 1024]⟩ .f32) (g : FVec Ideal S1x1024 .f32) (w : FVec Ideal S4x1024x1792 .bf16)
    (r : Fin n) (j : Fin 7168) : EReal := ∑ d : Fin 1024, norm x g r d * w (ix3 (quarter j) d (lane j))

/-- The seven groups of the projection, whole. -/
def projected (x : FVec Ideal S4096x1024 .f32) (g : FVec Ideal S1x1024 .f32) (w : FVec Ideal S4x1024x1792 .bf16) :
    FVec Ideal S7x4096x1024 .bf16 := fun i => at_column x g w (i 1) (column (i 0) (i 2))

/-- Which block each window holds at a grid point. -/
theorem idx : ∀ t : Fin cfg0.N, win0_0.index t = ![t.val, 0] ∧ win0_1.index t = ![0, 0] ∧ win0_2.index t = ![0, 0, 0]
    ∧ win0_3.index t = ![t.val, 0] ∧ win0_4.index t = ![0, t.val, 0] :=
  (by decide +kernel : ∀ t : Fin grid0.N, _)

theorem pay5 (x : FVec Ideal S512x1024 .f32) (g : FVec Ideal S1x1024 .f32) (j : S512x1024.Idx) :
    k0_pay5 (F := Ideal) x g j = norm x g (j 0) (j 1) := by
  pointwise [k0_pay5, norm, inv, sumsq]

theorem pay6 (x : FVec Ideal S512x1024 .f32) (g : FVec Ideal S1x1024 .f32) (w : FVec Ideal S1x1024x1024 .bf16)
    (j : S1x512x1024.Idx) :
    k0_pay6 (F := Ideal) x g w j = ∑ d : Fin 1024, norm x g (j 1) d * w (ix3 0 d (j 2)) := by
  pointwise [k0_pay6, pay5]

theorem pay7 (x : FVec Ideal S512x1024 .f32) (g : FVec Ideal S1x1024 .f32) (w : FVec Ideal S1x1024x768 .bf16)
    (j : S1x512x768.Idx) :
    k0_pay7 (F := Ideal) x g w j = ∑ d : Fin 1024, norm x g (j 1) d * w (ix3 0 d (j 2)) := by
  pointwise [k0_pay7, pay5]

theorem pay8 (x : FVec Ideal S512x1024 .f32) (g : FVec Ideal S1x1024 .f32) (w : FVec Ideal S1x1024x256 .bf16)
    (j : S1x512x256.Idx) :
    k0_pay8 (F := Ideal) (k0_pay5 x g) w j = ∑ d : Fin 1024, norm x g (j 1) d * w (ix3 0 d (j 2)) := by
  pointwise [k0_pay8, pay5]

theorem pay9 (x : FVec Ideal S512x1024 .f32) (g : FVec Ideal S1x1024 .f32) (w : FVec Ideal S1x1024x1024 .bf16)
    (j : S1x512x1024.Idx) :
    k0_pay9 (F := Ideal) (k0_pay5 x g) w j = ∑ d : Fin 1024, norm x g (j 1) d * w (ix3 0 d (j 2)) := by
  pointwise [k0_pay9, pay5]

theorem pay10 (x : FVec Ideal S512x1024 .f32) (g : FVec Ideal S1x1024 .f32) (w : FVec Ideal S1x1024x512 .bf16)
    (j : S1x512x512.Idx) :
    k0_pay10 (F := Ideal) (k0_pay5 x g) w j = ∑ d : Fin 1024, norm x g (j 1) d * w (ix3 0 d (j 2)) := by
  pointwise [k0_pay10, pay5]

theorem pay11 (x : FVec Ideal S512x1024 .f32) (g : FVec Ideal S1x1024 .f32) (w : FVec Ideal S1x1024x512 .bf16)
    (j : S1x512x512.Idx) :
    k0_pay11 (F := Ideal) (k0_pay5 x g) w j = ∑ d : Fin 1024, norm x g (j 1) d * w (ix3 0 d (j 2)) := by
  pointwise [k0_pay11, pay5]

theorem pay1 (x : FVec Ideal S512x1024 .f32) (g : FVec Ideal S1x1024 .f32) (w : FVec Ideal S1x1024x1024 .bf16)
    (j : S1x512x1024.Idx) :
    k0_pay1 (F := Ideal) (k0_pay5 x g) w j = ∑ d : Fin 1024, norm x g (j 1) d * w (ix3 0 d (j 2)) := by
  pointwise [k0_pay1, pay5]

theorem pay2 (x : FVec Ideal S512x1024 .f32) (g : FVec Ideal S1x1024 .f32) (w : FVec Ideal S1x1024x256 .bf16)
    (j : S1x512x256.Idx) :
    k0_pay2 (F := Ideal) (k0_pay5 x g) w j = ∑ d : Fin 1024, norm x g (j 1) d * w (ix3 0 d (j 2)) := by
  pointwise [k0_pay2, pay5]

theorem pay3 (x : FVec Ideal S512x1024 .f32) (g : FVec Ideal S1x1024 .f32) (w : FVec Ideal S1x1024x768 .bf16)
    (j : S1x512x768.Idx) :
    k0_pay3 (F := Ideal) (k0_pay5 x g) w j = ∑ d : Fin 1024, norm x g (j 1) d * w (ix3 0 d (j 2)) := by
  pointwise [k0_pay3, pay5]

theorem pay4 (x : FVec Ideal S512x1024 .f32) (g : FVec Ideal S1x1024 .f32) (w : FVec Ideal S1x1024x1024 .bf16)
    (j : S1x512x1024.Idx) :
    k0_pay4 (F := Ideal) (k0_pay5 x g) w j = ∑ d : Fin 1024, norm x g (j 1) d * w (ix3 0 d (j 2)) := by
  pointwise [k0_pay4, pay5]

/-- The normed input after the run. -/
theorem final3 (c : Dev nD) : (dats m 0 c).arrAt 3 (cfgs 0).N = normed (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  refine (pay5 _ _ _).trans ?_
  pointwise [normed, norm, inv, sumsq]
  blk_point [iblk, V, idx t]

/-- A row of a grid point's block, among all rows. -/
def at_ (t : Fin cfg0.N) (r : Fin 512) : Fin 4096 := ⟨t.val * 512 + r.val, by have := t.isLt; have : cfg0.N = 8 := N_0; omega⟩

theorem w_blk (c : Dev nD) (t : Fin cfg0.N) : iblk m c 2 t = (m ((c : Thread nD τ).loc main_arg2)) := by
  funext j; blk_ext [iblk, V, idx t]

theorem norm_blk (c : Dev nD) (t : Fin cfg0.N) (r : Fin 512) (d : Fin 1024) :
    norm (n := 512) (iblk m c 0 t) (iblk m c 1 t) r d = norm (m ((c : Thread nD τ).loc main_arg0)) (m ((c : Thread nD τ).loc main_arg1)) (at_ t r) d := by
  have hx : ∀ k : Fin 1024, iblk m c 0 t (ix2 r k) = (m ((c : Thread nD τ).loc main_arg0)) (ix2 (at_ t r) k) := fun k => by
    simp only [at_]; blk_ext [iblk, V, idx t]
  have hg : ∀ k : Fin 1024, iblk m c 1 t (ix2 0 k) = (m ((c : Thread nD τ).loc main_arg1)) (ix2 0 k) := fun k => by
    blk_ext [iblk, V, idx t]
  have hs : sumsq (n := 512) (iblk m c 0 t) r = sumsq (m ((c : Thread nD τ).loc main_arg0)) (at_ t r) :=
    Finset.sum_congr rfl fun k _ => congrArg₂ (· * ·) (hx k) (hx k)
  unfold norm inv
  rw [hs]
  exact congrArg₂ (· * ·) (congrArg (· * _) (hx d)) (hg d)

/-- Some columns of one quarter of the weight. -/
def cut (w : FVec Ideal S4x1024x1792 .bf16) (q c0 n : ℕ) (inb : ∀ a, ![q, 0, c0] a + ![1, 1024, n] a ≤ S4x1024x1792.size a) : FVec Ideal ⟨3, ![1, 1024, n]⟩ .bf16 :=
  View.ld (Val := Elt Ideal) (e' := .bf16) w (Rect.unit ![q, 0, c0] ![1, 1024, n] inb)

theorem cut_at (w : FVec Ideal S4x1024x1792 .bf16) (q c0 n : ℕ) (inb : ∀ a, ![q, 0, c0] a + ![1, 1024, n] a ≤ S4x1024x1792.size a) (d : Fin 1024) (p : Fin n) (j : Fin 7168)
    (hq : j.val / 1792 = q) (hl : j.val % 1792 = c0 + p.val) : cut w q c0 n inb (ix3 0 d p) = w (ix3 (quarter j) d (lane j)) := by
  refine congrArg w (funext fun a => Fin.ext ?_)
  match a with
  | ⟨0, _⟩ => exact Eq.trans (by simp [Rect.unit, LoadRect.idx, ix3]) hq.symm
  | ⟨1, _⟩ => simp [Rect.unit, LoadRect.idx, ix3]
  | ⟨2, _⟩ => exact Eq.trans (by simp [Rect.unit, LoadRect.idx, ix3]) hl.symm

/-- One piece of the projection: `n` columns from place `d0` of group `g`, held from lane `c0` of quarter `q`. -/
theorem tile (c : Dev nD) (t : Fin cfg0.N) (q c0 n g d0 : ℕ)
    (inb : ∀ a, ![q, 0, c0] a + ![1, 1024, n] a ≤ S4x1024x1792.size a) (at_same : q * 1792 + c0 = g * 1024 + d0)
    (fits : c0 + n ≤ 1792) (x0 : Fin 1) (r : Fin 512) (p : Fin n) (k : Fin 7) (r' : Fin 512) (p' : Fin 1024)
    (h0 : k.val = g + x0.val) (h1 : r'.val = r.val) (h2 : p'.val = d0 + p.val) :
    ∑ d : Fin 1024, norm (n := 512) (iblk m c 0 t) (iblk m c 1 t) r d * cut (iblk m c 2 t) q c0 n inb (ix3 0 d p)
      = projected (m ((c : Thread nD τ).loc main_arg0)) (m ((c : Thread nD τ).loc main_arg1)) (m ((c : Thread nD τ).loc main_arg2)) (ix3 k (at_ t r') p') := by
  obtain rfl : r' = r := Fin.ext h1
  have hc : (column k p').val = q * 1792 + (c0 + p.val) := by rw [column_val, h0, h2]; omega
  rw [w_blk]
  exact Finset.sum_congr rfl fun d _ => congrArg₂ (· * ·) (norm_blk m c t r' d)
    (cut_at _ q c0 n inb d p (column k p') (by rw [hc]; omega) (by rw [hc]; omega))

/-- The projection after the run. -/
theorem final4 (c : Dev nD) : (dats m 0 c).arrAt 4 (cfgs 0).N = projected (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine Eq.trans ?_ (congrArg (projected (m ((c : Thread nD τ).loc main_arg0)) (m ((c : Thread nD τ).loc main_arg1)) (m ((c : Thread nD τ).loc main_arg2))) (?_ : ix3 (y 0) (at_ t (y 1)) (y 2) = _))
  rotate_left
  · simp only [at_]; blk_ext [idx t]
  unfold outsAt0
  frame_out
  canon_tiles x h using View.cover_of_tiledBy _ ![1, 512, 256] (by sl_kernel_rfl) y
  · exact (pay4 _ _ _ x).trans (tile m c t 3 768 1024 6 0 inb_S4x1024x1792_S1x1024x1024_3_0_768 (by decide) (by decide)
      (x 0) (x 1) (x 2) (y 0) (y 1) (y 2) h0 h1 (h2.trans (Nat.zero_add _).symm))
  · exact (pay3 _ _ _ x).trans (tile m c t 3 0 768 5 256 inb_S4x1024x1792_S1x1024x768_3_0_0 (by decide) (by decide)
      (x 0) (x 1) (x 2) (y 0) (y 1) (y 2) h0 h1 h2)
  · exact (pay2 _ _ _ x).trans (tile m c t 2 1536 256 5 0 inb_S4x1024x1792_S1x1024x256_2_0_1536 (by decide) (by decide)
      (x 0) (x 1) (x 2) (y 0) (y 1) (y 2) h0 h1 (h2.trans (Nat.zero_add _).symm))
  · exact (pay1 _ _ _ x).trans (tile m c t 2 512 1024 4 0 inb_S4x1024x1792_S1x1024x1024_2_0_512 (by decide) (by decide)
      (x 0) (x 1) (x 2) (y 0) (y 1) (y 2) h0 h1 (h2.trans (Nat.zero_add _).symm))
  · exact (pay11 _ _ _ x).trans (tile m c t 2 0 512 3 512 inb_S4x1024x1792_S1x1024x512_2_0_0 (by decide) (by decide)
      (x 0) (x 1) (x 2) (y 0) (y 1) (y 2) h0 h1 h2)
  · exact (pay10 _ _ _ x).trans (tile m c t 1 1280 512 3 0 inb_S4x1024x1792_S1x1024x512_1_0_1280 (by decide) (by decide)
      (x 0) (x 1) (x 2) (y 0) (y 1) (y 2) h0 h1 (h2.trans (Nat.zero_add _).symm))
  · exact (pay9 _ _ _ x).trans (tile m c t 1 256 1024 2 0 inb_S4x1024x1792_S1x1024x1024_1_0_256 (by decide) (by decide)
      (x 0) (x 1) (x 2) (y 0) (y 1) (y 2) h0 h1 (h2.trans (Nat.zero_add _).symm))
  · exact (pay8 _ _ _ x).trans (tile m c t 1 0 256 1 768 inb_S4x1024x1792_S1x1024x256_1_0_0 (by decide) (by decide)
      (x 0) (x 1) (x 2) (y 0) (y 1) (y 2) h0 h1 h2)
  · exact (pay7 _ _ _ x).trans (tile m c t 0 1024 768 1 0 inb_S4x1024x1792_S1x1024x768_0_0_1024 (by decide) (by decide)
      (x 0) (x 1) (x 2) (y 0) (y 1) (y 2) h0 h1 (h2.trans (Nat.zero_add _).symm))
  · exact (pay6 _ _ _ x).trans (tile m c t 0 0 1024 0 0 inb_S4x1024x1792_S1x1024x1024_0_0_0 (by decide) (by decide)
      (x 0) (x 1) (x 2) (y 0) (y 1) (y 2) (h0.trans (Nat.zero_add _).symm) h1 (h2.trans (Nat.zero_add _).symm))

section Reference

open Cert.Reference7Ideal.Read

/-- The weight as the reference lays it out, read at a row and a column. -/
theorem weight (w : FVec Ideal S4x1024x1792 .bf16) (d : Fin 1024) (j : Fin 7168) :
    val_main_v2 (F := Ideal) w (ix2 d j) = w (ix3 (quarter j) d (lane j)) := by
  pointwise [val_main_v2, val_main_v1, val_main_v0]
  rfl

/-- The normed input of the reference. -/
theorem ref_norm (x : FVec Ideal S4096x1024 .f32) (g : FVec Ideal S1x1024 .f32) (s : Fin 4096) (d : Fin 1024) :
    val_main_v14 (F := Ideal) x g (ix2 s d) = norm x g s d := by
  pointwise [val_main_v14, val_main_v13, val_main_v12, val_main_v11, val_main_v10, val_main_v9, val_main_v8, val_main_v7,
    val_main_v6, val_main_v5, val_main_v4, val_main_v3, val_main_cst, val_main_cst_0, val_main_cst_1, norm, inv, sumsq]

theorem ref_u (x : FVec Ideal S4096x1024 .f32) (g : FVec Ideal S1x1024 .f32) :
    val_main_v23 (F := Ideal) x g = normed x g := by
  funext i
  exact (congrArg (val_main_v14 (F := Ideal) x g) (eq_ix2 i)).trans (ref_norm x g (i 0) (i 1))

/-- The reference's projection at a row and a column. -/
theorem ref_column (x : FVec Ideal S4096x1024 .f32) (g : FVec Ideal S1x1024 .f32) (w : FVec Ideal S4x1024x1792 .bf16)
    (s : Fin 4096) (j : Fin 7168) : val_main_v15 (F := Ideal) x g w (ix2 s j) = at_column x g w s j := by
  pointwise [val_main_v15]
  exact Finset.sum_congr rfl fun d _ => congrArg₂ (· * ·) (ref_norm x g s d) (weight w d j)

theorem ref_z (x : FVec Ideal S4096x1024 .f32) (g : FVec Ideal S1x1024 .f32) (w : FVec Ideal S4x1024x1792 .bf16) :
    val_main_v32 (F := Ideal) x g w = projected x g w := by
  have h : ∀ (k : Fin 7) (s : Fin 4096) (p : Fin 1024),
      val_main_v32 (F := Ideal) x g w (ix3 k s p) = at_column x g w s (column k p) := by
    intro k s p
    pointwise [val_main_v32, val_main_v31, val_main_v30, val_main_v29, val_main_v28, val_main_v27, val_main_v26, val_main_v25,
      val_main_v24, val_main_v22, val_main_v21, val_main_v20, val_main_v19, val_main_v18, val_main_v17, val_main_v16]
    split_ifs <;> refine (ref_column x g w s _).trans (congrArg (at_column x g w s) (Fin.ext ?_)) <;>
      simp only [column_val] <;> omega
  funext i
  exact (congrArg (val_main_v32 (F := Ideal) x g w) (eq_ix3 i)).trans (h (i 0) (i 1) (i 2))

end Reference

/-- The seventh program's value claim. -/
theorem algebraic : Cert.algebraic_Kernel7Ideal_Reference7Ideal := by
  intro m g m' g' _ hagree
  refine ⟨fun c => normed (m ((c : Thread nD τ).loc main_arg0)) (m ((c : Thread nD τ).loc main_arg1)), fun c => projected (m ((c : Thread nD τ).loc main_arg0)) (m ((c : Thread nD τ).loc main_arg1)) (m ((c : Thread nD τ).loc main_arg2)), ?_, ?_⟩
  · run_from Cert.Kernel7Ideal.Gen.run_main m g
    · exact final3 m c
    · exact final4 m c
  · refine θ_run_mono (Cert.Reference7Ideal.Value.run m' g') fun r h c => ?_
    obtain ⟨h0, h1, h2⟩ := hagree c
    refine ⟨(h c).1.trans ((Cert.Reference7Ideal.Read.val_main_v23_eq _ _).trans ?_),
      (h c).2.1.trans ((Cert.Reference7Ideal.Read.val_main_v32_eq m' c).trans ?_), (h c).2.2⟩
    · rw [h0, h1]; exact ref_u _ _
    · rw [h0, h1, h2]; exact ref_z _ _ _

end Cert.Kernel7Ideal.MixIn

end
-- ==== Proof.Fwd.lean ====
/-
  The first feed-forward block's forward pass (the eighth program): the block's rows with their residual, the normed
  rows, and the two projections that the backward pass reads.
-/
module

public import proofs.«01_k».proof.Defs
public import proofs.«01_k».proof.Proof.Rows
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Fwd

open Idealize.ShloMosaic Idealize.ShloMosaic.TcCoe Idealize.SL.Sem
open Idealize.ShloMosaic.Pipeline (Dat)
open Cert.Kernel8Ideal Cert.Kernel8Ideal.Gen Cert.Norm Cert.Rows

variable (m : (ℓ : Loc nD τ sig) → Buf (Elt Ideal) ℓ)

/-- The first half of a weight's rows. -/
def lo (w : FVec Ideal S2816x1024 .bf16) : FVec Ideal S1408x1024 .bf16 :=
  View.ld (Val := Elt Ideal) (e' := .bf16) w (Rect.unit ![0, 0] ![1408, 1024] inb_S2816x1024_S1408x1024_0_0)

/-- The second half. -/
def hi (w : FVec Ideal S2816x1024 .bf16) : FVec Ideal S1408x1024 .bf16 :=
  View.ld (Val := Elt Ideal) (e' := .bf16) w (Rect.unit ![1408, 0] ![1408, 1024] inb_S2816x1024_S1408x1024_1408_0)

theorem lo_apply (w : FVec Ideal S2816x1024 .bf16) (f : Fin 1408) (k : Fin 1024) :
    lo w (ix2 f k) = w (ix2 ⟨f.val, by omega⟩ k) := by
  refine congrArg w (funext fun a => ?_)
  fin_cases a <;> exact Fin.ext (by simp [Rect.unit, LoadRect.idx, ix2])

theorem hi_apply (w : FVec Ideal S2816x1024 .bf16) (f : Fin 1408) (k : Fin 1024) :
    hi w (ix2 f k) = w (ix2 ⟨1408 + f.val, by omega⟩ k) := by
  refine congrArg w (funext fun a => ?_)
  fin_cases a <;> exact Fin.ext (by simp [Rect.unit, LoadRect.idx, ix2])

/-- The rows after the feed-forward. -/
def outRow {n : ℕ} (x : FVec Ideal ⟨2, ![n, 1024]⟩ .f32) (g : FVec Ideal S1x1024 .f32) (wg wu wd : FVec Ideal S2816x1024 .bf16)
    (r : Fin n) : Fin 1024 → EReal := ffn (row x r) (row g 0) (row wg) (row wu) (row wd)

section Payloads

variable (x : FVec Ideal S512x1024 .f32) (g : FVec Ideal S1x1024 .f32) (wg wu wd : FVec Ideal S2816x1024 .bf16)

theorem pay6 (j : S512x1024.Idx) : k0_pay6 (F := Ideal) x g j = nrm (row x (j 0)) (row g 0) (j 1) := by
  pointwise [k0_pay6, nrm, invRoot, sumsq, row]

theorem pay9 (j : S512x1408.Idx) (w : FVec Ideal S1408x1024 .bf16) :
    k0_pay9 (F := Ideal) x g w j = proj (nrm (row x (j 0)) (row g 0)) (row w) (j 1) := by
  pointwise [k0_pay9, k0_pay7, pay6, proj]
  rfl

theorem pay10 (j : S512x1408.Idx) (w : FVec Ideal S1408x1024 .bf16) :
    k0_pay10 (F := Ideal) x g w j = proj (nrm (row x (j 0)) (row g 0)) (row w) (j 1) := by
  pointwise [k0_pay10, k0_pay8, pay6, proj]
  rfl

theorem pay3 (j : S512x1408.Idx) (w : FVec Ideal S1408x1024 .bf16) :
    k0_pay3 (F := Ideal) (k0_pay6 x g) w (constant S512x1408 .f32 0#32) j = proj (nrm (row x (j 0)) (row g 0)) (row w) (j 1) := by
  pointwise [k0_pay3, k0_pay1, pay6, proj]
  rfl

theorem pay4 (j : S512x1408.Idx) (w : FVec Ideal S1408x1024 .bf16) :
    k0_pay4 (F := Ideal) (k0_pay6 x g) w j = proj (nrm (row x (j 0)) (row g 0)) (row w) (j 1) := by
  pointwise [k0_pay4, k0_pay2, pay6, proj]
  rfl

theorem pay5 : k0_pay5 (F := Ideal) x (k0_pay6 x g) (k0_pay11 x g (lo wg) (lo wu) (lo wd)) (hi wg)
      (constant S512x1408 .f32 0#32) (hi wu) (hi wd)
    = fun j => outRow x g wg wu wd (j 0) (j 1) := by
  funext j
  refine Eq.trans (b := row x (j 0) (j 1) + half * (mix (act (proj (nrm (row x (j 0)) (row g 0)) (row (lo wg)))
      (proj (nrm (row x (j 0)) (row g 0)) (row (lo wu)))) (row (lo wd)) (j 1)
    + mix (act (proj (nrm (row x (j 0)) (row g 0)) (row (hi wg)))
      (proj (nrm (row x (j 0)) (row g 0)) (row (hi wu)))) (row (hi wd)) (j 1))) ?_ ?_
  · generalize lo wg = a1, lo wu = a2, lo wd = a3, hi wg = b1, hi wu = b2, hi wd = b3
    pointwise [k0_pay5, k0_pay11, k0_pay1, k0_pay2, k0_pay7, k0_pay8, pay6, proj, mix, act, row]
  · simp only [outRow, ffn, mix]
    rw [sum_halves]
    simp only [act, proj, row, lo_apply, hi_apply,
      show ∀ f, lo wd (ix2 f (j 1)) = _ from fun f => lo_apply wd f (j 1),
      show ∀ f, hi wd (ix2 f (j 1)) = _ from fun f => hi_apply wd f (j 1)]

end Payloads

section Whole

variable (x : FVec Ideal S4096x1024 .f32) (g : FVec Ideal S1x1024 .f32) (wg wu wd : FVec Ideal S2816x1024 .bf16)

/-- The block's rows with their residual. -/
def after : FVec Ideal S4096x1024 .f32 := fun i => outRow x g wg wu wd (i 0) (i 1)

/-- The normed rows. -/
def normed : FVec Ideal S4096x1024 .bf16 := fun i => nrm (row x (i 0)) (row g 0) (i 1)

/-- A projection of the normed rows. -/
def projected : FVec Ideal S4096x2816 .bf16 := fun i => proj (nrm (row x (i 0)) (row g 0)) (row wg) (i 1)

end Whole

/-- Which block each window holds at a grid point: 512 rows, the weights whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

section Blocks

variable (c : Dev nD) (t : Fin cfg0.N)

/-- A block's row among all rows. -/
def at_ (r : Fin 512) : Fin 4096 := ⟨t.val * 512 + r.val, by have := t.isLt; have : cfg0.N = 8 := N_0; omega⟩

theorem blk1 : iblk m c 1 t = m ((c : Thread nD τ).loc main_arg1) := by
  funext j; blk_ext [iblk, V, idx t]

theorem blk2 : iblk m c 2 t = m ((c : Thread nD τ).loc main_arg2) := by
  funext j; blk_ext [iblk, V, idx t]

theorem blk3 : iblk m c 3 t = m ((c : Thread nD τ).loc main_arg3) := by
  funext j; blk_ext [iblk, V, idx t]

theorem blk4 : iblk m c 4 t = m ((c : Thread nD τ).loc main_arg4) := by
  funext j; blk_ext [iblk, V, idx t]

theorem row0 (r : Fin 512) : row (n := 512) (d := 1024) (e := .f32) (iblk m c 0 t) r
    = row (n := 4096) (d := 1024) (e := .f32) (m ((c : Thread nD τ).loc main_arg0)) (at_ t r) := by
  funext k; simp only [row, at_]; blk_ext [iblk, V, idx t]

theorem outRow_blk (r : Fin 512) : outRow (n := 512) (iblk m c 0 t) (iblk m c 1 t) (iblk m c 2 t) (iblk m c 3 t) (iblk m c 4 t) r = outRow (m ((c : Thread nD τ).loc main_arg0)) (m ((c : Thread nD τ).loc main_arg1)) (m ((c : Thread nD τ).loc main_arg2)) (m ((c : Thread nD τ).loc main_arg3)) (m ((c : Thread nD τ).loc main_arg4)) (at_ t r) := by
  simp only [outRow]; rw [row0, blk1, blk2, blk3, blk4]

/-- The block's rows after the feed-forward, as the body leaves them. -/
theorem bodyH (y : S512x1024.Idx) : k0_pay5 (F := Ideal) (iblk m c 0 t) (k0_pay6 (iblk m c 0 t) (iblk m c 1 t)) (k0_pay11 (iblk m c 0 t) (iblk m c 1 t) (lo (iblk m c 2 t)) (lo (iblk m c 3 t)) (lo (iblk m c 4 t))) (hi (iblk m c 2 t))
      (constant S512x1408 .f32 0#32) (hi (iblk m c 3 t)) (hi (iblk m c 4 t)) y
    = after (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t (y 0)) (y 1)) := by
  refine (congrFun (pay5 (iblk m c 0 t) (iblk m c 1 t) (iblk m c 2 t) (iblk m c 3 t) (iblk m c 4 t)) y).trans ?_
  exact congrFun (outRow_blk m c t (y 0)) (y 1)

theorem nrm_blk (r : Fin 512) : nrm (row (n := 512) (d := 1024) (e := .f32) (iblk m c 0 t) r) (row (n := 1) (d := 1024) (e := .f32) (iblk m c 1 t) 0)
    = nrm (row (n := 4096) (d := 1024) (e := .f32) (m ((c : Thread nD τ).loc main_arg0)) (at_ t r)) (row (n := 1) (d := 1024) (e := .f32) (m ((c : Thread nD τ).loc main_arg1)) 0) := by
  rw [row0, blk1]

/-- The block's normed rows. -/
theorem bodyN (y : S512x1024.Idx) : k0_pay6 (F := Ideal) (iblk m c 0 t) (iblk m c 1 t) y
    = normed (m ((c : Thread nD τ).loc main_arg0)) (m ((c : Thread nD τ).loc main_arg1)) (ix2 (at_ t (y 0)) (y 1)) := by
  refine (pay6 (iblk m c 0 t) (iblk m c 1 t) y).trans ?_
  exact congrFun (nrm_blk m c t (y 0)) (y 1)

/-- The block's projection to the gate, first half of the columns. -/
theorem bodyGlo (y : S512x1408.Idx) : k0_pay9 (F := Ideal) (iblk m c 0 t) (iblk m c 1 t) (lo (iblk m c 2 t)) y
    = projected (m ((c : Thread nD τ).loc main_arg0)) (m ((c : Thread nD τ).loc main_arg1)) (m ((c : Thread nD τ).loc main_arg2)) (ix2 (at_ t (y 0)) ⟨(y 1).val, lt_of_lt_of_le (y 1).isLt (by decide)⟩) := by
  refine (pay9 (iblk m c 0 t) (iblk m c 1 t) y _).trans ?_
  refine Finset.sum_congr rfl fun k _ => congrArg₂ (· * ·) (congrFun (nrm_blk m c t (y 0)) k) ?_
  exact (lo_apply (iblk m c 2 t) (y 1) k).trans (by rw [blk2]; rfl)

@[inherit_doc bodyGlo]
theorem bodyGhi (y : S512x1408.Idx) : k0_pay3 (F := Ideal) (k0_pay6 (iblk m c 0 t) (iblk m c 1 t)) (hi (iblk m c 2 t)) (constant S512x1408 .f32 0#32) y
    = projected (m ((c : Thread nD τ).loc main_arg0)) (m ((c : Thread nD τ).loc main_arg1)) (m ((c : Thread nD τ).loc main_arg2)) (ix2 (at_ t (y 0)) ⟨1408 + (y 1).val, Nat.add_lt_add_left (y 1).isLt 1408⟩) := by
  refine (pay3 (iblk m c 0 t) (iblk m c 1 t) y _).trans ?_
  refine Finset.sum_congr rfl fun k _ => congrArg₂ (· * ·) (congrFun (nrm_blk m c t (y 0)) k) ?_
  exact (hi_apply (iblk m c 2 t) (y 1) k).trans (by rw [blk2]; rfl)

/-- The block's projection up, first half of the columns. -/
theorem bodyUlo (y : S512x1408.Idx) : k0_pay10 (F := Ideal) (iblk m c 0 t) (iblk m c 1 t) (lo (iblk m c 3 t)) y
    = projected (m ((c : Thread nD τ).loc main_arg0)) (m ((c : Thread nD τ).loc main_arg1)) (m ((c : Thread nD τ).loc main_arg3)) (ix2 (at_ t (y 0)) ⟨(y 1).val, lt_of_lt_of_le (y 1).isLt (by decide)⟩) := by
  refine (pay10 (iblk m c 0 t) (iblk m c 1 t) y _).trans ?_
  refine Finset.sum_congr rfl fun k _ => congrArg₂ (· * ·) (congrFun (nrm_blk m c t (y 0)) k) ?_
  exact (lo_apply (iblk m c 3 t) (y 1) k).trans (by rw [blk3]; rfl)

@[inherit_doc bodyUlo]
theorem bodyUhi (y : S512x1408.Idx) : k0_pay4 (F := Ideal) (k0_pay6 (iblk m c 0 t) (iblk m c 1 t)) (hi (iblk m c 3 t)) y
    = projected (m ((c : Thread nD τ).loc main_arg0)) (m ((c : Thread nD τ).loc main_arg1)) (m ((c : Thread nD τ).loc main_arg3)) (ix2 (at_ t (y 0)) ⟨1408 + (y 1).val, Nat.add_lt_add_left (y 1).isLt 1408⟩) := by
  refine (pay4 (iblk m c 0 t) (iblk m c 1 t) y _).trans ?_
  refine Finset.sum_congr rfl fun k _ => congrArg₂ (· * ·) (congrFun (nrm_blk m c t (y 0)) k) ?_
  exact (hi_apply (iblk m c 3 t) (y 1) k).trans (by rw [blk3]; rfl)

end Blocks

/-- The block's rows after the run. -/
theorem final5 (c : Dev nD) : (dats m 0 c).arrAt 5 (cfgs 0).N = after (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans ?_ (congrArg (after (m ((c : Thread nD τ).loc main_arg0)) (m ((c : Thread nD τ).loc main_arg1)) (m ((c : Thread nD τ).loc main_arg2)) (m ((c : Thread nD τ).loc main_arg3)) (m ((c : Thread nD τ).loc main_arg4))) (?_ : ix2 (at_ t (y 0)) (y 1) = _))
  · frame_out [k0_pay12, k0_pay13]
    exact bodyH m c t y
  · simp only [at_]; blk_ext [idx t]

/-- The normed rows after the run. -/
theorem final6 (c : Dev nD) : (dats m 0 c).arrAt 6 (cfgs 0).N = normed (m ((c : Thread nD τ).loc main_arg0)) (m ((c : Thread nD τ).loc main_arg1)) := by
  refine (dats m 0 c).arrAt_eq_of_covers 6 _ (by decide +kernel) fun t _ y => ?_
  blk_simp
  rw [after0_6]
  refine Eq.trans ?_ (congrArg (normed (m ((c : Thread nD τ).loc main_arg0)) (m ((c : Thread nD τ).loc main_arg1))) (?_ : ix2 (at_ t (y 0)) (y 1) = _))
  · frame_out
    exact bodyN m c t y
  · simp only [at_]; blk_ext [idx t]

/-- The projection to the gate after the run. -/
theorem final7 (c : Dev nD) : (dats m 0 c).arrAt 7 (cfgs 0).N = projected (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out [k0_pay12, k0_pay13]
  canon_tiles x h
  · refine (bodyGhi m c t x).trans (congrArg _ ?_)
    simp only [at_]; blk_ext [idx t, h0, h1]
  · refine (bodyGlo m c t x).trans (congrArg _ ?_)
    simp only [at_]; blk_ext [idx t, h0, h1]

/-- The projection up after the run. -/
theorem final8 (c : Dev nD) : (dats m 0 c).arrAt 8 (cfgs 0).N = projected (m ((c : Thread nD τ).loc main_arg0)) (m ((c : Thread nD τ).loc main_arg1)) (m ((c : Thread nD τ).loc main_arg3)) := by
  refine (dats m 0 c).arrAt_eq_of_covers 8 _ (by decide +kernel) fun t _ y => ?_
  blk_simp
  rw [after0_8]
  frame_out [k0_pay12, k0_pay13]
  canon_tiles x h
  · refine (bodyUhi m c t x).trans (congrArg _ ?_)
    simp only [at_]; blk_ext [idx t, h0, h1]
  · refine (bodyUlo m c t x).trans (congrArg _ ?_)
    simp only [at_]; blk_ext [idx t, h0, h1]

section Reference

open Cert.Reference8Ideal.Read

variable (x : FVec Ideal S4096x1024 .f32) (g : FVec Ideal S1x1024 .f32) (wg wu wd : FVec Ideal S2816x1024 .bf16)

theorem one_eq : Ideal.ofBits .f32 0x3F800000#32 = 1 := by
  simp [Ideal.ofBits, Ideal.ieee]; rw [← EReal.coe_mul]; norm_num

theorem ref_n : val_main_v11 (F := Ideal) x g = fun i => nrm (row x (i 0)) (row g 0) (i 1) := by
  funext i
  pointwise [val_main_v0, val_main_v1, val_main_v2, val_main_v3, val_main_v4, val_main_v5, val_main_v6, val_main_v7, val_main_v8, val_main_v9, val_main_v10, val_main_v11, val_main_cst, val_main_cst_0, val_main_cst_1, nrm, invRoot, sumsq, row]

theorem ref_gate : val_main_v14 (F := Ideal) x g wg = fun i => proj (nrm (row x (i 0)) (row g 0)) (row wg) (i 1) := by
  unfold val_main_v14
  rw [ref_n]
  funext i
  pointwise [val_main_v12, val_main_v13, proj, row]

theorem ref_up : val_main_v17 (F := Ideal) x g wu = fun i => proj (nrm (row x (i 0)) (row g 0)) (row wu) (i 1) := by
  unfold val_main_v17
  rw [ref_n]
  funext i
  pointwise [val_main_v15, val_main_v16, proj, row]

theorem ref_act : val_main_v19 (F := Ideal) x g wg wu = fun i =>
    act (proj (nrm (row x (i 0)) (row g 0)) (row wg)) (proj (nrm (row x (i 0)) (row g 0)) (row wu)) (i 1) := by
  unfold val_main_v19 val_main_v18 val_main_call0_v5 val_main_call0_v4 val_main_call0_v3 val_main_call0_v2 val_main_call0_v1
    val_main_call0_v0 val_main_call0_cst val_main_call0_cst_0
  rw [ref_gate, ref_up]
  funext i
  pointwise [act, Ideal.logistic, one_eq]

theorem ref_after : val_main_v24 (F := Ideal) x g wg wu wd = after x g wg wu wd := by
  unfold val_main_v24 val_main_v23 val_main_v22 val_main_v21 val_main_v20 val_main_cst_2
  rw [ref_act]
  funext i
  pointwise [after, outRow, ffn, mix, row]

theorem ref_normed : val_main_v25 (F := Ideal) x g = normed x g := by
  unfold val_main_v25
  rw [ref_n]
  funext i
  pointwise [normed]

theorem ref_pgate : val_main_v26 (F := Ideal) x g wg = projected x g wg := by
  unfold val_main_v26
  rw [ref_gate]
  funext i
  pointwise [projected]

theorem ref_pup : val_main_v27 (F := Ideal) x g wu = projected x g wu := by
  unfold val_main_v27
  rw [ref_up]
  funext i
  pointwise [projected]

end Reference

/-- The eighth program's value claim. -/
theorem algebraic : Cert.algebraic_Kernel8Ideal_Reference8Ideal := by
  intro m g m' g' _ hagree
  refine ⟨fun c => after (m ((c : Thread nD τ).loc main_arg0)) (m ((c : Thread nD τ).loc main_arg1)) (m ((c : Thread nD τ).loc main_arg2)) (m ((c : Thread nD τ).loc main_arg3)) (m ((c : Thread nD τ).loc main_arg4)), fun c => normed (m ((c : Thread nD τ).loc main_arg0)) (m ((c : Thread nD τ).loc main_arg1)), fun c => projected (m ((c : Thread nD τ).loc main_arg0)) (m ((c : Thread nD τ).loc main_arg1)) (m ((c : Thread nD τ).loc main_arg2)),
    fun c => projected (m ((c : Thread nD τ).loc main_arg0)) (m ((c : Thread nD τ).loc main_arg1)) (m ((c : Thread nD τ).loc main_arg3)), ?_, ?_⟩
  · run_from Cert.Kernel8Ideal.Gen.run_main m g
    · exact final5 m c
    · exact final6 m c
    · exact final7 m c
    · exact final8 m c
  · refine θ_run_mono (Cert.Reference8Ideal.Value.run m' g') fun r h c => ?_
    obtain ⟨h0, h1, h2, h3, h4⟩ := hagree c
    obtain ⟨r0, r1, r2, r3, rest⟩ := h c
    refine ⟨r0.trans ((Cert.Reference8Ideal.Read.val_main_v24_eq _ _ _ _ _).trans ?_), r1.trans ((Cert.Reference8Ideal.Read.val_main_v25_eq _ _).trans ?_),
      r2.trans ((Cert.Reference8Ideal.Read.val_main_v26_eq _ _ _).trans ?_), r3.trans ((Cert.Reference8Ideal.Read.val_main_v27_eq _ _ _).trans ?_), rest⟩
    · rw [h0, h1, h2, h3, h4]; exact ref_after _ _ _ _ _
    · rw [h0, h1]; exact ref_normed _ _
    · rw [h0, h1, h2]; exact ref_pgate _ _ _
    · rw [h0, h1, h3]; exact ref_pup _ _ _

end Cert.Kernel8Ideal.Fwd

end
-- ==== Proof.Layer.lean ====
/-
  The functions of one token's row that the mixers' output part is made of: the layer norm, the smooth gate, and the
  gated merge of two rows.
-/
module

public import proofs.«01_k».proof.Proof.Rows

@[expose] public section

noncomputable section

namespace Cert.Layer

open Idealize.ShloMosaic Cert.Norm Cert.Rows

/-- The mean of a row. -/
def mean (x : Fin 1024 → EReal) : EReal := Ideal.div (∑ k, x k) width

/-- The row without its mean. -/
def ctr (x : Fin 1024 → EReal) : Fin 1024 → EReal := fun k => x k - mean x

/-- The row without its mean, over the root of its mean square. -/
def hat (x : Fin 1024 → EReal) : Fin 1024 → EReal := fun k => ctr x k * invRoot (ctr x)

/-- The layer norm of a row, with weight `g` and offset `b`. -/
def lnorm (x g b : Fin 1024 → EReal) : Fin 1024 → EReal := fun k => hat x k * g k + b k

/-- The row, each entry times its own logistic. -/
def silu (x : Fin 1024 → EReal) : Fin 1024 → EReal := fun k => x k * Ideal.logistic (x k)

/-- Two rows, each through its own gate, added. -/
def merge (ga gb ya yb : Fin 1024 → EReal) : Fin 1024 → EReal := fun k => Ideal.logistic (ga k) * ya k + Ideal.logistic (gb k) * yb k

/-- A row of one group of an array of groups. -/
def zrow {g n d : ℕ} {e : FTy} (z : FVec Ideal ⟨3, ![g, n, d]⟩ e) (q : Fin g) (r : Fin n) : Fin d → EReal := fun k => z (ix3 q r k)

theorem one_eq : Ideal.ofBits .f32 0x3F800000#32 = 1 := by
  simp [Ideal.ofBits, Ideal.ieee]; rw [← EReal.coe_mul]; norm_num

end Cert.Layer

end
-- ==== Proof.MixOut.lean ====
/-
  The mixers' output part forward (the ninth program): the layer norm and its smooth gate, both mixers' output
  projections, their gated merge and its projection, added to the rows the mixer started from.
-/
module

public import proofs.«01_k».proof.Defs
public import proofs.«01_k».proof.Proof.Layer
public import proofs.«01_k».proof.Proof.Gen.Kernel9Ideal.Frame
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.MixOut

open Idealize.ShloMosaic Idealize.ShloMosaic.TcCoe Idealize.SL.Sem
open Idealize.ShloMosaic.Pipeline (Dat)
open Cert.Kernel9Ideal Cert.Kernel9Ideal.Gen Cert.Norm Cert.Rows Cert.Layer

variable (m : (ℓ : Loc nD τ sig) → Buf (Elt Ideal) ℓ)

/-- A row of the Conformer mixer's activation. -/
def aRow {n : ℕ} (a : FVec Ideal ⟨2, ![n, 1024]⟩ .f32) (lg lb : FVec Ideal S1x1024 .f32) (r : Fin n) : Fin 1024 → EReal :=
  silu (lnorm (row a r) (row lg 0) (row lb 0))

/-- A row of the Conformer mixer's output. -/
def yaRow {n : ℕ} (a : FVec Ideal ⟨2, ![n, 1024]⟩ .f32) (lg lb : FVec Ideal S1x1024 .f32) (wa : FVec Ideal S1024x1024 .bf16)
    (r : Fin n) : Fin 1024 → EReal := mix (aRow a lg lb r) (row wa)

/-- A row of the short mixer's output. -/
def ybRow {n : ℕ} (q : FVec Ideal ⟨2, ![n, 1024]⟩ .bf16) (wb : FVec Ideal S1024x1024 .bf16) (r : Fin n) : Fin 1024 → EReal :=
  mix (row q r) (row wb)

section Payloads

variable (a : FVec Ideal S512x1024 .f32) (lg lb : FVec Ideal S1x1024 .f32) (wa wb wo : FVec Ideal S1024x1024 .bf16)
  (q : FVec Ideal S512x1024 .bf16) (ga gb : FVec Ideal S1x512x1024 .bf16) (h : FVec Ideal S512x1024 .f32)

theorem pay4 : k0_pay4 (F := Ideal) a lg lb = fun j => aRow a lg lb (j 0) (j 1) := by
  funext j
  pointwise [k0_pay4, aRow, silu, lnorm, hat, ctr, mean, invRoot, sumsq, row]

theorem pay5 : k0_pay5 (F := Ideal) a lg lb wa = fun j => yaRow a lg lb wa (j 0) (j 1) := by
  unfold k0_pay5
  rw [pay4]
  funext j
  pointwise [yaRow, mix, row]

theorem pay6 : k0_pay6 (F := Ideal) q wb = fun j => ybRow q wb (j 0) (j 1) := by
  funext j
  pointwise [k0_pay6, ybRow, mix, row]

theorem pay2 : k0_pay2 (F := Ideal) (k0_pay5 a lg lb wa) (k0_pay6 q wb) ga gb = fun j =>
    merge (zrow ga 0 (j 0)) (zrow gb 0 (j 0)) (yaRow a lg lb wa (j 0)) (ybRow q wb (j 0)) (j 1) := by
  unfold k0_pay2
  rw [pay5, pay6]
  funext j
  pointwise [merge, zrow]

theorem pay3 : k0_pay3 (F := Ideal) (k0_pay5 a lg lb wa) (k0_pay6 q wb) ga gb h wo = fun j =>
    row h (j 0) (j 1) + mix (merge (zrow ga 0 (j 0)) (zrow gb 0 (j 0)) (yaRow a lg lb wa (j 0)) (ybRow q wb (j 0))) (row wo) (j 1) := by
  unfold k0_pay3
  rw [pay2]
  funext j
  pointwise [mix, row]

end Payloads

section Whole

variable (h a : FVec Ideal S4096x1024 .f32) (q : FVec Ideal S4096x1024 .bf16) (z : FVec Ideal S7x4096x1024 .bf16)
  (lg lb : FVec Ideal S1x1024 .f32) (wa wb wo : FVec Ideal S1024x1024 .bf16)

/-- The Conformer mixer's activation. -/
def activation : FVec Ideal S4096x1024 .bf16 := fun i => aRow a lg lb (i 0) (i 1)

/-- The Conformer mixer's output. -/
def outA : FVec Ideal S4096x1024 .bf16 := fun i => yaRow a lg lb wa (i 0) (i 1)

/-- The short mixer's output. -/
def outB : FVec Ideal S4096x1024 .bf16 := fun i => ybRow q wb (i 0) (i 1)

/-- A row of the gated merge. -/
def mergedRow (r : Fin 4096) : Fin 1024 → EReal := merge (zrow z 5 r) (zrow z 6 r) (yaRow a lg lb wa r) (ybRow q wb r)

/-- The gated merge. -/
def merged : FVec Ideal S4096x1024 .bf16 := fun i => mergedRow a q z lg lb wa wb (i 0) (i 1)

/-- The rows with the mixers' share. -/
def after : FVec Ideal S4096x1024 .f32 := fun i => row h (i 0) (i 1) + mix (mergedRow a q z lg lb wa wb (i 0)) (row wo) (i 1)

end Whole

/-- Which block each window holds at a grid point: 512 rows, the weights whole. -/
theorem idx : ∀ t : Fin cfg0.N, win0_0.index t = ![t.val, 0] ∧ win0_1.index t = ![t.val, 0] ∧ win0_2.index t = ![t.val, 0]
    ∧ win0_3.index t = ![5, t.val, 0] ∧ win0_4.index t = ![6, t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

section Blocks

variable (c : Dev nD) (t : Fin cfg0.N)

/-- A block's row among all rows. -/
def at_ (r : Fin 512) : Fin 4096 := ⟨t.val * 512 + r.val, by have := t.isLt; have : cfg0.N = 8 := N_0; omega⟩

theorem row0 (r : Fin 512) : row (n := 512) (d := 1024) (e := .f32) (iblk m c 0 t) r
    = row (n := 4096) (d := 1024) (e := .f32) (m ((c : Thread nD τ).loc main_arg0)) (at_ t r) := by
  funext k; simp only [row, at_]; blk_ext [iblk, V, idx t]

theorem row1 (r : Fin 512) : row (n := 512) (d := 1024) (e := .f32) (iblk m c 1 t) r
    = row (n := 4096) (d := 1024) (e := .f32) (m ((c : Thread nD τ).loc main_arg1)) (at_ t r) := by
  funext k; simp only [row, at_]; blk_ext [iblk, V, idx t]

theorem row2 (r : Fin 512) : row (n := 512) (d := 1024) (e := .bf16) (iblk m c 2 t) r
    = row (n := 4096) (d := 1024) (e := .bf16) (m ((c : Thread nD τ).loc main_arg2)) (at_ t r) := by
  funext k; simp only [row, at_]; blk_ext [iblk, V, idx t]

theorem zrow3 (r : Fin 512) : zrow (g := 1) (n := 512) (d := 1024) (e := .bf16) (iblk m c 3 t) 0 r
    = zrow (g := 7) (n := 4096) (d := 1024) (e := .bf16) (m ((c : Thread nD τ).loc main_arg3)) 5 (at_ t r) := by
  funext k; simp only [zrow, at_]; blk_ext [iblk, V, idx t]

theorem zrow4 (r : Fin 512) : zrow (g := 1) (n := 512) (d := 1024) (e := .bf16) (iblk m c 4 t) 0 r
    = zrow (g := 7) (n := 4096) (d := 1024) (e := .bf16) (m ((c : Thread nD τ).loc main_arg3)) 6 (at_ t r) := by
  funext k; simp only [zrow, at_]; blk_ext [iblk, V, idx t]

theorem blk5 : iblk m c 5 t = m ((c : Thread nD τ).loc main_arg4) := by
  funext j; blk_ext [iblk, V, idx t]

theorem blk6 : iblk m c 6 t = m ((c : Thread nD τ).loc main_arg5) := by
  funext j; blk_ext [iblk, V, idx t]

theorem blk7 : iblk m c 7 t = m ((c : Thread nD τ).loc main_arg6) := by
  funext j; blk_ext [iblk, V, idx t]

theorem blk8 : iblk m c 8 t = m ((c : Thread nD τ).loc main_arg7) := by
  funext j; blk_ext [iblk, V, idx t]

theorem blk9 : iblk m c 9 t = m ((c : Thread nD τ).loc main_arg8) := by
  funext j; blk_ext [iblk, V, idx t]

theorem aRow_blk (r : Fin 512) : aRow (n := 512) (iblk m c 1 t) (iblk m c 5 t) (iblk m c 6 t) r = aRow (m ((c : Thread nD τ).loc main_arg1)) (m ((c : Thread nD τ).loc main_arg4)) (m ((c : Thread nD τ).loc main_arg5)) (at_ t r) := by
  simp only [aRow]; rw [row1, blk5, blk6]

theorem yaRow_blk (r : Fin 512) : yaRow (n := 512) (iblk m c 1 t) (iblk m c 5 t) (iblk m c 6 t) (iblk m c 7 t) r = yaRow (m ((c : Thread nD τ).loc main_arg1)) (m ((c : Thread nD τ).loc main_arg4)) (m ((c : Thread nD τ).loc main_arg5)) (m ((c : Thread nD τ).loc main_arg6)) (at_ t r) := by
  simp only [yaRow]; rw [aRow_blk, blk7]

theorem ybRow_blk (r : Fin 512) : ybRow (n := 512) (iblk m c 2 t) (iblk m c 8 t) r = ybRow (m ((c : Thread nD τ).loc main_arg2)) (m ((c : Thread nD τ).loc main_arg7)) (at_ t r) := by
  simp only [ybRow]; rw [row2, blk8]

theorem merge_blk (r : Fin 512) : merge (zrow (g := 1) (n := 512) (d := 1024) (e := .bf16) (iblk m c 3 t) 0 r) (zrow (g := 1) (n := 512) (d := 1024) (e := .bf16) (iblk m c 4 t) 0 r)
      (yaRow (n := 512) (iblk m c 1 t) (iblk m c 5 t) (iblk m c 6 t) (iblk m c 7 t) r) (ybRow (n := 512) (iblk m c 2 t) (iblk m c 8 t) r)
    = mergedRow (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (at_ t r) := by
  simp only [mergedRow]; rw [zrow3, zrow4, yaRow_blk, ybRow_blk]

theorem bodyAct (y : S512x1024.Idx) : k0_pay4 (F := Ideal) (iblk m c 1 t) (iblk m c 5 t) (iblk m c 6 t) y = activation (m ((c : Thread nD τ).loc main_arg1)) (m ((c : Thread nD τ).loc main_arg4)) (m ((c : Thread nD τ).loc main_arg5)) (ix2 (at_ t (y 0)) (y 1)) :=
  (congrFun (pay4 (iblk m c 1 t) (iblk m c 5 t) (iblk m c 6 t)) y).trans (congrFun (aRow_blk m c t (y 0)) (y 1))

theorem bodyA (y : S512x1024.Idx) : k0_pay7 (F := Ideal) (iblk m c 1 t) (iblk m c 5 t) (iblk m c 6 t) (iblk m c 7 t) y = outA (m ((c : Thread nD τ).loc main_arg1)) (m ((c : Thread nD τ).loc main_arg4)) (m ((c : Thread nD τ).loc main_arg5)) (m ((c : Thread nD τ).loc main_arg6)) (ix2 (at_ t (y 0)) (y 1)) :=
  (show _ = k0_pay5 (F := Ideal) (iblk m c 1 t) (iblk m c 5 t) (iblk m c 6 t) (iblk m c 7 t) y by pointwise [k0_pay7]).trans
    ((congrFun (pay5 (iblk m c 1 t) (iblk m c 5 t) (iblk m c 6 t) (iblk m c 7 t)) y).trans (congrFun (yaRow_blk m c t (y 0)) (y 1)))

theorem bodyB (y : S512x1024.Idx) : k0_pay1 (F := Ideal) (k0_pay6 (iblk m c 2 t) (iblk m c 8 t)) y = outB (m ((c : Thread nD τ).loc main_arg2)) (m ((c : Thread nD τ).loc main_arg7)) (ix2 (at_ t (y 0)) (y 1)) :=
  (show _ = k0_pay6 (F := Ideal) (iblk m c 2 t) (iblk m c 8 t) y by pointwise [k0_pay1]).trans
    ((congrFun (pay6 (iblk m c 8 t) (iblk m c 2 t)) y).trans (congrFun (ybRow_blk m c t (y 0)) (y 1)))

theorem bodyM (y : S512x1024.Idx) : k0_pay2 (F := Ideal) (k0_pay5 (iblk m c 1 t) (iblk m c 5 t) (iblk m c 6 t) (iblk m c 7 t)) (k0_pay6 (iblk m c 2 t) (iblk m c 8 t)) (iblk m c 3 t) (iblk m c 4 t) y = merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t (y 0)) (y 1)) :=
  (congrFun (pay2 (iblk m c 1 t) (iblk m c 5 t) (iblk m c 6 t) (iblk m c 7 t) (iblk m c 8 t) (iblk m c 2 t) (iblk m c 3 t) (iblk m c 4 t)) y).trans (congrFun (merge_blk m c t (y 0)) (y 1))

theorem bodyH (y : S512x1024.Idx) : k0_pay3 (F := Ideal) (k0_pay5 (iblk m c 1 t) (iblk m c 5 t) (iblk m c 6 t) (iblk m c 7 t)) (k0_pay6 (iblk m c 2 t) (iblk m c 8 t)) (iblk m c 3 t) (iblk m c 4 t) (iblk m c 0 t) (iblk m c 9 t) y = after (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (at_ t (y 0)) (y 1)) := by
  refine (congrFun (pay3 (iblk m c 1 t) (iblk m c 5 t) (iblk m c 6 t) (iblk m c 7 t) (iblk m c 8 t) (iblk m c 9 t) (iblk m c 2 t) (iblk m c 3 t) (iblk m c 4 t) (iblk m c 0 t)) y).trans ?_
  have hm := merge_blk m c t (y 0)
  have hh := congrFun (row0 m c t (y 0)) (y 1)
  rw [blk9]
  exact congrArg₂ (· + ·) hh (congrFun (congrArg (fun v => mix v _) hm) (y 1))

end Blocks

/-- The rows with the mixers’ share after the run. -/
theorem final10 (c : Dev nD) : (dats m 0 c).arrAt 10 (cfgs 0).N = after (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  refine Eq.trans ?_ (congrArg (after (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (?_ : ix2 (at_ t (y 0)) (y 1) = _))
  · frame_out [k0_pay8, k0_pay9]
    exact bodyH m c t y
  · simp only [at_]; blk_ext [idx t]

/-- The Conformer mixer’s activation after the run. -/
theorem final11 (c : Dev nD) : (dats m 0 c).arrAt 11 (cfgs 0).N = activation (m ((c : Thread nD τ).loc main_arg1)) (m ((c : Thread nD τ).loc main_arg4)) (m ((c : Thread nD τ).loc main_arg5)) := by
  refine (dats m 0 c).arrAt_eq_of_covers 11 _ (by decide +kernel) fun t _ y => ?_
  blk_simp
  rw [after0_11]
  refine Eq.trans ?_ (congrArg (activation (m ((c : Thread nD τ).loc main_arg1)) (m ((c : Thread nD τ).loc main_arg4)) (m ((c : Thread nD τ).loc main_arg5))) (?_ : ix2 (at_ t (y 0)) (y 1) = _))
  · frame_out
    exact bodyAct m c t y
  · simp only [at_]; blk_ext [idx t]

/-- The gated merge after the run. -/
theorem final12 (c : Dev nD) : (dats m 0 c).arrAt 12 (cfgs 0).N = merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]
  refine Eq.trans ?_ (congrArg (merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (?_ : ix2 (at_ t (y 0)) (y 1) = _))
  · frame_out [k0_pay8, k0_pay9]
    exact bodyM m c t y
  · simp only [at_]; blk_ext [idx t]

/-- The Conformer mixer’s output after the run. -/
theorem final13 (c : Dev nD) : (dats m 0 c).arrAt 13 (cfgs 0).N = outA (m ((c : Thread nD τ).loc main_arg1)) (m ((c : Thread nD τ).loc main_arg4)) (m ((c : Thread nD τ).loc main_arg5)) (m ((c : Thread nD τ).loc main_arg6)) := by
  refine (dats m 0 c).arrAt_eq_of_covers 13 _ (by decide +kernel) fun t _ y => ?_
  blk_simp
  rw [after0_13]
  refine Eq.trans ?_ (congrArg (outA (m ((c : Thread nD τ).loc main_arg1)) (m ((c : Thread nD τ).loc main_arg4)) (m ((c : Thread nD τ).loc main_arg5)) (m ((c : Thread nD τ).loc main_arg6))) (?_ : ix2 (at_ t (y 0)) (y 1) = _))
  · frame_out
    exact bodyA m c t y
  · simp only [at_]; blk_ext [idx t]

/-- The short mixer’s output after the run. -/
theorem final14 (c : Dev nD) : (dats m 0 c).arrAt 14 (cfgs 0).N = outB (m ((c : Thread nD τ).loc main_arg2)) (m ((c : Thread nD τ).loc main_arg7)) := by
  refine (dats m 0 c).arrAt_eq_of_covers 14 _ (by decide +kernel) fun t _ y => ?_
  blk_simp
  rw [after0_14]
  refine Eq.trans ?_ (congrArg (outB (m ((c : Thread nD τ).loc main_arg2)) (m ((c : Thread nD τ).loc main_arg7))) (?_ : ix2 (at_ t (y 0)) (y 1) = _))
  · frame_out [k0_pay8, k0_pay9]
    exact bodyB m c t y
  · simp only [at_]; blk_ext [idx t]

section Reference

open Cert.Reference9Ideal.Read

variable (h a : FVec Ideal S4096x1024 .f32) (q : FVec Ideal S4096x1024 .bf16) (z : FVec Ideal S7x4096x1024 .bf16)
  (lg lb : FVec Ideal S1x1024 .f32) (wa wb wo : FVec Ideal S1024x1024 .bf16)

theorem ref_ctr : val_main_v11 (F := Ideal) a = fun i => ctr (row a (i 0)) (i 1) := by
  funext i
  pointwise [val_main_v11, val_main_v10, val_main_v9, val_main_v8, val_main_v7, val_main_v6, val_main_cst, val_main_cst_0, ctr, mean, row]

theorem ref_hat : val_main_v23 (F := Ideal) a = fun i => hat (row a (i 0)) (i 1) := by
  unfold val_main_v23 val_main_v22 val_main_v21 val_main_v20 val_main_v19 val_main_v18 val_main_v17 val_main_v16 val_main_v15 val_main_v14 val_main_v13 val_main_v12 val_main_cst_1 val_main_cst_2 val_main_cst_3
  rw [ref_ctr]
  funext i
  pointwise [val_main_v9, val_main_v8, val_main_v7, val_main_v6, val_main_cst, val_main_cst_0, hat, ctr, mean, invRoot, sumsq, row]

theorem ref_norm : val_main_v27 (F := Ideal) a lg lb = fun i => lnorm (row a (i 0)) (row lg 0) (row lb 0) (i 1) := by
  unfold val_main_v27 val_main_v26 val_main_v25 val_main_v24
  rw [ref_hat]
  funext i
  pointwise [lnorm, row]

theorem ref_act : val_main_v28 (F := Ideal) a lg lb = fun i => aRow a lg lb (i 0) (i 1) := by
  unfold val_main_v28 val_main_call0_v5 val_main_call0_v4 val_main_call0_v3 val_main_call0_v2 val_main_call0_v1
    val_main_call0_v0 val_main_call0_cst val_main_call0_cst_0
  rw [ref_norm]
  funext i
  pointwise [aRow, silu, Ideal.logistic, one_eq]

theorem ref_ya : val_main_v30 (F := Ideal) a lg lb wa = fun i => yaRow a lg lb wa (i 0) (i 1) := by
  unfold val_main_v30 val_main_v29
  rw [ref_act]
  funext i
  pointwise [yaRow, mix, row]

theorem ref_yb : val_main_v33 (F := Ideal) q wb = fun i => ybRow q wb (i 0) (i 1) := by
  funext i
  pointwise [val_main_v33, val_main_v32, val_main_v31, ybRow, mix, row]

theorem ref_merged : val_main_v48 (F := Ideal) a q z lg lb wa wb = fun i => mergedRow a q z lg lb wa wb (i 0) (i 1) := by
  unfold val_main_v48 val_main_v47 val_main_v40
  rw [ref_ya, ref_yb]
  funext i
  pointwise [val_main_v46, val_main_v45, val_main_v44, val_main_v43, val_main_v42, val_main_v41, val_main_v39, val_main_v38, val_main_v37, val_main_v36, val_main_v35, val_main_v34, val_main_v5, val_main_v4, val_main_v3, val_main_v2, val_main_v1, val_main_v0, val_main_cst_4, val_main_cst_5, val_main_cst_6, val_main_cst_7, mergedRow, merge, zrow, Ideal.logistic, one_eq]

theorem ref_after : val_main_v51 (F := Ideal) h a q z lg lb wa wb wo = after h a q z lg lb wa wb wo := by
  unfold val_main_v51 val_main_v50 val_main_v49
  rw [ref_merged]
  funext i
  pointwise [after, mix, row]

theorem ref_activation : val_main_v52 (F := Ideal) a lg lb = activation a lg lb := by
  unfold val_main_v52
  rw [ref_act]
  funext i
  pointwise [activation]

theorem ref_m : val_main_v53 (F := Ideal) a q z lg lb wa wb = merged a q z lg lb wa wb := by
  unfold val_main_v53
  rw [ref_merged]
  funext i
  pointwise [merged]

theorem ref_outA : val_main_v54 (F := Ideal) a lg lb wa = outA a lg lb wa := by
  unfold val_main_v54
  rw [ref_ya]
  funext i
  pointwise [outA]

theorem ref_outB : val_main_v55 (F := Ideal) q wb = outB q wb := by
  unfold val_main_v55
  rw [ref_yb]
  funext i
  pointwise [outB]

end Reference

set_option maxHeartbeats 2000000 in
/-- The ninth program's value claim. -/
theorem algebraic : Cert.algebraic_Kernel9Ideal_Reference9Ideal := by
  intro m g m' g' _ hagree
  refine ⟨fun c => after (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), fun c => activation (m ((c : Thread nD τ).loc main_arg1)) (m ((c : Thread nD τ).loc main_arg4)) (m ((c : Thread nD τ).loc main_arg5)), fun c => merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => outA (m ((c : Thread nD τ).loc main_arg1)) (m ((c : Thread nD τ).loc main_arg4)) (m ((c : Thread nD τ).loc main_arg5)) (m ((c : Thread nD τ).loc main_arg6)), fun c => outB (m ((c : Thread nD τ).loc main_arg2)) (m ((c : Thread nD τ).loc main_arg7)), ?_, ?_⟩
  · run_from Cert.Kernel9Ideal.Gen.run_main m g
    · exact final10 m c
    · exact final11 m c
    · exact final12 m c
    · exact final13 m c
    · exact final14 m c
  · refine θ_run_mono (Cert.Reference9Ideal.Value.run m' g') fun r h c => ?_
    obtain ⟨h0, h1, h2, h3, h4, h5, h6, h7, h8⟩ := hagree c
    obtain ⟨r0, r1, r2, r3, r4, rest⟩ := h c
    refine ⟨r0.trans ((Cert.Reference9Ideal.Read.val_main_v51_eq m' c).trans ?_), r1.trans ((Cert.Reference9Ideal.Read.val_main_v52_eq _ _ _).trans ?_),
      r2.trans ((Cert.Reference9Ideal.Read.val_main_v53_eq m' c).trans ?_), r3.trans ((Cert.Reference9Ideal.Read.val_main_v54_eq _ _ _ _).trans ?_),
      r4.trans ((Cert.Reference9Ideal.Read.val_main_v55_eq _ _).trans ?_), rest⟩
    · rw [h0, h1, h2, h3, h4, h5, h6, h7, h8]; exact ref_after _ _ _ _ _ _ _ _ _
    · rw [h1, h4, h5]; exact ref_activation _ _ _
    · rw [h1, h2, h3, h4, h5, h6, h7]; exact ref_m _ _ _ _ _ _ _
    · rw [h1, h4, h5, h6]; exact ref_outA _ _ _ _
    · rw [h2, h7]; exact ref_outB _ _

end Cert.Kernel9Ideal.MixOut

end
-- ==== Proof.Step.lean ====
/-
  One step of the optimiser, entry by entry: the two moments move towards the gradient and its square, and the weight's
  update is the corrected first moment over the root of the corrected second, with the weight's decay.
-/
module

public import Idealize.ShloMosaic.PureOps.Ideal
public import Idealize.ShloMosaic.PureOps

@[expose] public section

noncomputable section

namespace Cert.Step

open Idealize.ShloMosaic

/-- The new first moment. -/
def first (g u : EReal) : EReal := Ideal.ofBits .f32 0x3F666666#32 * u + Ideal.ofBits .f32 0x3DCCCCCD#32 * g

/-- The new second moment. -/
def second (g v : EReal) : EReal := Ideal.ofBits .f32 0x3F7FBE77#32 * v + Ideal.ofBits .f32 0x3A83126F#32 * (g * g)

/-- What is added to the weight. -/
def update (w g u v : EReal) : EReal :=
  Ideal.ofBits .f32 0xBA83126F#32 * (Ideal.div (Ideal.div (first g u) (Ideal.ofBits .f32 0x3F26BD02#32))
    (Ideal.sqrt (Ideal.div (second g v) (Ideal.ofBits .f32 0x3C231ACC#32)) + Ideal.ofBits .f32 0x322BCC77#32)
      + Ideal.ofBits .f32 0x3C23D70A#32 * w)

/-- The new first moments of an array. -/
def firsts {s : Shape} (g u : FVec Ideal s .f32) : FVec Ideal s .f32 := fun i => first (g i) (u i)

/-- The new second moments of an array. -/
def seconds {s : Shape} (g v : FVec Ideal s .f32) : FVec Ideal s .f32 := fun i => second (g i) (v i)

/-- What is added to an array of weights. -/
def updates {s : Shape} (w g u v : FVec Ideal s .f32) : FVec Ideal s .f32 := fun i => update (w i) (g i) (u i) (v i)

end Cert.Step

end
-- ==== Proof.WinStep.lean ====
/-
  The optimiser's step of the mixer's input projection (the tenth program).
-/
module

public import proofs.«01_k».proof.Defs
public import proofs.«01_k».proof.Proof.Step
public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel10Ideal.WinStep

open Idealize.ShloMosaic Idealize.ShloMosaic.TcCoe Idealize.SL.Sem
open Idealize.ShloMosaic.Pipeline (Dat)
open Cert.Kernel10Ideal Cert.Kernel10Ideal.Gen Cert.Step

variable (m : (ℓ : Loc nD τ sig) → Buf (Elt Ideal) ℓ)

/-- Which block each window holds at a grid point: 256 rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Weight 0's update after the run. -/
theorem final4 (c : Dev nD) : (dats m 0 c).arrAt 4 (cfgs 0).N = updates (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay3, k0_pay1, k0_pay2, updates, update, first, second]
  blk_point [iblk, V, idx t]

/-- Weight 0's new first moment after the run. -/
theorem final5 (c : Dev nD) : (dats m 0 c).arrAt 5 (cfgs 0).N = firsts (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, firsts, update, first, second]
  blk_point [iblk, V, idx t]

/-- Weight 0's new second moment after the run. -/
theorem final6 (c : Dev nD) : (dats m 0 c).arrAt 6 (cfgs 0).N = seconds (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay2, seconds, update, first, second]
  blk_point [iblk, V, idx t]

section Reference

open Cert.Reference10Ideal.Read

variable (w g u v : FVec Ideal S1024x1792 .f32)

theorem ref_v23 : val_main_v23 (F := Ideal) w g u v = updates w g u v := by
  funext i
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, updates, update, first, second]

theorem ref_v4 : val_main_v4 (F := Ideal) g u = firsts g u := by
  funext i
  pointwise [val_main_v4, val_main_v1, val_main_v0, val_main_cst, val_main_v3, val_main_v2, val_main_cst_0, firsts, update, first, second]

theorem ref_v10 : val_main_v10 (F := Ideal) g v = seconds g v := by
  funext i
  pointwise [val_main_v10, val_main_v6, val_main_v5, val_main_cst_1, val_main_v9, val_main_v8, val_main_cst_2, val_main_v7, seconds, update, first, second]

end Reference

/-- The tenth program's value claim. -/
theorem algebraic : Cert.algebraic_Kernel10Ideal_Reference10Ideal := by
  intro m g m' g' _ hagree
  refine ⟨fun c => updates (m ((c : Thread nD τ).loc main_arg0)) (m ((c : Thread nD τ).loc main_arg1)) (m ((c : Thread nD τ).loc main_arg2)) (m ((c : Thread nD τ).loc main_arg3)), fun c => firsts (m ((c : Thread nD τ).loc main_arg1)) (m ((c : Thread nD τ).loc main_arg2)), fun c => seconds (m ((c : Thread nD τ).loc main_arg1)) (m ((c : Thread nD τ).loc main_arg3)), ?_, ?_⟩
  · run_from Cert.Kernel10Ideal.Gen.run_main m g
    · exact final4 m c
    · exact final5 m c
    · exact final6 m c
  · refine θ_run_mono (Cert.Reference10Ideal.Value.run m' g') fun r h c => ?_
    obtain ⟨h0, h1, h2, h3⟩ := hagree c
    obtain ⟨r0, r1, r2, rest⟩ := h c
    refine ⟨r0.trans ((Cert.Reference10Ideal.Read.val_main_v23_eq _ _ _ _).trans ?_), r1.trans ((Cert.Reference10Ideal.Read.val_main_v4_eq _ _).trans ?_), r2.trans ((Cert.Reference10Ideal.Read.val_main_v10_eq _ _).trans ?_), rest⟩
    · rw [h0, h1, h2, h3]; exact ref_v23 _ _ _ _
    · rw [h1, h2]; exact ref_v4 _ _
    · rw [h1, h3]; exact ref_v10 _ _

end Cert.Kernel10Ideal.WinStep

end
-- ==== Proof.OutStep.lean ====
/-
  The optimiser's step of the mixers' output projections and of the merged one (the eleventh program).
-/
module

public import proofs.«01_k».proof.Defs
public import proofs.«01_k».proof.Proof.Step
public import proofs.«01_k».proof.Proof.Gen.Kernel11Ideal.Frame
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel11Ideal.OutStep

open Idealize.ShloMosaic Idealize.ShloMosaic.TcCoe Idealize.SL.Sem
open Idealize.ShloMosaic.Pipeline (Dat)
open Cert.Kernel11Ideal Cert.Kernel11Ideal.Gen Cert.Step

variable (m : (ℓ : Loc nD τ sig) → Buf (Elt Ideal) ℓ)

/-- Which block each window holds at a grid point: 128 rows. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- Weight 0's update after the run. -/
theorem final12 (c : Dev nD) : (dats m 0 c).arrAt 12 (cfgs 0).N = updates (m ((c : Thread nD τ).loc main_arg0)) (m ((c : Thread nD τ).loc main_arg3)) (m ((c : Thread nD τ).loc main_arg6)) (m ((c : Thread nD τ).loc main_arg9)) := by
  refine (dats m 0 c).arrAt_eq_of_covers 12 _ (by decide +kernel) fun t _ y => ?_
  blk_simp
  rw [after0_12]
  frame_out
  pointwise [k0_pay6, k0_pay4, k0_pay5, updates, update, first, second]
  blk_point [iblk, V, idx t]

/-- Weight 1's update after the run. -/
theorem final13 (c : Dev nD) : (dats m 0 c).arrAt 13 (cfgs 0).N = updates (m ((c : Thread nD τ).loc main_arg1)) (m ((c : Thread nD τ).loc main_arg4)) (m ((c : Thread nD τ).loc main_arg7)) (m ((c : Thread nD τ).loc main_arg10)) := by
  refine (dats m 0 c).arrAt_eq_of_covers 13 _ (by decide +kernel) fun t _ y => ?_
  blk_simp
  rw [after0_13]
  frame_out
  pointwise [k0_pay9, k0_pay7, k0_pay8, updates, update, first, second]
  blk_point [iblk, V, idx t]

/-- Weight 2's update after the run. -/
theorem final14 (c : Dev nD) : (dats m 0 c).arrAt 14 (cfgs 0).N = updates (m ((c : Thread nD τ).loc main_arg2)) (m ((c : Thread nD τ).loc main_arg5)) (m ((c : Thread nD τ).loc main_arg8)) (m ((c : Thread nD τ).loc main_arg11)) := by
  refine (dats m 0 c).arrAt_eq_of_covers 14 _ (by decide +kernel) fun t _ y => ?_
  blk_simp
  rw [after0_14]
  frame_out
  pointwise [k0_pay3, k0_pay1, k0_pay2, updates, update, first, second]
  blk_point [iblk, V, idx t]

/-- Weight 0's new first moment after the run. -/
theorem final15 (c : Dev nD) : (dats m 0 c).arrAt 15 (cfgs 0).N = firsts (m ((c : Thread nD τ).loc main_arg3)) (m ((c : Thread nD τ).loc main_arg6)) := by
  refine (dats m 0 c).arrAt_eq_of_covers 15 _ (by decide +kernel) fun t _ y => ?_
  blk_simp
  rw [after0_15]
  frame_out
  pointwise [k0_pay4, firsts, update, first, second]
  blk_point [iblk, V, idx t]

/-- Weight 1's new first moment after the run. -/
theorem final16 (c : Dev nD) : (dats m 0 c).arrAt 16 (cfgs 0).N = firsts (m ((c : Thread nD τ).loc main_arg4)) (m ((c : Thread nD τ).loc main_arg7)) := by
  refine (dats m 0 c).arrAt_eq_of_covers 16 _ (by decide +kernel) fun t _ y => ?_
  blk_simp
  rw [after0_16]
  frame_out
  pointwise [k0_pay7, firsts, update, first, second]
  blk_point [iblk, V, idx t]

/-- Weight 2's new first moment after the run. -/
theorem final17 (c : Dev nD) : (dats m 0 c).arrAt 17 (cfgs 0).N = firsts (m ((c : Thread nD τ).loc main_arg5)) (m ((c : Thread nD τ).loc main_arg8)) := by
  refine (dats m 0 c).arrAt_eq_of_covers 17 _ (by decide +kernel) fun t _ y => ?_
  blk_simp
  rw [after0_17]
  frame_out
  pointwise [k0_pay1, firsts, update, first, second]
  blk_point [iblk, V, idx t]

/-- Weight 0's new second moment after the run. -/
theorem final18 (c : Dev nD) : (dats m 0 c).arrAt 18 (cfgs 0).N = seconds (m ((c : Thread nD τ).loc main_arg3)) (m ((c : Thread nD τ).loc main_arg9)) := by
  refine (dats m 0 c).arrAt_eq_of_covers 18 _ (by decide +kernel) fun t _ y => ?_
  blk_simp
  rw [after0_18]
  frame_out
  pointwise [k0_pay5, seconds, update, first, second]
  blk_point [iblk, V, idx t]

/-- Weight 1's new second moment after the run. -/
theorem final19 (c : Dev nD) : (dats m 0 c).arrAt 19 (cfgs 0).N = seconds (m ((c : Thread nD τ).loc main_arg4)) (m ((c : Thread nD τ).loc main_arg10)) := by
  refine (dats m 0 c).arrAt_eq_of_covers 19 _ (by decide +kernel) fun t _ y => ?_
  blk_simp
  rw [after0_19]
  frame_out
  pointwise [k0_pay8, seconds, update, first, second]
  blk_point [iblk, V, idx t]

/-- Weight 2's new second moment after the run. -/
theorem final20 (c : Dev nD) : (dats m 0 c).arrAt 20 (cfgs 0).N = seconds (m ((c : Thread nD τ).loc main_arg5)) (m ((c : Thread nD τ).loc main_arg11)) := by
  refine (dats m 0 c).arrAt_eq_of_covers 20 _ (by decide +kernel) fun t _ y => ?_
  blk_simp
  rw [after0_20]
  frame_out
  pointwise [k0_pay2, seconds, update, first, second]
  blk_point [iblk, V, idx t]

section Reference

open Cert.Reference11Ideal.Read

variable (w g u v : FVec Ideal S256x1024 .f32)

theorem ref_v23 : val_main_v23 (F := Ideal) w g u v = updates w g u v := by
  funext i
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, updates, update, first, second]

theorem ref_v47 : val_main_v47 (F := Ideal) w g u v = updates w g u v := by
  funext i
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15, updates, update, first, second]

theorem ref_v71 : val_main_v71 (F := Ideal) w g u v = updates w g u v := by
  funext i
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24, updates, update, first, second]

theorem ref_v4 : val_main_v4 (F := Ideal) g u = firsts g u := by
  funext i
  pointwise [val_main_v4, val_main_v1, val_main_v0, val_main_cst, val_main_v3, val_main_v2, val_main_cst_0, firsts, update, first, second]

theorem ref_v28 : val_main_v28 (F := Ideal) g u = firsts g u := by
  funext i
  pointwise [val_main_v28, val_main_v25, val_main_v24, val_main_cst_8, val_main_v27, val_main_v26, val_main_cst_9, firsts, update, first, second]

theorem ref_v52 : val_main_v52 (F := Ideal) g u = firsts g u := by
  funext i
  pointwise [val_main_v52, val_main_v49, val_main_v48, val_main_cst_17, val_main_v51, val_main_v50, val_main_cst_18, firsts, update, first, second]

theorem ref_v10 : val_main_v10 (F := Ideal) g v = seconds g v := by
  funext i
  pointwise [val_main_v10, val_main_v6, val_main_v5, val_main_cst_1, val_main_v9, val_main_v8, val_main_cst_2, val_main_v7, seconds, update, first, second]

theorem ref_v34 : val_main_v34 (F := Ideal) g v = seconds g v := by
  funext i
  pointwise [val_main_v34, val_main_v30, val_main_v29, val_main_cst_10, val_main_v33, val_main_v32, val_main_cst_11, val_main_v31, seconds, update, first, second]

theorem ref_v58 : val_main_v58 (F := Ideal) g v = seconds g v := by
  funext i
  pointwise [val_main_v58, val_main_v54, val_main_v53, val_main_cst_19, val_main_v57, val_main_v56, val_main_cst_20, val_main_v55, seconds, update, first, second]

end Reference

set_option maxHeartbeats 4000000 in
/-- The eleventh program's value claim. -/
theorem algebraic : Cert.algebraic_Kernel11Ideal_Reference11Ideal := by
  intro m g m' g' _ hagree
  refine ⟨fun c => updates (m ((c : Thread nD τ).loc main_arg0)) (m ((c : Thread nD τ).loc main_arg3)) (m ((c : Thread nD τ).loc main_arg6)) (m ((c : Thread nD τ).loc main_arg9)), fun c => updates (m ((c : Thread nD τ).loc main_arg1)) (m ((c : Thread nD τ).loc main_arg4)) (m ((c : Thread nD τ).loc main_arg7)) (m ((c : Thread nD τ).loc main_arg10)), fun c => updates (m ((c : Thread nD τ).loc main_arg2)) (m ((c : Thread nD τ).loc main_arg5)) (m ((c : Thread nD τ).loc main_arg8)) (m ((c : Thread nD τ).loc main_arg11)), fun c => firsts (m ((c : Thread nD τ).loc main_arg3)) (m ((c : Thread nD τ).loc main_arg6)), fun c => firsts (m ((c : Thread nD τ).loc main_arg4)) (m ((c : Thread nD τ).loc main_arg7)), fun c => firsts (m ((c : Thread nD τ).loc main_arg5)) (m ((c : Thread nD τ).loc main_arg8)), fun c => seconds (m ((c : Thread nD τ).loc main_arg3)) (m ((c : Thread nD τ).loc main_arg9)), fun c => seconds (m ((c : Thread nD τ).loc main_arg4)) (m ((c : Thread nD τ).loc main_arg10)), fun c => seconds (m ((c : Thread nD τ).loc main_arg5)) (m ((c : Thread nD τ).loc main_arg11)), ?_, ?_⟩
  · refine θ_run_mono (θ_run_and (Cert.Kernel11Ideal.Gen.run_main m g) (Cert.Kernel11Ideal.Gen.unchanged m g)) fun r h c => ?_
    have hc := h.1 c
    exact ⟨(hc.1 12).trans (final12 m c), (hc.1 13).trans (final13 m c), (hc.1 14).trans (final14 m c), (hc.1 15).trans (final15 m c), (hc.1 16).trans (final16 m c), (hc.1 17).trans (final17 m c), (hc.1 18).trans (final18 m c), (hc.1 19).trans (final19 m c), (hc.1 20).trans (final20 m c), h.2 c⟩
  · refine θ_run_mono (Cert.Reference11Ideal.Value.run m' g') fun r h c => ?_
    obtain ⟨h0, h1, h2, h3, h4, h5, h6, h7, h8, h9, h10, h11⟩ := hagree c
    obtain ⟨r0, r1, r2, r3, r4, r5, r6, r7, r8, rest⟩ := h c
    refine ⟨r0.trans ((Cert.Reference11Ideal.Read.val_main_v23_eq _ _ _ _).trans ?_), r1.trans ((Cert.Reference11Ideal.Read.val_main_v47_eq _ _ _ _).trans ?_), r2.trans ((Cert.Reference11Ideal.Read.val_main_v71_eq _ _ _ _).trans ?_), r3.trans ((Cert.Reference11Ideal.Read.val_main_v4_eq _ _).trans ?_), r4.trans ((Cert.Reference11Ideal.Read.val_main_v28_eq _ _).trans ?_), r5.trans ((Cert.Reference11Ideal.Read.val_main_v52_eq _ _).trans ?_), r6.trans ((Cert.Reference11Ideal.Read.val_main_v10_eq _ _).trans ?_), r7.trans ((Cert.Reference11Ideal.Read.val_main_v34_eq _ _).trans ?_), r8.trans ((Cert.Reference11Ideal.Read.val_main_v58_eq _ _).trans ?_), rest⟩
    · rw [h0, h3, h6, h9]; exact ref_v23 _ _ _ _
    · rw [h1, h4, h7, h10]; exact ref_v47 _ _ _ _
    · rw [h2, h5, h8, h11]; exact ref_v71 _ _ _ _
    · rw [h3, h6]; exact ref_v4 _ _
    · rw [h4, h7]; exact ref_v28 _ _
    · rw [h5, h8]; exact ref_v52 _ _
    · rw [h3, h9]; exact ref_v10 _ _
    · rw [h4, h10]; exact ref_v34 _ _
    · rw [h5, h11]; exact ref_v58 _ _

end Cert.Kernel11Ideal.OutStep

end
-- ==== Proof.FfnFrame.lean ====
/- The frame of the optimiser's step of the feed-forward weights (the twelfth program): what each
   window holds after the body at a point, the body's triple, and the run of the program from any launch. It follows the
   generated frame line by line, at limits that forty-two windows fit in. -/
module

public import proofs.«01_k».proof.Proof.Gen.Kernel12Ideal.Launch
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- rectangles at these extents need a deep recursion, one step per coordinate of the long axes
set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 2520000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel12Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c)))⟩) h

/-! ## The body's accesses -/

abbrev r0_0 : Rect S64x1024 := Rect.unit (s := S64x1024) ![0, 0] S64x1024.size inb_S64x1024_S64x1024_0_0

/-! ## What the body leaves in each output window's buffer -/

/-! ### Values of the body that the stores' payloads, spelt out, would write more than once

    Each is a vector the body binds (often a part call's result), stated over the input windows' blocks and
    numbered on from the skeleton's payload functions (`k0_pay20` …, after `k0_pay19`), so that
    `out0_W` and the values after it name it instead of spelling it out; the comment after each is the printed
    function's name for the value (a count appended where that name is bound again). -/

def k0_pay20 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : FVec F S64x1024 .f32 :=
  k0_pay19 (F := F) -- `v159`

/-- Window 24's staging buffer after the body, from the input windows' blocks: its 1 store as pieces, LAST
    FIRST (Lib/Pipeline/FrameBody.lean `View.canon`; the payloads are the skeleton's and the values stated above). -/
def out0_24 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay6 (View.ld x0 r0_0) (View.ld x6 r0_0) (View.ld x12 r0_0) (View.ld x18 r0_0)⟩]

/-- Its stores tile the buffer (checked by evaluation), so they cover it. -/
theorem cover0_24 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 25's staging buffer after the body, from the input windows' blocks: its 1 store as pieces, LAST
    FIRST (Lib/Pipeline/FrameBody.lean `View.canon`; the payloads are the skeleton's and the values stated above). -/
def out0_25 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay9 (View.ld x1 r0_0) (View.ld x7 r0_0) (View.ld x13 r0_0) (View.ld x19 r0_0)⟩]

/-- Its stores tile the buffer (checked by evaluation), so they cover it. -/
theorem cover0_25 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 26's staging buffer after the body, from the input windows' blocks: its 1 store as pieces, LAST
    FIRST (Lib/Pipeline/FrameBody.lean `View.canon`; the payloads are the skeleton's and the values stated above). -/
def out0_26 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay12 (View.ld x2 r0_0) (View.ld x8 r0_0) (View.ld x14 r0_0) (View.ld x20 r0_0)⟩]

/-- Its stores tile the buffer (checked by evaluation), so they cover it. -/
theorem cover0_26 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 27's staging buffer after the body, from the input windows' blocks: its 1 store as pieces, LAST
    FIRST (Lib/Pipeline/FrameBody.lean `View.canon`; the payloads are the skeleton's and the values stated above). -/
def out0_27 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay15 (View.ld x3 r0_0) (View.ld x9 r0_0) (View.ld x15 r0_0) (View.ld x21 r0_0)⟩]

/-- Its stores tile the buffer (checked by evaluation), so they cover it. -/
theorem cover0_27 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 28's staging buffer after the body, from the input windows' blocks: its 1 store as pieces, LAST
    FIRST (Lib/Pipeline/FrameBody.lean `View.canon`; the payloads are the skeleton's and the values stated above). -/
def out0_28 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay18 (View.ld x4 r0_0) (View.ld x10 r0_0) (View.ld x16 r0_0) (View.ld x22 r0_0)⟩]

/-- Its stores tile the buffer (checked by evaluation), so they cover it. -/
theorem cover0_28 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 29's staging buffer after the body, from the input windows' blocks: its 1 store as pieces, LAST
    FIRST (Lib/Pipeline/FrameBody.lean `View.canon`; the payloads are the skeleton's and the values stated above). -/
def out0_29 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay3 (View.ld x5 r0_0) (View.ld x11 r0_0) (View.ld x17 r0_0) (View.ld x23 r0_0) (k0_pay20 x0 x1 x2 x3 x4 x5 x6 x7 x8 x9 x10 x11 x12 x13 x14 x15 x16 x17 x18 x19 x20 x21 x22 x23)⟩]

/-- Its stores tile the buffer (checked by evaluation), so they cover it. -/
theorem cover0_29 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 30's staging buffer after the body, from the input windows' blocks: its 1 store as pieces, LAST
    FIRST (Lib/Pipeline/FrameBody.lean `View.canon`; the payloads are the skeleton's and the values stated above). -/
def out0_30 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay4 (View.ld x6 r0_0) (View.ld x12 r0_0)⟩]

/-- Its stores tile the buffer (checked by evaluation), so they cover it. -/
theorem cover0_30 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 31's staging buffer after the body, from the input windows' blocks: its 1 store as pieces, LAST
    FIRST (Lib/Pipeline/FrameBody.lean `View.canon`; the payloads are the skeleton's and the values stated above). -/
def out0_31 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay7 (View.ld x7 r0_0) (View.ld x13 r0_0)⟩]

/-- Its stores tile the buffer (checked by evaluation), so they cover it. -/
theorem cover0_31 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 32's staging buffer after the body, from the input windows' blocks: its 1 store as pieces, LAST
    FIRST (Lib/Pipeline/FrameBody.lean `View.canon`; the payloads are the skeleton's and the values stated above). -/
def out0_32 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay10 (View.ld x8 r0_0) (View.ld x14 r0_0)⟩]

/-- Its stores tile the buffer (checked by evaluation), so they cover it. -/
theorem cover0_32 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 33's staging buffer after the body, from the input windows' blocks: its 1 store as pieces, LAST
    FIRST (Lib/Pipeline/FrameBody.lean `View.canon`; the payloads are the skeleton's and the values stated above). -/
def out0_33 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay13 (View.ld x9 r0_0) (View.ld x15 r0_0)⟩]

/-- Its stores tile the buffer (checked by evaluation), so they cover it. -/
theorem cover0_33 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 34's staging buffer after the body, from the input windows' blocks: its 1 store as pieces, LAST
    FIRST (Lib/Pipeline/FrameBody.lean `View.canon`; the payloads are the skeleton's and the values stated above). -/
def out0_34 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay16 (View.ld x10 r0_0) (View.ld x16 r0_0)⟩]

/-- Its stores tile the buffer (checked by evaluation), so they cover it. -/
theorem cover0_34 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 35's staging buffer after the body, from the input windows' blocks: its 1 store as pieces, LAST
    FIRST (Lib/Pipeline/FrameBody.lean `View.canon`; the payloads are the skeleton's and the values stated above). -/
def out0_35 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay1 (View.ld x11 r0_0) (View.ld x17 r0_0) (k0_pay20 x0 x1 x2 x3 x4 x5 x6 x7 x8 x9 x10 x11 x12 x13 x14 x15 x16 x17 x18 x19 x20 x21 x22 x23)⟩]

/-- Its stores tile the buffer (checked by evaluation), so they cover it. -/
theorem cover0_35 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 36's staging buffer after the body, from the input windows' blocks: its 1 store as pieces, LAST
    FIRST (Lib/Pipeline/FrameBody.lean `View.canon`; the payloads are the skeleton's and the values stated above). -/
def out0_36 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay5 (View.ld x6 r0_0) (View.ld x18 r0_0)⟩]

/-- Its stores tile the buffer (checked by evaluation), so they cover it. -/
theorem cover0_36 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 37's staging buffer after the body, from the input windows' blocks: its 1 store as pieces, LAST
    FIRST (Lib/Pipeline/FrameBody.lean `View.canon`; the payloads are the skeleton's and the values stated above). -/
def out0_37 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay8 (View.ld x7 r0_0) (View.ld x19 r0_0)⟩]

/-- Its stores tile the buffer (checked by evaluation), so they cover it. -/
theorem cover0_37 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 38's staging buffer after the body, from the input windows' blocks: its 1 store as pieces, LAST
    FIRST (Lib/Pipeline/FrameBody.lean `View.canon`; the payloads are the skeleton's and the values stated above). -/
def out0_38 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay11 (View.ld x8 r0_0) (View.ld x20 r0_0)⟩]

/-- Its stores tile the buffer (checked by evaluation), so they cover it. -/
theorem cover0_38 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 39's staging buffer after the body, from the input windows' blocks: its 1 store as pieces, LAST
    FIRST (Lib/Pipeline/FrameBody.lean `View.canon`; the payloads are the skeleton's and the values stated above). -/
def out0_39 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay14 (View.ld x9 r0_0) (View.ld x21 r0_0)⟩]

/-- Its stores tile the buffer (checked by evaluation), so they cover it. -/
theorem cover0_39 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 40's staging buffer after the body, from the input windows' blocks: its 1 store as pieces, LAST
    FIRST (Lib/Pipeline/FrameBody.lean `View.canon`; the payloads are the skeleton's and the values stated above). -/
def out0_40 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay17 (View.ld x10 r0_0) (View.ld x22 r0_0)⟩]

/-- Its stores tile the buffer (checked by evaluation), so they cover it. -/
theorem cover0_40 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-- Window 41's staging buffer after the body, from the input windows' blocks: its 1 store as pieces, LAST
    FIRST (Lib/Pipeline/FrameBody.lean `View.canon`; the payloads are the skeleton's and the values stated above). -/
def out0_41 (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) : Vec F S64x1024 .f32 :=
  View.canon [⟨r0_0, k0_pay2 (View.ld x11 r0_0) (View.ld x23 r0_0)⟩]

/-- Its stores tile the buffer (checked by evaluation), so they cover it. -/
theorem cover0_41 (p0 : Vec F S64x1024 .f32) (y : S64x1024.Idx) :
    ∃ pc ∈ ([⟨r0_0, p0⟩] : List (View.Piece (Elt F) S64x1024 .f32)), y ∈ pc.1.set :=
  View.cover_of_tiled [⟨r0_0, p0⟩] S64x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S64x1024 .f32) (harg21 : arg21.IsWhole) (arg22 : Memref sig .tc .vmem S64x1024 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S64x1024 .f32) (harg27 : arg27.IsWhole) (arg28 : Memref sig .tc .vmem S64x1024 .f32) (harg28 : arg28.IsWhole) (arg29 : Memref sig .tc .vmem S64x1024 .f32) (harg29 : arg29.IsWhole) (arg30 : Memref sig .tc .vmem S64x1024 .f32) (harg30 : arg30.IsWhole) (arg31 : Memref sig .tc .vmem S64x1024 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (arg42 : Memref sig .tc .vmem S64x1024 .f32) (harg42 : arg42.IsWhole)
    (x0 : Vec F S64x1024 .f32) (x1 : Vec F S64x1024 .f32) (x2 : Vec F S64x1024 .f32) (x3 : Vec F S64x1024 .f32) (x4 : Vec F S64x1024 .f32) (x5 : Vec F S64x1024 .f32) (x6 : Vec F S64x1024 .f32) (x7 : Vec F S64x1024 .f32) (x8 : Vec F S64x1024 .f32) (x9 : Vec F S64x1024 .f32) (x10 : Vec F S64x1024 .f32) (x11 : Vec F S64x1024 .f32) (x12 : Vec F S64x1024 .f32) (x13 : Vec F S64x1024 .f32) (x14 : Vec F S64x1024 .f32) (x15 : Vec F S64x1024 .f32) (x16 : Vec F S64x1024 .f32) (x17 : Vec F S64x1024 .f32) (x18 : Vec F S64x1024 .f32) (x19 : Vec F S64x1024 .f32) (x20 : Vec F S64x1024 .f32) (x21 : Vec F S64x1024 .f32) (x22 : Vec F S64x1024 .f32) (x23 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 x0 x1 x2 x3 x4 x5 x6 x7 x8 x9 x10 x11 x12 x13 x14 x15 x16 x17 x18 x19 x20 x21 x22 x23) ∗ owns (c : Thread nD τ) arg26 fullShare (out0_25 x0 x1 x2 x3 x4 x5 x6 x7 x8 x9 x10 x11 x12 x13 x14 x15 x16 x17 x18 x19 x20 x21 x22 x23) ∗ owns (c : Thread nD τ) arg27 fullShare (out0_26 x0 x1 x2 x3 x4 x5 x6 x7 x8 x9 x10 x11 x12 x13 x14 x15 x16 x17 x18 x19 x20 x21 x22 x23) ∗ owns (c : Thread nD τ) arg28 fullShare (out0_27 x0 x1 x2 x3 x4 x5 x6 x7 x8 x9 x10 x11 x12 x13 x14 x15 x16 x17 x18 x19 x20 x21 x22 x23) ∗ owns (c : Thread nD τ) arg29 fullShare (out0_28 x0 x1 x2 x3 x4 x5 x6 x7 x8 x9 x10 x11 x12 x13 x14 x15 x16 x17 x18 x19 x20 x21 x22 x23) ∗ owns (c : Thread nD τ) arg30 fullShare (out0_29 x0 x1 x2 x3 x4 x5 x6 x7 x8 x9 x10 x11 x12 x13 x14 x15 x16 x17 x18 x19 x20 x21 x22 x23) ∗ owns (c : Thread nD τ) arg31 fullShare (out0_30 x0 x1 x2 x3 x4 x5 x6 x7 x8 x9 x10 x11 x12 x13 x14 x15 x16 x17 x18 x19 x20 x21 x22 x23) ∗ owns (c : Thread nD τ) arg32 fullShare (out0_31 x0 x1 x2 x3 x4 x5 x6 x7 x8 x9 x10 x11 x12 x13 x14 x15 x16 x17 x18 x19 x20 x21 x22 x23) ∗ owns (c : Thread nD τ) arg33 fullShare (out0_32 x0 x1 x2 x3 x4 x5 x6 x7 x8 x9 x10 x11 x12 x13 x14 x15 x16 x17 x18 x19 x20 x21 x22 x23) ∗ owns (c : Thread nD τ) arg34 fullShare (out0_33 x0 x1 x2 x3 x4 x5 x6 x7 x8 x9 x10 x11 x12 x13 x14 x15 x16 x17 x18 x19 x20 x21 x22 x23) ∗ owns (c : Thread nD τ) arg35 fullShare (out0_34 x0 x1 x2 x3 x4 x5 x6 x7 x8 x9 x10 x11 x12 x13 x14 x15 x16 x17 x18 x19 x20 x21 x22 x23) ∗ owns (c : Thread nD τ) arg36 fullShare (out0_35 x0 x1 x2 x3 x4 x5 x6 x7 x8 x9 x10 x11 x12 x13 x14 x15 x16 x17 x18 x19 x20 x21 x22 x23) ∗ owns (c : Thread nD τ) arg37 fullShare (out0_36 x0 x1 x2 x3 x4 x5 x6 x7 x8 x9 x10 x11 x12 x13 x14 x15 x16 x17 x18 x19 x20 x21 x22 x23) ∗ owns (c : Thread nD τ) arg38 fullShare (out0_37 x0 x1 x2 x3 x4 x5 x6 x7 x8 x9 x10 x11 x12 x13 x14 x15 x16 x17 x18 x19 x20 x21 x22 x23) ∗ owns (c : Thread nD τ) arg39 fullShare (out0_38 x0 x1 x2 x3 x4 x5 x6 x7 x8 x9 x10 x11 x12 x13 x14 x15 x16 x17 x18 x19 x20 x21 x22 x23) ∗ owns (c : Thread nD τ) arg40 fullShare (out0_39 x0 x1 x2 x3 x4 x5 x6 x7 x8 x9 x10 x11 x12 x13 x14 x15 x16 x17 x18 x19 x20 x21 x22 x23) ∗ owns (c : Thread nD τ) arg41 fullShare (out0_40 x0 x1 x2 x3 x4 x5 x6 x7 x8 x9 x10 x11 x12 x13 x14 x15 x16 x17 x18 x19 x20 x21 x22 x23) ∗ owns (c : Thread nD τ) arg42 fullShare (out0_41 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0_ffn_adamw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K := by
  simp only [cc0_ffn_adamw_eq_skeleton]; unfold cc0_ffn_adamw_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  iexists _; isplitr
  swap; · iexact H41
  ipureintro
  refine (View.read_writes_eq_canon _ _ _ (cover0_41 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨41, _⟩ => out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 42, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_41 (c : Dev nD) (t : Fin cfg0.N) : (dats m 0 c).after 41 t = out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t))

set_option maxHeartbeats 20000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  iexact H41

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

/-- THE FRAME: `Cert.quiescent_Kernel12Ideal`'s statement (Defs.lean) at any `F` — Proof.lean cites it at `Bits`:
    `theorem Cert.Proof.claim : Cert.Claim := ⟨Cert.Kernel12Ideal.Gen.facts, fun m ρ _ => Cert.Kernel12Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.Kernel12Ideal.Gen

end
-- ==== Proof.FfnBlocks.lean ====
/-
  The optimiser's step of the six feed-forward weights (the twelfth program): which rows each window holds.
-/
module

public import proofs.«01_k».proof.Proof.Gen.Kernel12Ideal.Launch
public import Idealize.ShloMosaic.Lib.Pipeline.ValueKit
public import Idealize.ShloMosaic.Lib.Pointwise

@[expose] public section

set_option maxRecDepth 16384

noncomputable section

namespace Cert.Kernel12Ideal.FfnStep

open Idealize.ShloMosaic Idealize.ShloMosaic.TcCoe Idealize.SL.Sem
open Idealize.ShloMosaic.Pipeline (Dat)
open Cert.Kernel12Ideal Cert.Kernel12Ideal.Gen

/-! Each window holds 64 rows. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)
theorem idx22 : ∀ t : Fin cfg0.N, win0_22.index t = ![t.val, 0] := (by decide +kernel : ∀ t : Fin grid0.N, _)
theorem idx23 : ∀ t : Fin cfg0.N, win0_23.index t = ![t.val, 0] := (by decide +kernel : ∀ t : Fin grid0.N, _)
theorem idx24 : ∀ t : Fin cfg0.N, win0_24.index t = ![t.val, 0] := (by decide +kernel : ∀ t : Fin grid0.N, _)
theorem idx25 : ∀ t : Fin cfg0.N, win0_25.index t = ![t.val, 0] := (by decide +kernel : ∀ t : Fin grid0.N, _)
theorem idx26 : ∀ t : Fin cfg0.N, win0_26.index t = ![t.val, 0] := (by decide +kernel : ∀ t : Fin grid0.N, _)
theorem idx27 : ∀ t : Fin cfg0.N, win0_27.index t = ![t.val, 0] := (by decide +kernel : ∀ t : Fin grid0.N, _)
theorem idx28 : ∀ t : Fin cfg0.N, win0_28.index t = ![t.val, 0] := (by decide +kernel : ∀ t : Fin grid0.N, _)
theorem idx29 : ∀ t : Fin cfg0.N, win0_29.index t = ![t.val, 0] := (by decide +kernel : ∀ t : Fin grid0.N, _)
theorem idx30 : ∀ t : Fin cfg0.N, win0_30.index t = ![t.val, 0] := (by decide +kernel : ∀ t : Fin grid0.N, _)
theorem idx31 : ∀ t : Fin cfg0.N, win0_31.index t = ![t.val, 0] := (by decide +kernel : ∀ t : Fin grid0.N, _)
theorem idx32 : ∀ t : Fin cfg0.N, win0_32.index t = ![t.val, 0] := (by decide +kernel : ∀ t : Fin grid0.N, _)
theorem idx33 : ∀ t : Fin cfg0.N, win0_33.index t = ![t.val, 0] := (by decide +kernel : ∀ t : Fin grid0.N, _)
theorem idx34 : ∀ t : Fin cfg0.N, win0_34.index t = ![t.val, 0] := (by decide +kernel : ∀ t : Fin grid0.N, _)
theorem idx35 : ∀ t : Fin cfg0.N, win0_35.index t = ![t.val, 0] := (by decide +kernel : ∀ t : Fin grid0.N, _)
theorem idx36 : ∀ t : Fin cfg0.N, win0_36.index t = ![t.val, 0] := (by decide +kernel : ∀ t : Fin grid0.N, _)
theorem idx37 : ∀ t : Fin cfg0.N, win0_37.index t = ![t.val, 0] := (by decide +kernel : ∀ t : Fin grid0.N, _)
theorem idx38 : ∀ t : Fin cfg0.N, win0_38.index t = ![t.val, 0] := (by decide +kernel : ∀ t : Fin grid0.N, _)
theorem idx39 : ∀ t : Fin cfg0.N, win0_39.index t = ![t.val, 0] := (by decide +kernel : ∀ t : Fin grid0.N, _)
theorem idx40 : ∀ t : Fin cfg0.N, win0_40.index t = ![t.val, 0] := (by decide +kernel : ∀ t : Fin grid0.N, _)
theorem idx41 : ∀ t : Fin cfg0.N, win0_41.index t = ![t.val, 0] := (by decide +kernel : ∀ t : Fin grid0.N, _)

end Cert.Kernel12Ideal.FfnStep

end
-- ==== Proof.FfnUpdates.lean ====
/-
  The optimiser's step of the six feed-forward weights (the twelfth program): what is added to each weight after the run.
-/
module

public import proofs.«01_k».proof.Proof.Step
public import proofs.«01_k».proof.Proof.FfnFrame
public import proofs.«01_k».proof.Proof.FfnBlocks
public import Idealize.ShloMosaic.Lib.Pipeline.ValueKit
public import Idealize.ShloMosaic.Lib.Pointwise

@[expose] public section

set_option maxRecDepth 16384

noncomputable section

namespace Cert.Kernel12Ideal.FfnUpdates

open Idealize.ShloMosaic Idealize.ShloMosaic.TcCoe Idealize.SL.Sem
open Idealize.ShloMosaic.Pipeline (Dat)
open Cert.Kernel12Ideal.FfnStep Cert.Kernel12Ideal Cert.Kernel12Ideal.Gen Cert.Step

variable (m : (ℓ : Loc nD τ sig) → Buf (Elt Ideal) ℓ)

/-- Weight 0's update after the run. -/
theorem final24 (c : Dev nD) : (dats m 0 c).arrAt 24 (cfgs 0).N = updates (m ((c : Thread nD τ).loc main_arg0)) (m ((c : Thread nD τ).loc main_arg6)) (m ((c : Thread nD τ).loc main_arg12)) (m ((c : Thread nD τ).loc main_arg18)) := by
  refine (dats m 0 c).arrAt_eq_of_covers 24 _ (by decide +kernel) fun t _ y => ?_
  blk_simp
  rw [after0_24]
  frame_out
  pointwise [k0_pay6, k0_pay4, k0_pay5, updates, update, first, second]
  blk_point [iblk, V, idx24 t, idx0 t, idx6 t, idx12 t, idx18 t]

/-- Weight 1's update after the run. -/
theorem final25 (c : Dev nD) : (dats m 0 c).arrAt 25 (cfgs 0).N = updates (m ((c : Thread nD τ).loc main_arg1)) (m ((c : Thread nD τ).loc main_arg7)) (m ((c : Thread nD τ).loc main_arg13)) (m ((c : Thread nD τ).loc main_arg19)) := by
  refine (dats m 0 c).arrAt_eq_of_covers 25 _ (by decide +kernel) fun t _ y => ?_
  blk_simp
  rw [after0_25]
  frame_out
  pointwise [k0_pay9, k0_pay7, k0_pay8, updates, update, first, second]
  blk_point [iblk, V, idx25 t, idx1 t, idx7 t, idx13 t, idx19 t]

/-- Weight 2's update after the run. -/
theorem final26 (c : Dev nD) : (dats m 0 c).arrAt 26 (cfgs 0).N = updates (m ((c : Thread nD τ).loc main_arg2)) (m ((c : Thread nD τ).loc main_arg8)) (m ((c : Thread nD τ).loc main_arg14)) (m ((c : Thread nD τ).loc main_arg20)) := by
  refine (dats m 0 c).arrAt_eq_of_covers 26 _ (by decide +kernel) fun t _ y => ?_
  blk_simp
  rw [after0_26]
  frame_out
  pointwise [k0_pay12, k0_pay10, k0_pay11, updates, update, first, second]
  blk_point [iblk, V, idx26 t, idx2 t, idx8 t, idx14 t, idx20 t]

/-- Weight 3's update after the run. -/
theorem final27 (c : Dev nD) : (dats m 0 c).arrAt 27 (cfgs 0).N = updates (m ((c : Thread nD τ).loc main_arg3)) (m ((c : Thread nD τ).loc main_arg9)) (m ((c : Thread nD τ).loc main_arg15)) (m ((c : Thread nD τ).loc main_arg21)) := by
  refine (dats m 0 c).arrAt_eq_of_covers 27 _ (by decide +kernel) fun t _ y => ?_
  blk_simp
  rw [after0_27]
  frame_out
  pointwise [k0_pay15, k0_pay13, k0_pay14, updates, update, first, second]
  blk_point [iblk, V, idx27 t, idx3 t, idx9 t, idx15 t, idx21 t]

/-- Weight 4's update after the run. -/
theorem final28 (c : Dev nD) : (dats m 0 c).arrAt 28 (cfgs 0).N = updates (m ((c : Thread nD τ).loc main_arg4)) (m ((c : Thread nD τ).loc main_arg10)) (m ((c : Thread nD τ).loc main_arg16)) (m ((c : Thread nD τ).loc main_arg22)) := by
  refine (dats m 0 c).arrAt_eq_of_covers 28 _ (by decide +kernel) fun t _ y => ?_
  blk_simp
  rw [after0_28]
  frame_out
  pointwise [k0_pay18, k0_pay16, k0_pay17, updates, update, first, second]
  blk_point [iblk, V, idx28 t, idx4 t, idx10 t, idx16 t, idx22 t]

/-- Weight 5's update after the run. -/
theorem final29 (c : Dev nD) : (dats m 0 c).arrAt 29 (cfgs 0).N = updates (m ((c : Thread nD τ).loc main_arg5)) (m ((c : Thread nD τ).loc main_arg11)) (m ((c : Thread nD τ).loc main_arg17)) (m ((c : Thread nD τ).loc main_arg23)) := by
  refine (dats m 0 c).arrAt_eq_of_covers 29 _ (by decide +kernel) fun t _ y => ?_
  blk_simp
  rw [after0_29]
  frame_out [k0_pay20]
  pointwise [k0_pay3, k0_pay1, k0_pay2, k0_pay19, updates, update, first, second]
  blk_point [iblk, V, idx29 t, idx5 t, idx11 t, idx17 t, idx23 t]

end Cert.Kernel12Ideal.FfnUpdates

end
-- ==== Proof.FfnFirsts.lean ====
/-
  The optimiser's step of the six feed-forward weights (the twelfth program): the new first moments after the run.
-/
module

public import proofs.«01_k».proof.Proof.Step
public import proofs.«01_k».proof.Proof.FfnFrame
public import proofs.«01_k».proof.Proof.FfnBlocks
public import Idealize.ShloMosaic.Lib.Pipeline.ValueKit
public import Idealize.ShloMosaic.Lib.Pointwise

@[expose] public section

set_option maxRecDepth 16384

noncomputable section

namespace Cert.Kernel12Ideal.FfnFirsts

open Idealize.ShloMosaic Idealize.ShloMosaic.TcCoe Idealize.SL.Sem
open Idealize.ShloMosaic.Pipeline (Dat)
open Cert.Kernel12Ideal.FfnStep Cert.Kernel12Ideal Cert.Kernel12Ideal.Gen Cert.Step

variable (m : (ℓ : Loc nD τ sig) → Buf (Elt Ideal) ℓ)

/-- Weight 0's new first moment after the run. -/
theorem final30 (c : Dev nD) : (dats m 0 c).arrAt 30 (cfgs 0).N = firsts (m ((c : Thread nD τ).loc main_arg6)) (m ((c : Thread nD τ).loc main_arg12)) := by
  refine (dats m 0 c).arrAt_eq_of_covers 30 _ (by decide +kernel) fun t _ y => ?_
  blk_simp
  rw [after0_30]
  frame_out
  pointwise [k0_pay4, firsts, update, first, second]
  blk_point [iblk, V, idx30 t, idx6 t, idx12 t]

/-- Weight 1's new first moment after the run. -/
theorem final31 (c : Dev nD) : (dats m 0 c).arrAt 31 (cfgs 0).N = firsts (m ((c : Thread nD τ).loc main_arg7)) (m ((c : Thread nD τ).loc main_arg13)) := by
  refine (dats m 0 c).arrAt_eq_of_covers 31 _ (by decide +kernel) fun t _ y => ?_
  blk_simp
  rw [after0_31]
  frame_out
  pointwise [k0_pay7, firsts, update, first, second]
  blk_point [iblk, V, idx31 t, idx7 t, idx13 t]

/-- Weight 2's new first moment after the run. -/
theorem final32 (c : Dev nD) : (dats m 0 c).arrAt 32 (cfgs 0).N = firsts (m ((c : Thread nD τ).loc main_arg8)) (m ((c : Thread nD τ).loc main_arg14)) := by
  refine (dats m 0 c).arrAt_eq_of_covers 32 _ (by decide +kernel) fun t _ y => ?_
  blk_simp
  rw [after0_32]
  frame_out
  pointwise [k0_pay10, firsts, update, first, second]
  blk_point [iblk, V, idx32 t, idx8 t, idx14 t]

/-- Weight 3's new first moment after the run. -/
theorem final33 (c : Dev nD) : (dats m 0 c).arrAt 33 (cfgs 0).N = firsts (m ((c : Thread nD τ).loc main_arg9)) (m ((c : Thread nD τ).loc main_arg15)) := by
  refine (dats m 0 c).arrAt_eq_of_covers 33 _ (by decide +kernel) fun t _ y => ?_
  blk_simp
  rw [after0_33]
  frame_out
  pointwise [k0_pay13, firsts, update, first, second]
  blk_point [iblk, V, idx33 t, idx9 t, idx15 t]

/-- Weight 4's new first moment after the run. -/
theorem final34 (c : Dev nD) : (dats m 0 c).arrAt 34 (cfgs 0).N = firsts (m ((c : Thread nD τ).loc main_arg10)) (m ((c : Thread nD τ).loc main_arg16)) := by
  refine (dats m 0 c).arrAt_eq_of_covers 34 _ (by decide +kernel) fun t _ y => ?_
  blk_simp
  rw [after0_34]
  frame_out
  pointwise [k0_pay16, firsts, update, first, second]
  blk_point [iblk, V, idx34 t, idx10 t, idx16 t]

/-- Weight 5's new first moment after the run. -/
theorem final35 (c : Dev nD) : (dats m 0 c).arrAt 35 (cfgs 0).N = firsts (m ((c : Thread nD τ).loc main_arg11)) (m ((c : Thread nD τ).loc main_arg17)) := by
  refine (dats m 0 c).arrAt_eq_of_covers 35 _ (by decide +kernel) fun t _ y => ?_
  blk_simp
  rw [after0_35]
  frame_out [k0_pay20]
  pointwise [k0_pay1, k0_pay19, firsts, update, first, second]
  blk_point [iblk, V, idx35 t, idx11 t, idx17 t]

end Cert.Kernel12Ideal.FfnFirsts

end
-- ==== Proof.FfnSeconds.lean ====
/-
  The optimiser's step of the six feed-forward weights (the twelfth program): the new second moments after the run.
-/
module

public import proofs.«01_k».proof.Proof.Step
public import proofs.«01_k».proof.Proof.FfnFrame
public import proofs.«01_k».proof.Proof.FfnBlocks
public import Idealize.ShloMosaic.Lib.Pipeline.ValueKit
public import Idealize.ShloMosaic.Lib.Pointwise

@[expose] public section

set_option maxRecDepth 16384

noncomputable section

namespace Cert.Kernel12Ideal.FfnSeconds

open Idealize.ShloMosaic Idealize.ShloMosaic.TcCoe Idealize.SL.Sem
open Idealize.ShloMosaic.Pipeline (Dat)
open Cert.Kernel12Ideal.FfnStep Cert.Kernel12Ideal Cert.Kernel12Ideal.Gen Cert.Step

variable (m : (ℓ : Loc nD τ sig) → Buf (Elt Ideal) ℓ)

/-- Weight 0's new second moment after the run. -/
theorem final36 (c : Dev nD) : (dats m 0 c).arrAt 36 (cfgs 0).N = seconds (m ((c : Thread nD τ).loc main_arg6)) (m ((c : Thread nD τ).loc main_arg18)) := by
  refine (dats m 0 c).arrAt_eq_of_covers 36 _ (by decide +kernel) fun t _ y => ?_
  blk_simp
  rw [after0_36]
  frame_out
  pointwise [k0_pay5, seconds, update, first, second]
  blk_point [iblk, V, idx36 t, idx6 t, idx18 t]

/-- Weight 1's new second moment after the run. -/
theorem final37 (c : Dev nD) : (dats m 0 c).arrAt 37 (cfgs 0).N = seconds (m ((c : Thread nD τ).loc main_arg7)) (m ((c : Thread nD τ).loc main_arg19)) := by
  refine (dats m 0 c).arrAt_eq_of_covers 37 _ (by decide +kernel) fun t _ y => ?_
  blk_simp
  rw [after0_37]
  frame_out
  pointwise [k0_pay8, seconds, update, first, second]
  blk_point [iblk, V, idx37 t, idx7 t, idx19 t]

/-- Weight 2's new second moment after the run. -/
theorem final38 (c : Dev nD) : (dats m 0 c).arrAt 38 (cfgs 0).N = seconds (m ((c : Thread nD τ).loc main_arg8)) (m ((c : Thread nD τ).loc main_arg20)) := by
  refine (dats m 0 c).arrAt_eq_of_covers 38 _ (by decide +kernel) fun t _ y => ?_
  blk_simp
  rw [after0_38]
  frame_out
  pointwise [k0_pay11, seconds, update, first, second]
  blk_point [iblk, V, idx38 t, idx8 t, idx20 t]

/-- Weight 3's new second moment after the run. -/
theorem final39 (c : Dev nD) : (dats m 0 c).arrAt 39 (cfgs 0).N = seconds (m ((c : Thread nD τ).loc main_arg9)) (m ((c : Thread nD τ).loc main_arg21)) := by
  refine (dats m 0 c).arrAt_eq_of_covers 39 _ (by decide +kernel) fun t _ y => ?_
  blk_simp
  rw [after0_39]
  frame_out
  pointwise [k0_pay14, seconds, update, first, second]
  blk_point [iblk, V, idx39 t, idx9 t, idx21 t]

/-- Weight 4's new second moment after the run. -/
theorem final40 (c : Dev nD) : (dats m 0 c).arrAt 40 (cfgs 0).N = seconds (m ((c : Thread nD τ).loc main_arg10)) (m ((c : Thread nD τ).loc main_arg22)) := by
  refine (dats m 0 c).arrAt_eq_of_covers 40 _ (by decide +kernel) fun t _ y => ?_
  blk_simp
  rw [after0_40]
  frame_out
  pointwise [k0_pay17, seconds, update, first, second]
  blk_point [iblk, V, idx40 t, idx10 t, idx22 t]

/-- Weight 5's new second moment after the run. -/
theorem final41 (c : Dev nD) : (dats m 0 c).arrAt 41 (cfgs 0).N = seconds (m ((c : Thread nD τ).loc main_arg11)) (m ((c : Thread nD τ).loc main_arg23)) := by
  refine (dats m 0 c).arrAt_eq_of_covers 41 _ (by decide +kernel) fun t _ y => ?_
  blk_simp
  rw [after0_41]
  frame_out
  pointwise [k0_pay2, seconds, update, first, second]
  blk_point [iblk, V, idx41 t, idx11 t, idx23 t]

end Cert.Kernel12Ideal.FfnSeconds

end
-- ==== Proof.FfnStep.lean ====
/-
  The optimiser's step of the six feed-forward weights (the twelfth program).
-/
module

public import proofs.«01_k».proof.Defs
public import proofs.«01_k».proof.Proof.Step
public import proofs.«01_k».proof.Proof.FfnUpdates
public import proofs.«01_k».proof.Proof.FfnFirsts
public import proofs.«01_k».proof.Proof.FfnSeconds
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel12Ideal.FfnStep

open Idealize.ShloMosaic Idealize.ShloMosaic.TcCoe Idealize.SL.Sem
open Idealize.ShloMosaic.Pipeline (Dat)
open Cert.Kernel12Ideal Cert.Kernel12Ideal.Gen Cert.Step

section Reference

open Cert.Reference12Ideal.Read

variable (w g u v : FVec Ideal S704x1024 .f32)

theorem ref_v23 : val_main_v23 (F := Ideal) w g u v = updates w g u v := by
  funext i
  pointwise [val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6, updates, update, first, second]

theorem ref_v47 : val_main_v47 (F := Ideal) w g u v = updates w g u v := by
  funext i
  pointwise [val_main_v47, val_main_v46, val_main_cst_16, val_main_v45, val_main_v42, val_main_v36, val_main_v28, val_main_v25, val_main_v24, val_main_cst_8, val_main_v27, val_main_v26, val_main_cst_9, val_main_v35, val_main_cst_12, val_main_v41, val_main_v39, val_main_v38, val_main_v34, val_main_v30, val_main_v29, val_main_cst_10, val_main_v33, val_main_v32, val_main_cst_11, val_main_v31, val_main_v37, val_main_cst_13, val_main_v40, val_main_cst_14, val_main_v44, val_main_v43, val_main_cst_15, updates, update, first, second]

theorem ref_v71 : val_main_v71 (F := Ideal) w g u v = updates w g u v := by
  funext i
  pointwise [val_main_v71, val_main_v70, val_main_cst_25, val_main_v69, val_main_v66, val_main_v60, val_main_v52, val_main_v49, val_main_v48, val_main_cst_17, val_main_v51, val_main_v50, val_main_cst_18, val_main_v59, val_main_cst_21, val_main_v65, val_main_v63, val_main_v62, val_main_v58, val_main_v54, val_main_v53, val_main_cst_19, val_main_v57, val_main_v56, val_main_cst_20, val_main_v55, val_main_v61, val_main_cst_22, val_main_v64, val_main_cst_23, val_main_v68, val_main_v67, val_main_cst_24, updates, update, first, second]

theorem ref_v95 : val_main_v95 (F := Ideal) w g u v = updates w g u v := by
  funext i
  pointwise [val_main_v95, val_main_v94, val_main_cst_34, val_main_v93, val_main_v90, val_main_v84, val_main_v76, val_main_v73, val_main_v72, val_main_cst_26, val_main_v75, val_main_v74, val_main_cst_27, val_main_v83, val_main_cst_30, val_main_v89, val_main_v87, val_main_v86, val_main_v82, val_main_v78, val_main_v77, val_main_cst_28, val_main_v81, val_main_v80, val_main_cst_29, val_main_v79, val_main_v85, val_main_cst_31, val_main_v88, val_main_cst_32, val_main_v92, val_main_v91, val_main_cst_33, updates, update, first, second]

theorem ref_v119 : val_main_v119 (F := Ideal) w g u v = updates w g u v := by
  funext i
  pointwise [val_main_v119, val_main_v118, val_main_cst_43, val_main_v117, val_main_v114, val_main_v108, val_main_v100, val_main_v97, val_main_v96, val_main_cst_35, val_main_v99, val_main_v98, val_main_cst_36, val_main_v107, val_main_cst_39, val_main_v113, val_main_v111, val_main_v110, val_main_v106, val_main_v102, val_main_v101, val_main_cst_37, val_main_v105, val_main_v104, val_main_cst_38, val_main_v103, val_main_v109, val_main_cst_40, val_main_v112, val_main_cst_41, val_main_v116, val_main_v115, val_main_cst_42, updates, update, first, second]

theorem ref_v143 : val_main_v143 (F := Ideal) w g u v = updates w g u v := by
  funext i
  pointwise [val_main_v143, val_main_v142, val_main_cst_52, val_main_v141, val_main_v138, val_main_v132, val_main_v124, val_main_v121, val_main_v120, val_main_cst_44, val_main_v123, val_main_v122, val_main_cst_45, val_main_v131, val_main_cst_48, val_main_v137, val_main_v135, val_main_v134, val_main_v130, val_main_v126, val_main_v125, val_main_cst_46, val_main_v129, val_main_v128, val_main_cst_47, val_main_v127, val_main_v133, val_main_cst_49, val_main_v136, val_main_cst_50, val_main_v140, val_main_v139, val_main_cst_51, updates, update, first, second]

theorem ref_v4 : val_main_v4 (F := Ideal) g u = firsts g u := by
  funext i
  pointwise [val_main_v4, val_main_v1, val_main_v0, val_main_cst, val_main_v3, val_main_v2, val_main_cst_0, firsts, update, first, second]

theorem ref_v28 : val_main_v28 (F := Ideal) g u = firsts g u := by
  funext i
  pointwise [val_main_v28, val_main_v25, val_main_v24, val_main_cst_8, val_main_v27, val_main_v26, val_main_cst_9, firsts, update, first, second]

theorem ref_v52 : val_main_v52 (F := Ideal) g u = firsts g u := by
  funext i
  pointwise [val_main_v52, val_main_v49, val_main_v48, val_main_cst_17, val_main_v51, val_main_v50, val_main_cst_18, firsts, update, first, second]

theorem ref_v76 : val_main_v76 (F := Ideal) g u = firsts g u := by
  funext i
  pointwise [val_main_v76, val_main_v73, val_main_v72, val_main_cst_26, val_main_v75, val_main_v74, val_main_cst_27, firsts, update, first, second]

theorem ref_v100 : val_main_v100 (F := Ideal) g u = firsts g u := by
  funext i
  pointwise [val_main_v100, val_main_v97, val_main_v96, val_main_cst_35, val_main_v99, val_main_v98, val_main_cst_36, firsts, update, first, second]

theorem ref_v124 : val_main_v124 (F := Ideal) g u = firsts g u := by
  funext i
  pointwise [val_main_v124, val_main_v121, val_main_v120, val_main_cst_44, val_main_v123, val_main_v122, val_main_cst_45, firsts, update, first, second]

theorem ref_v10 : val_main_v10 (F := Ideal) g v = seconds g v := by
  funext i
  pointwise [val_main_v10, val_main_v6, val_main_v5, val_main_cst_1, val_main_v9, val_main_v8, val_main_cst_2, val_main_v7, seconds, update, first, second]

theorem ref_v34 : val_main_v34 (F := Ideal) g v = seconds g v := by
  funext i
  pointwise [val_main_v34, val_main_v30, val_main_v29, val_main_cst_10, val_main_v33, val_main_v32, val_main_cst_11, val_main_v31, seconds, update, first, second]

theorem ref_v58 : val_main_v58 (F := Ideal) g v = seconds g v := by
  funext i
  pointwise [val_main_v58, val_main_v54, val_main_v53, val_main_cst_19, val_main_v57, val_main_v56, val_main_cst_20, val_main_v55, seconds, update, first, second]

theorem ref_v82 : val_main_v82 (F := Ideal) g v = seconds g v := by
  funext i
  pointwise [val_main_v82, val_main_v78, val_main_v77, val_main_cst_28, val_main_v81, val_main_v80, val_main_cst_29, val_main_v79, seconds, update, first, second]

theorem ref_v106 : val_main_v106 (F := Ideal) g v = seconds g v := by
  funext i
  pointwise [val_main_v106, val_main_v102, val_main_v101, val_main_cst_37, val_main_v105, val_main_v104, val_main_cst_38, val_main_v103, seconds, update, first, second]

theorem ref_v130 : val_main_v130 (F := Ideal) g v = seconds g v := by
  funext i
  pointwise [val_main_v130, val_main_v126, val_main_v125, val_main_cst_46, val_main_v129, val_main_v128, val_main_cst_47, val_main_v127, seconds, update, first, second]

end Reference

/-- The update of equal arrays is equal. -/
theorem updates_congr {s : Shape} {w w' g g' u u' v v' : FVec Ideal s .f32} (hw : w = w') (hg : g = g') (hu : u = u') (hv : v = v') :
    updates w g u v = updates w' g' u' v' := by
  subst hw hg hu hv
  rfl

set_option maxHeartbeats 4000000 in
/-- The twelfth program's value claim. -/
theorem algebraic : Cert.algebraic_Kernel12Ideal_Reference12Ideal := by
  intro m g m' g' _ hagree
  refine ⟨fun c => updates (m ((c : Thread nD τ).loc main_arg0)) (m ((c : Thread nD τ).loc main_arg6)) (m ((c : Thread nD τ).loc main_arg12)) (m ((c : Thread nD τ).loc main_arg18)), fun c => updates (m ((c : Thread nD τ).loc main_arg1)) (m ((c : Thread nD τ).loc main_arg7)) (m ((c : Thread nD τ).loc main_arg13)) (m ((c : Thread nD τ).loc main_arg19)), fun c => updates (m ((c : Thread nD τ).loc main_arg2)) (m ((c : Thread nD τ).loc main_arg8)) (m ((c : Thread nD τ).loc main_arg14)) (m ((c : Thread nD τ).loc main_arg20)), fun c => updates (m ((c : Thread nD τ).loc main_arg3)) (m ((c : Thread nD τ).loc main_arg9)) (m ((c : Thread nD τ).loc main_arg15)) (m ((c : Thread nD τ).loc main_arg21)), fun c => updates (m ((c : Thread nD τ).loc main_arg4)) (m ((c : Thread nD τ).loc main_arg10)) (m ((c : Thread nD τ).loc main_arg16)) (m ((c : Thread nD τ).loc main_arg22)), fun c => updates (m ((c : Thread nD τ).loc main_arg5)) (m ((c : Thread nD τ).loc main_arg11)) (m ((c : Thread nD τ).loc main_arg17)) (m ((c : Thread nD τ).loc main_arg23)), fun c => firsts (m ((c : Thread nD τ).loc main_arg6)) (m ((c : Thread nD τ).loc main_arg12)), fun c => firsts (m ((c : Thread nD τ).loc main_arg7)) (m ((c : Thread nD τ).loc main_arg13)), fun c => firsts (m ((c : Thread nD τ).loc main_arg8)) (m ((c : Thread nD τ).loc main_arg14)), fun c => firsts (m ((c : Thread nD τ).loc main_arg9)) (m ((c : Thread nD τ).loc main_arg15)), fun c => firsts (m ((c : Thread nD τ).loc main_arg10)) (m ((c : Thread nD τ).loc main_arg16)), fun c => firsts (m ((c : Thread nD τ).loc main_arg11)) (m ((c : Thread nD τ).loc main_arg17)), fun c => seconds (m ((c : Thread nD τ).loc main_arg6)) (m ((c : Thread nD τ).loc main_arg18)), fun c => seconds (m ((c : Thread nD τ).loc main_arg7)) (m ((c : Thread nD τ).loc main_arg19)), fun c => seconds (m ((c : Thread nD τ).loc main_arg8)) (m ((c : Thread nD τ).loc main_arg20)), fun c => seconds (m ((c : Thread nD τ).loc main_arg9)) (m ((c : Thread nD τ).loc main_arg21)), fun c => seconds (m ((c : Thread nD τ).loc main_arg10)) (m ((c : Thread nD τ).loc main_arg22)), fun c => seconds (m ((c : Thread nD τ).loc main_arg11)) (m ((c : Thread nD τ).loc main_arg23)), ?_, ?_⟩
  · refine θ_run_mono (θ_run_and (Cert.Kernel12Ideal.Gen.run_main m g) (Cert.Kernel12Ideal.Gen.unchanged m g)) fun r h c => ?_
    have hc := h.1 c
    exact ⟨(hc.1 24).trans (FfnUpdates.final24 m c), (hc.1 25).trans (FfnUpdates.final25 m c), (hc.1 26).trans (FfnUpdates.final26 m c), (hc.1 27).trans (FfnUpdates.final27 m c), (hc.1 28).trans (FfnUpdates.final28 m c), (hc.1 29).trans (FfnUpdates.final29 m c), (hc.1 30).trans (FfnFirsts.final30 m c), (hc.1 31).trans (FfnFirsts.final31 m c), (hc.1 32).trans (FfnFirsts.final32 m c), (hc.1 33).trans (FfnFirsts.final33 m c), (hc.1 34).trans (FfnFirsts.final34 m c), (hc.1 35).trans (FfnFirsts.final35 m c), (hc.1 36).trans (FfnSeconds.final36 m c), (hc.1 37).trans (FfnSeconds.final37 m c), (hc.1 38).trans (FfnSeconds.final38 m c), (hc.1 39).trans (FfnSeconds.final39 m c), (hc.1 40).trans (FfnSeconds.final40 m c), (hc.1 41).trans (FfnSeconds.final41 m c), h.2 c⟩
  · refine θ_run_mono (Cert.Reference12Ideal.Value.run m' g') fun r h c => ?_
    obtain ⟨h0, h1, h2, h3, h4, h5, h6, h7, h8, h9, h10, h11, h12, h13, h14, h15, h16, h17, h18, h19, h20, h21, h22, h23⟩ := hagree c
    obtain ⟨r0, r1, r2, r3, r4, r5, r6, r7, r8, r9, r10, r11, r12, r13, r14, r15, r16, r17, rest⟩ := h c
    refine ⟨r0.trans ((Cert.Reference12Ideal.Read.val_main_v23_eq (StableHlo.launchContents m' c)).trans ?_), r1.trans ((Cert.Reference12Ideal.Read.val_main_v47_eq (StableHlo.launchContents m' c)).trans ?_), r2.trans ((Cert.Reference12Ideal.Read.val_main_v71_eq (StableHlo.launchContents m' c)).trans ?_), r3.trans ((Cert.Reference12Ideal.Read.val_main_v95_eq (StableHlo.launchContents m' c)).trans ?_), r4.trans ((Cert.Reference12Ideal.Read.val_main_v119_eq (StableHlo.launchContents m' c)).trans ?_), r5.trans ((Cert.Reference12Ideal.Read.val_main_v143_eq (StableHlo.launchContents m' c)).trans ?_), r6.trans ((Cert.Reference12Ideal.Read.val_main_v4_eq (StableHlo.launchContents m' c)).trans ?_), r7.trans ((Cert.Reference12Ideal.Read.val_main_v28_eq (StableHlo.launchContents m' c)).trans ?_), r8.trans ((Cert.Reference12Ideal.Read.val_main_v52_eq (StableHlo.launchContents m' c)).trans ?_), r9.trans ((Cert.Reference12Ideal.Read.val_main_v76_eq (StableHlo.launchContents m' c)).trans ?_), r10.trans ((Cert.Reference12Ideal.Read.val_main_v100_eq (StableHlo.launchContents m' c)).trans ?_), r11.trans ((Cert.Reference12Ideal.Read.val_main_v124_eq (StableHlo.launchContents m' c)).trans ?_), r12.trans ((Cert.Reference12Ideal.Read.val_main_v10_eq (StableHlo.launchContents m' c)).trans ?_), r13.trans ((Cert.Reference12Ideal.Read.val_main_v34_eq (StableHlo.launchContents m' c)).trans ?_), r14.trans ((Cert.Reference12Ideal.Read.val_main_v58_eq (StableHlo.launchContents m' c)).trans ?_), r15.trans ((Cert.Reference12Ideal.Read.val_main_v82_eq (StableHlo.launchContents m' c)).trans ?_), r16.trans ((Cert.Reference12Ideal.Read.val_main_v106_eq (StableHlo.launchContents m' c)).trans ?_), r17.trans ((Cert.Reference12Ideal.Read.val_main_v130_eq (StableHlo.launchContents m' c)).trans ?_), rest⟩
    · exact (ref_v23 _ _ _ _).trans (updates_congr h0 h6 h12 h18)
    · exact (ref_v47 _ _ _ _).trans (updates_congr h1 h7 h13 h19)
    · exact (ref_v71 _ _ _ _).trans (updates_congr h2 h8 h14 h20)
    · exact (ref_v95 _ _ _ _).trans (updates_congr h3 h9 h15 h21)
    · exact (ref_v119 _ _ _ _).trans (updates_congr h4 h10 h16 h22)
    · exact (ref_v143 _ _ _ _).trans (updates_congr h5 h11 h17 h23)
    · exact (ref_v4 _ _).trans (congrArg₂ firsts h6 h12)
    · exact (ref_v28 _ _).trans (congrArg₂ firsts h7 h13)
    · exact (ref_v52 _ _).trans (congrArg₂ firsts h8 h14)
    · exact (ref_v76 _ _).trans (congrArg₂ firsts h9 h15)
    · exact (ref_v100 _ _).trans (congrArg₂ firsts h10 h16)
    · exact (ref_v124 _ _).trans (congrArg₂ firsts h11 h17)
    · exact (ref_v10 _ _).trans (congrArg₂ seconds h6 h18)
    · exact (ref_v34 _ _).trans (congrArg₂ seconds h7 h19)
    · exact (ref_v58 _ _).trans (congrArg₂ seconds h8 h20)
    · exact (ref_v82 _ _).trans (congrArg₂ seconds h9 h21)
    · exact (ref_v106 _ _).trans (congrArg₂ seconds h10 h22)
    · exact (ref_v130 _ _).trans (congrArg₂ seconds h11 h23)

end Cert.Kernel12Ideal.FfnStep

end
-- ==== Proof.SmallBody.lean ====
/- What the optimiser's step of the small weights (the thirteenth program) leaves in each result's buffer, as a function of
   its arguments' blocks, and the run of its body. -/
module

public import proofs.«01_k».proof.Proof.Gen.Kernel13Ideal.Frame.Runs

@[expose] public section

-- rectangles at these extents need a deep recursion, one step per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accesses -/

abbrev rV : Rect S1x1024 := Rect.unit (s := S1x1024) ![0, 0] S1x1024.size inb_S1x1024_S1x1024_0_0
abbrev rA : Rect S1x31x256 := Rect.unit (s := S1x31x256) ![0, 0, 0] S1x31x256.size inb_S1x31x256_S1x31x256_0_0_0
abbrev rB : Rect S1x3x256 := Rect.unit (s := S1x3x256) ![0, 0, 0] S1x3x256.size inb_S1x3x256_S1x3x256_0_0_0

theorem cover_V (p : Vec F S1x1024 .f32) (y : S1x1024.Idx) :
    ∃ pc ∈ ([⟨rV, p⟩] : List (View.Piece (Elt F) S1x1024 .f32)), y ∈ pc.1.set :=
  View.cover_of_tiled [⟨rV, p⟩] S1x1024.size (by rfl) y
theorem cover_A (p : Vec F S1x31x256 .f32) (y : S1x31x256.Idx) :
    ∃ pc ∈ ([⟨rA, p⟩] : List (View.Piece (Elt F) S1x31x256 .f32)), y ∈ pc.1.set :=
  View.cover_of_tiled [⟨rA, p⟩] S1x31x256.size (by rfl) y
theorem cover_B (p : Vec F S1x3x256 .f32) (y : S1x3x256.Idx) :
    ∃ pc ∈ ([⟨rB, p⟩] : List (View.Piece (Elt F) S1x3x256 .f32)), y ∈ pc.1.set :=
  View.cover_of_tiled [⟨rB, p⟩] S1x3x256.size (by rfl) y

/-- The device's place, read from the first argument. -/
def chip (x0 : Vec F S2 .i32) : Elt F .i32 :=
  View.ld x0 (Rect.unit (s := S2) ![0] S1.size inb_S2_S1_0) (Shape.Idx.first (numel1_S1.symm ▸ Nat.one_pos))

/-- The device's quarter of the first convolution's gradient. -/
def gA (x0 : Vec F S2 .i32) (x1 : Vec F S48x1024 .f32) : FVec F S31x256 .f32 :=
  k0_pay23 (chip x0)
    (View.ld x1 (Rect.unit (s := S48x1024) ![8, 0] S31x256.size inb_S48x1024_S31x256_8_0))
    (View.ld x1 (Rect.unit (s := S48x1024) ![8, 256] S31x256.size inb_S48x1024_S31x256_8_256))
    (View.ld x1 (Rect.unit (s := S48x1024) ![8, 512] S31x256.size inb_S48x1024_S31x256_8_512))
    (View.ld x1 (Rect.unit (s := S48x1024) ![8, 768] S31x256.size inb_S48x1024_S31x256_8_768))

/-- The device's quarter of the second convolution's gradient. -/
def gB (x0 : Vec F S2 .i32) (x1 : Vec F S48x1024 .f32) : FVec F S3x256 .f32 :=
  k0_pay32 (chip x0)
    (View.ld x1 (Rect.unit (s := S48x1024) ![40, 0] S3x256.size inb_S48x1024_S3x256_40_0))
    (View.ld x1 (Rect.unit (s := S48x1024) ![40, 256] S3x256.size inb_S48x1024_S3x256_40_256))
    (View.ld x1 (Rect.unit (s := S48x1024) ![40, 512] S3x256.size inb_S48x1024_S3x256_40_512))
    (View.ld x1 (Rect.unit (s := S48x1024) ![40, 768] S3x256.size inb_S48x1024_S3x256_40_768))

/-! ## What the results' buffers hold after the body -/

def out0_29 (x1 : Vec F S48x1024 .f32) : Vec F S1x1024 .f32 :=
  View.canon [⟨rV, (View.ld x1 (Rect.unit (s := S48x1024) ![0, 0] S1x1024.size inb_S48x1024_S1x1024_0_0))⟩]
def out0_30 (x1 : Vec F S48x1024 .f32) (x2 : Vec F S1x1024 .f32) (x3 : Vec F S1x1024 .f32) (x4 : Vec F S1x1024 .f32) : Vec F S1x1024 .f32 :=
  View.canon [⟨rV, k0_pay4 (View.ld x1 (Rect.unit (s := S48x1024) ![0, 0] S1x1024.size inb_S48x1024_S1x1024_0_0)) (View.ld x2 rV) (View.ld x3 rV) (View.ld x4 rV)⟩]
def out0_31 (x1 : Vec F S48x1024 .f32) (x3 : Vec F S1x1024 .f32) : Vec F S1x1024 .f32 :=
  View.canon [⟨rV, k0_pay2 (View.ld x1 (Rect.unit (s := S48x1024) ![0, 0] S1x1024.size inb_S48x1024_S1x1024_0_0)) (View.ld x3 rV)⟩]
def out0_32 (x1 : Vec F S48x1024 .f32) (x4 : Vec F S1x1024 .f32) : Vec F S1x1024 .f32 :=
  View.canon [⟨rV, k0_pay3 (View.ld x1 (Rect.unit (s := S48x1024) ![0, 0] S1x1024.size inb_S48x1024_S1x1024_0_0)) (View.ld x4 rV)⟩]
def out0_33 (x1 : Vec F S48x1024 .f32) : Vec F S1x1024 .f32 :=
  View.canon [⟨rV, (View.ld x1 (Rect.unit (s := S48x1024) ![1, 0] S1x1024.size inb_S48x1024_S1x1024_1_0))⟩]
def out0_34 (x1 : Vec F S48x1024 .f32) (x5 : Vec F S1x1024 .f32) (x6 : Vec F S1x1024 .f32) (x7 : Vec F S1x1024 .f32) : Vec F S1x1024 .f32 :=
  View.canon [⟨rV, k0_pay7 (View.ld x1 (Rect.unit (s := S48x1024) ![1, 0] S1x1024.size inb_S48x1024_S1x1024_1_0)) (View.ld x5 rV) (View.ld x6 rV) (View.ld x7 rV)⟩]
def out0_35 (x1 : Vec F S48x1024 .f32) (x6 : Vec F S1x1024 .f32) : Vec F S1x1024 .f32 :=
  View.canon [⟨rV, k0_pay5 (View.ld x1 (Rect.unit (s := S48x1024) ![1, 0] S1x1024.size inb_S48x1024_S1x1024_1_0)) (View.ld x6 rV)⟩]
def out0_36 (x1 : Vec F S48x1024 .f32) (x7 : Vec F S1x1024 .f32) : Vec F S1x1024 .f32 :=
  View.canon [⟨rV, k0_pay6 (View.ld x1 (Rect.unit (s := S48x1024) ![1, 0] S1x1024.size inb_S48x1024_S1x1024_1_0)) (View.ld x7 rV)⟩]
def out0_37 (x1 : Vec F S48x1024 .f32) : Vec F S1x1024 .f32 :=
  View.canon [⟨rV, (View.ld x1 (Rect.unit (s := S48x1024) ![2, 0] S1x1024.size inb_S48x1024_S1x1024_2_0))⟩]
def out0_38 (x1 : Vec F S48x1024 .f32) (x8 : Vec F S1x1024 .f32) (x9 : Vec F S1x1024 .f32) (x10 : Vec F S1x1024 .f32) : Vec F S1x1024 .f32 :=
  View.canon [⟨rV, k0_pay10 (View.ld x1 (Rect.unit (s := S48x1024) ![2, 0] S1x1024.size inb_S48x1024_S1x1024_2_0)) (View.ld x8 rV) (View.ld x9 rV) (View.ld x10 rV)⟩]
def out0_39 (x1 : Vec F S48x1024 .f32) (x9 : Vec F S1x1024 .f32) : Vec F S1x1024 .f32 :=
  View.canon [⟨rV, k0_pay8 (View.ld x1 (Rect.unit (s := S48x1024) ![2, 0] S1x1024.size inb_S48x1024_S1x1024_2_0)) (View.ld x9 rV)⟩]
def out0_40 (x1 : Vec F S48x1024 .f32) (x10 : Vec F S1x1024 .f32) : Vec F S1x1024 .f32 :=
  View.canon [⟨rV, k0_pay9 (View.ld x1 (Rect.unit (s := S48x1024) ![2, 0] S1x1024.size inb_S48x1024_S1x1024_2_0)) (View.ld x10 rV)⟩]
def out0_41 (x1 : Vec F S48x1024 .f32) : Vec F S1x1024 .f32 :=
  View.canon [⟨rV, (View.ld x1 (Rect.unit (s := S48x1024) ![3, 0] S1x1024.size inb_S48x1024_S1x1024_3_0))⟩]
def out0_42 (x1 : Vec F S48x1024 .f32) (x11 : Vec F S1x1024 .f32) (x12 : Vec F S1x1024 .f32) (x13 : Vec F S1x1024 .f32) : Vec F S1x1024 .f32 :=
  View.canon [⟨rV, k0_pay13 (View.ld x1 (Rect.unit (s := S48x1024) ![3, 0] S1x1024.size inb_S48x1024_S1x1024_3_0)) (View.ld x11 rV) (View.ld x12 rV) (View.ld x13 rV)⟩]
def out0_43 (x1 : Vec F S48x1024 .f32) (x12 : Vec F S1x1024 .f32) : Vec F S1x1024 .f32 :=
  View.canon [⟨rV, k0_pay11 (View.ld x1 (Rect.unit (s := S48x1024) ![3, 0] S1x1024.size inb_S48x1024_S1x1024_3_0)) (View.ld x12 rV)⟩]
def out0_44 (x1 : Vec F S48x1024 .f32) (x13 : Vec F S1x1024 .f32) : Vec F S1x1024 .f32 :=
  View.canon [⟨rV, k0_pay12 (View.ld x1 (Rect.unit (s := S48x1024) ![3, 0] S1x1024.size inb_S48x1024_S1x1024_3_0)) (View.ld x13 rV)⟩]
def out0_45 (x1 : Vec F S48x1024 .f32) : Vec F S1x1024 .f32 :=
  View.canon [⟨rV, (View.ld x1 (Rect.unit (s := S48x1024) ![4, 0] S1x1024.size inb_S48x1024_S1x1024_4_0))⟩]
def out0_46 (x1 : Vec F S48x1024 .f32) (x14 : Vec F S1x1024 .f32) (x15 : Vec F S1x1024 .f32) (x16 : Vec F S1x1024 .f32) : Vec F S1x1024 .f32 :=
  View.canon [⟨rV, k0_pay16 (View.ld x1 (Rect.unit (s := S48x1024) ![4, 0] S1x1024.size inb_S48x1024_S1x1024_4_0)) (View.ld x14 rV) (View.ld x15 rV) (View.ld x16 rV)⟩]
def out0_47 (x1 : Vec F S48x1024 .f32) (x15 : Vec F S1x1024 .f32) : Vec F S1x1024 .f32 :=
  View.canon [⟨rV, k0_pay14 (View.ld x1 (Rect.unit (s := S48x1024) ![4, 0] S1x1024.size inb_S48x1024_S1x1024_4_0)) (View.ld x15 rV)⟩]
def out0_48 (x1 : Vec F S48x1024 .f32) (x16 : Vec F S1x1024 .f32) : Vec F S1x1024 .f32 :=
  View.canon [⟨rV, k0_pay15 (View.ld x1 (Rect.unit (s := S48x1024) ![4, 0] S1x1024.size inb_S48x1024_S1x1024_4_0)) (View.ld x16 rV)⟩]
def out0_49 (x1 : Vec F S48x1024 .f32) : Vec F S1x1024 .f32 :=
  View.canon [⟨rV, (View.ld x1 (Rect.unit (s := S48x1024) ![5, 0] S1x1024.size inb_S48x1024_S1x1024_5_0))⟩]
def out0_50 (x1 : Vec F S48x1024 .f32) (x17 : Vec F S1x1024 .f32) (x18 : Vec F S1x1024 .f32) (x19 : Vec F S1x1024 .f32) : Vec F S1x1024 .f32 :=
  View.canon [⟨rV, k0_pay19 (View.ld x1 (Rect.unit (s := S48x1024) ![5, 0] S1x1024.size inb_S48x1024_S1x1024_5_0)) (View.ld x17 rV) (View.ld x18 rV) (View.ld x19 rV)⟩]
def out0_51 (x1 : Vec F S48x1024 .f32) (x18 : Vec F S1x1024 .f32) : Vec F S1x1024 .f32 :=
  View.canon [⟨rV, k0_pay17 (View.ld x1 (Rect.unit (s := S48x1024) ![5, 0] S1x1024.size inb_S48x1024_S1x1024_5_0)) (View.ld x18 rV)⟩]
def out0_52 (x1 : Vec F S48x1024 .f32) (x19 : Vec F S1x1024 .f32) : Vec F S1x1024 .f32 :=
  View.canon [⟨rV, k0_pay18 (View.ld x1 (Rect.unit (s := S48x1024) ![5, 0] S1x1024.size inb_S48x1024_S1x1024_5_0)) (View.ld x19 rV)⟩]
def out0_53 (x1 : Vec F S48x1024 .f32) : Vec F S1x1024 .f32 :=
  View.canon [⟨rV, (View.ld x1 (Rect.unit (s := S48x1024) ![6, 0] S1x1024.size inb_S48x1024_S1x1024_6_0))⟩]
def out0_54 (x1 : Vec F S48x1024 .f32) (x20 : Vec F S1x1024 .f32) (x21 : Vec F S1x1024 .f32) (x22 : Vec F S1x1024 .f32) : Vec F S1x1024 .f32 :=
  View.canon [⟨rV, k0_pay22 (View.ld x1 (Rect.unit (s := S48x1024) ![6, 0] S1x1024.size inb_S48x1024_S1x1024_6_0)) (View.ld x20 rV) (View.ld x21 rV) (View.ld x22 rV)⟩]
def out0_55 (x1 : Vec F S48x1024 .f32) (x21 : Vec F S1x1024 .f32) : Vec F S1x1024 .f32 :=
  View.canon [⟨rV, k0_pay20 (View.ld x1 (Rect.unit (s := S48x1024) ![6, 0] S1x1024.size inb_S48x1024_S1x1024_6_0)) (View.ld x21 rV)⟩]
def out0_56 (x1 : Vec F S48x1024 .f32) (x22 : Vec F S1x1024 .f32) : Vec F S1x1024 .f32 :=
  View.canon [⟨rV, k0_pay21 (View.ld x1 (Rect.unit (s := S48x1024) ![6, 0] S1x1024.size inb_S48x1024_S1x1024_6_0)) (View.ld x22 rV)⟩]
def out0_57 (x0 : Vec F S2 .i32) (x1 : Vec F S48x1024 .f32) : Vec F S1x31x256 .f32 :=
  View.canon [⟨rA, k0_pay28 (gA x0 x1)⟩]
def out0_58 (x0 : Vec F S2 .i32) (x1 : Vec F S48x1024 .f32) (x23 : Vec F S1x31x256 .f32) (x24 : Vec F S1x31x256 .f32) (x25 : Vec F S1x31x256 .f32) : Vec F S1x31x256 .f32 :=
  View.canon [⟨rA, k0_pay29 (gA x0 x1) (k0_pay24 (View.ld x23 rA)) (k0_pay25 (View.ld x24 rA)) (View.ld x25 rA)⟩]
def out0_59 (x0 : Vec F S2 .i32) (x1 : Vec F S48x1024 .f32) (x24 : Vec F S1x31x256 .f32) : Vec F S1x31x256 .f32 :=
  View.canon [⟨rA, k0_pay30 (gA x0 x1) (k0_pay25 (View.ld x24 rA))⟩]
def out0_60 (x0 : Vec F S2 .i32) (x1 : Vec F S48x1024 .f32) (x25 : Vec F S1x31x256 .f32) : Vec F S1x31x256 .f32 :=
  View.canon [⟨rA, k0_pay31 (k0_pay27 (gA x0 x1) (View.ld x25 rA))⟩]
def out0_61 (x0 : Vec F S2 .i32) (x1 : Vec F S48x1024 .f32) : Vec F S1x3x256 .f32 :=
  View.canon [⟨rB, k0_pay38 (gB x0 x1)⟩]
def out0_62 (x0 : Vec F S2 .i32) (x1 : Vec F S48x1024 .f32) (x26 : Vec F S1x3x256 .f32) (x27 : Vec F S1x3x256 .f32) (x28 : Vec F S1x3x256 .f32) : Vec F S1x3x256 .f32 :=
  View.canon [⟨rB, k0_pay39 (gB x0 x1) (k0_pay33 (View.ld x26 rB)) (k0_pay34 (View.ld x28 rB)) (k0_pay35 (View.ld x27 rB)) (Scalar.ofBits .f32 0x3DCCCCCD#32)⟩]
def out0_63 (x0 : Vec F S2 .i32) (x1 : Vec F S48x1024 .f32) (x27 : Vec F S1x3x256 .f32) : Vec F S1x3x256 .f32 :=
  View.canon [⟨rB, k0_pay40 (gB x0 x1) (k0_pay35 (View.ld x27 rB)) (Scalar.ofBits .f32 0x3DCCCCCD#32)⟩]
def out0_64 (x0 : Vec F S2 .i32) (x1 : Vec F S48x1024 .f32) (x28 : Vec F S1x3x256 .f32) : Vec F S1x3x256 .f32 :=
  View.canon [⟨rB, k0_pay1 (k0_pay37 (gB x0 x1) (k0_pay34 (View.ld x28 rB)))⟩]

set_option maxHeartbeats 40000000 in
/-- The body on whole staging memrefs, the arguments' at read contents and the results' at anything, runs to the
    continuation holding the arguments' as they were and each result's at its `out0_W`. -/
theorem sound_kernel (c : Dev nD) (E : Set ℕ) (arg0 : Memref sig .tc .smem S2 .i32) (harg0 : arg0.IsWhole) (arg1 : Memref sig .tc .vmem S48x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x31x256 .f32) (harg23 : arg23.IsWhole) (arg24 : Memref sig .tc .vmem S1x31x256 .f32) (harg24 : arg24.IsWhole) (arg25 : Memref sig .tc .vmem S1x31x256 .f32) (harg25 : arg25.IsWhole) (arg26 : Memref sig .tc .vmem S1x3x256 .f32) (harg26 : arg26.IsWhole) (arg27 : Memref sig .tc .vmem S1x3x256 .f32) (harg27 : arg27.IsWhole) (arg28 : Memref sig .tc .vmem S1x3x256 .f32) (harg28 : arg28.IsWhole) (arg29 : Memref sig .tc .vmem S1x1024 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x1024 .f32) (harg48 : arg48.IsWhole) (arg49 : Memref sig .tc .vmem S1x1024 .f32) (harg49 : arg49.IsWhole) (arg50 : Memref sig .tc .vmem S1x1024 .f32) (harg50 : arg50.IsWhole) (arg51 : Memref sig .tc .vmem S1x1024 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole) (arg57 : Memref sig .tc .vmem S1x31x256 .f32) (harg57 : arg57.IsWhole) (arg58 : Memref sig .tc .vmem S1x31x256 .f32) (harg58 : arg58.IsWhole) (arg59 : Memref sig .tc .vmem S1x31x256 .f32) (harg59 : arg59.IsWhole) (arg60 : Memref sig .tc .vmem S1x31x256 .f32) (harg60 : arg60.IsWhole) (arg61 : Memref sig .tc .vmem S1x3x256 .f32) (harg61 : arg61.IsWhole) (arg62 : Memref sig .tc .vmem S1x3x256 .f32) (harg62 : arg62.IsWhole) (arg63 : Memref sig .tc .vmem S1x3x256 .f32) (harg63 : arg63.IsWhole) (arg64 : Memref sig .tc .vmem S1x3x256 .f32) (harg64 : arg64.IsWhole)
    (x0 : Vec F S2 .i32) (x1 : Vec F S48x1024 .f32) (x2 : Vec F S1x1024 .f32) (x3 : Vec F S1x1024 .f32) (x4 : Vec F S1x1024 .f32) (x5 : Vec F S1x1024 .f32) (x6 : Vec F S1x1024 .f32) (x7 : Vec F S1x1024 .f32) (x8 : Vec F S1x1024 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x1024 .f32) (x17 : Vec F S1x1024 .f32) (x18 : Vec F S1x1024 .f32) (x19 : Vec F S1x1024 .f32) (x20 : Vec F S1x1024 .f32) (x21 : Vec F S1x1024 .f32) (x22 : Vec F S1x1024 .f32) (x23 : Vec F S1x31x256 .f32) (x24 : Vec F S1x31x256 .f32) (x25 : Vec F S1x31x256 .f32) (x26 : Vec F S1x3x256 .f32) (x27 : Vec F S1x3x256 .f32) (x28 : Vec F S1x3x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare (out0_29 x1) ∗ owns (c : Thread nD τ) arg30 fullShare (out0_30 x1 x2 x3 x4) ∗ owns (c : Thread nD τ) arg31 fullShare (out0_31 x1 x3) ∗ owns (c : Thread nD τ) arg32 fullShare (out0_32 x1 x4) ∗ owns (c : Thread nD τ) arg33 fullShare (out0_33 x1) ∗ owns (c : Thread nD τ) arg34 fullShare (out0_34 x1 x5 x6 x7) ∗ owns (c : Thread nD τ) arg35 fullShare (out0_35 x1 x6) ∗ owns (c : Thread nD τ) arg36 fullShare (out0_36 x1 x7) ∗ owns (c : Thread nD τ) arg37 fullShare (out0_37 x1) ∗ owns (c : Thread nD τ) arg38 fullShare (out0_38 x1 x8 x9 x10) ∗ owns (c : Thread nD τ) arg39 fullShare (out0_39 x1 x9) ∗ owns (c : Thread nD τ) arg40 fullShare (out0_40 x1 x10) ∗ owns (c : Thread nD τ) arg41 fullShare (out0_41 x1) ∗ owns (c : Thread nD τ) arg42 fullShare (out0_42 x1 x11 x12 x13) ∗ owns (c : Thread nD τ) arg43 fullShare (out0_43 x1 x12) ∗ owns (c : Thread nD τ) arg44 fullShare (out0_44 x1 x13) ∗ owns (c : Thread nD τ) arg45 fullShare (out0_45 x1) ∗ owns (c : Thread nD τ) arg46 fullShare (out0_46 x1 x14 x15 x16) ∗ owns (c : Thread nD τ) arg47 fullShare (out0_47 x1 x15) ∗ owns (c : Thread nD τ) arg48 fullShare (out0_48 x1 x16) ∗ owns (c : Thread nD τ) arg49 fullShare (out0_49 x1) ∗ owns (c : Thread nD τ) arg50 fullShare (out0_50 x1 x17 x18 x19) ∗ owns (c : Thread nD τ) arg51 fullShare (out0_51 x1 x18) ∗ owns (c : Thread nD τ) arg52 fullShare (out0_52 x1 x19) ∗ owns (c : Thread nD τ) arg53 fullShare (out0_53 x1) ∗ owns (c : Thread nD τ) arg54 fullShare (out0_54 x1 x20 x21 x22) ∗ owns (c : Thread nD τ) arg55 fullShare (out0_55 x1 x21) ∗ owns (c : Thread nD τ) arg56 fullShare (out0_56 x1 x22) ∗ owns (c : Thread nD τ) arg57 fullShare (out0_57 x0 x1) ∗ owns (c : Thread nD τ) arg58 fullShare (out0_58 x0 x1 x23 x24 x25) ∗ owns (c : Thread nD τ) arg59 fullShare (out0_59 x0 x1 x24) ∗ owns (c : Thread nD τ) arg60 fullShare (out0_60 x0 x1 x25) ∗ owns (c : Thread nD τ) arg61 fullShare (out0_61 x0 x1) ∗ owns (c : Thread nD τ) arg62 fullShare (out0_62 x0 x1 x26 x27 x28) ∗ owns (c : Thread nD τ) arg63 fullShare (out0_63 x0 x1 x27) ∗ owns (c : Thread nD τ) arg64 fullShare (out0_64 x0 x1 x28)) -∗ K ⟨⟩))
      ⊢ wp frame (wpE (defs₀ (F := F)) Variants.none c none) E (cc0_small_adamw arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64) K := by
  simp only [cc0_small_adamw_eq_skeleton]; unfold cc0_small_adamw_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, %hf29, H29⟩, ⟨%d30, %f30, %hf30, H30⟩, ⟨%d31, %f31, %hf31, H31⟩, ⟨%d32, %f32, %hf32, H32⟩, ⟨%d33, %f33, %hf33, H33⟩, ⟨%d34, %f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, ⟨%d45, %f45, %hf45, H45⟩, ⟨%d46, %f46, %hf46, H46⟩, ⟨%d47, %f47, %hf47, H47⟩, ⟨%d48, %f48, %hf48, H48⟩, ⟨%d49, %f49, %hf49, H49⟩, ⟨%d50, %f50, %hf50, H50⟩, ⟨%d51, %f51, %hf51, H51⟩, ⟨%d52, %f52, %hf52, H52⟩, ⟨%d53, %f53, %hf53, H53⟩, ⟨%d54, %f54, %hf54, H54⟩, ⟨%d55, %f55, %hf55, H55⟩, ⟨%d56, %f56, %hf56, H56⟩, ⟨%d57, %f57, %hf57, H57⟩, ⟨%d58, %f58, %hf58, H58⟩, ⟨%d59, %f59, %hf59, H59⟩, ⟨%d60, %f60, %hf60, H60⟩, ⟨%d61, %f61, %hf61, H61⟩, ⟨%d62, %f62, %hf62, H62⟩, ⟨%d63, %f63, %hf63, H63⟩, ⟨%d64, %f64, %hf64, H64⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists _; isplitr
    swap; · iexact H29
    ipureintro
    refine (View.read_writes_eq_canon _ _ _ (cover_V _)).trans ?_
    rfl
  isplitl [H30]
  · iexists _; isplitr
    swap; · iexact H30
    ipureintro
    refine (View.read_writes_eq_canon _ _ _ (cover_V _)).trans ?_
    rfl
  isplitl [H31]
  · iexists _; isplitr
    swap; · iexact H31
    ipureintro
    refine (View.read_writes_eq_canon _ _ _ (cover_V _)).trans ?_
    rfl
  isplitl [H32]
  · iexists _; isplitr
    swap; · iexact H32
    ipureintro
    refine (View.read_writes_eq_canon _ _ _ (cover_V _)).trans ?_
    rfl
  isplitl [H33]
  · iexists _; isplitr
    swap; · iexact H33
    ipureintro
    refine (View.read_writes_eq_canon _ _ _ (cover_V _)).trans ?_
    rfl
  isplitl [H34]
  · iexists _; isplitr
    swap; · iexact H34
    ipureintro
    refine (View.read_writes_eq_canon _ _ _ (cover_V _)).trans ?_
    rfl
  isplitl [H35]
  · iexists _; isplitr
    swap; · iexact H35
    ipureintro
    refine (View.read_writes_eq_canon _ _ _ (cover_V _)).trans ?_
    rfl
  isplitl [H36]
  · iexists _; isplitr
    swap; · iexact H36
    ipureintro
    refine (View.read_writes_eq_canon _ _ _ (cover_V _)).trans ?_
    rfl
  isplitl [H37]
  · iexists _; isplitr
    swap; · iexact H37
    ipureintro
    refine (View.read_writes_eq_canon _ _ _ (cover_V _)).trans ?_
    rfl
  isplitl [H38]
  · iexists _; isplitr
    swap; · iexact H38
    ipureintro
    refine (View.read_writes_eq_canon _ _ _ (cover_V _)).trans ?_
    rfl
  isplitl [H39]
  · iexists _; isplitr
    swap; · iexact H39
    ipureintro
    refine (View.read_writes_eq_canon _ _ _ (cover_V _)).trans ?_
    rfl
  isplitl [H40]
  · iexists _; isplitr
    swap; · iexact H40
    ipureintro
    refine (View.read_writes_eq_canon _ _ _ (cover_V _)).trans ?_
    rfl
  isplitl [H41]
  · iexists _; isplitr
    swap; · iexact H41
    ipureintro
    refine (View.read_writes_eq_canon _ _ _ (cover_V _)).trans ?_
    rfl
  isplitl [H42]
  · iexists _; isplitr
    swap; · iexact H42
    ipureintro
    refine (View.read_writes_eq_canon _ _ _ (cover_V _)).trans ?_
    rfl
  isplitl [H43]
  · iexists _; isplitr
    swap; · iexact H43
    ipureintro
    refine (View.read_writes_eq_canon _ _ _ (cover_V _)).trans ?_
    rfl
  isplitl [H44]
  · iexists _; isplitr
    swap; · iexact H44
    ipureintro
    refine (View.read_writes_eq_canon _ _ _ (cover_V _)).trans ?_
    rfl
  isplitl [H45]
  · iexists _; isplitr
    swap; · iexact H45
    ipureintro
    refine (View.read_writes_eq_canon _ _ _ (cover_V _)).trans ?_
    rfl
  isplitl [H46]
  · iexists _; isplitr
    swap; · iexact H46
    ipureintro
    refine (View.read_writes_eq_canon _ _ _ (cover_V _)).trans ?_
    rfl
  isplitl [H47]
  · iexists _; isplitr
    swap; · iexact H47
    ipureintro
    refine (View.read_writes_eq_canon _ _ _ (cover_V _)).trans ?_
    rfl
  isplitl [H48]
  · iexists _; isplitr
    swap; · iexact H48
    ipureintro
    refine (View.read_writes_eq_canon _ _ _ (cover_V _)).trans ?_
    rfl
  isplitl [H49]
  · iexists _; isplitr
    swap; · iexact H49
    ipureintro
    refine (View.read_writes_eq_canon _ _ _ (cover_V _)).trans ?_
    rfl
  isplitl [H50]
  · iexists _; isplitr
    swap; · iexact H50
    ipureintro
    refine (View.read_writes_eq_canon _ _ _ (cover_V _)).trans ?_
    rfl
  isplitl [H51]
  · iexists _; isplitr
    swap; · iexact H51
    ipureintro
    refine (View.read_writes_eq_canon _ _ _ (cover_V _)).trans ?_
    rfl
  isplitl [H52]
  · iexists _; isplitr
    swap; · iexact H52
    ipureintro
    refine (View.read_writes_eq_canon _ _ _ (cover_V _)).trans ?_
    rfl
  isplitl [H53]
  · iexists _; isplitr
    swap; · iexact H53
    ipureintro
    refine (View.read_writes_eq_canon _ _ _ (cover_V _)).trans ?_
    rfl
  isplitl [H54]
  · iexists _; isplitr
    swap; · iexact H54
    ipureintro
    refine (View.read_writes_eq_canon _ _ _ (cover_V _)).trans ?_
    rfl
  isplitl [H55]
  · iexists _; isplitr
    swap; · iexact H55
    ipureintro
    refine (View.read_writes_eq_canon _ _ _ (cover_V _)).trans ?_
    rfl
  isplitl [H56]
  · iexists _; isplitr
    swap; · iexact H56
    ipureintro
    refine (View.read_writes_eq_canon _ _ _ (cover_V _)).trans ?_
    rfl
  isplitl [H57]
  · iexists _; isplitr
    swap; · iexact H57
    ipureintro
    refine (View.read_writes_eq_canon _ _ _ (cover_A _)).trans ?_
    rfl
  isplitl [H58]
  · iexists _; isplitr
    swap; · iexact H58
    ipureintro
    refine (View.read_writes_eq_canon _ _ _ (cover_A _)).trans ?_
    rfl
  isplitl [H59]
  · iexists _; isplitr
    swap; · iexact H59
    ipureintro
    refine (View.read_writes_eq_canon _ _ _ (cover_A _)).trans ?_
    rfl
  isplitl [H60]
  · iexists _; isplitr
    swap; · iexact H60
    ipureintro
    refine (View.read_writes_eq_canon _ _ _ (cover_A _)).trans ?_
    rfl
  isplitl [H61]
  · iexists _; isplitr
    swap; · iexact H61
    ipureintro
    refine (View.read_writes_eq_canon _ _ _ (cover_B _)).trans ?_
    rfl
  isplitl [H62]
  · iexists _; isplitr
    swap; · iexact H62
    ipureintro
    refine (View.read_writes_eq_canon _ _ _ (cover_B _)).trans ?_
    rfl
  isplitl [H63]
  · iexists _; isplitr
    swap; · iexact H63
    ipureintro
    refine (View.read_writes_eq_canon _ _ _ (cover_B _)).trans ?_
    rfl
  iexists _; isplitr
  swap; · iexact H64
  ipureintro
  refine (View.read_writes_eq_canon _ _ _ (cover_B _)).trans ?_
  rfl

end Cert.Kernel13Ideal.Gen

end
-- ==== Proof.SmallMaths.lean ====
/-
  The arithmetic of the small weights' step (the thirteenth program): the reference's rows of the summed gradient are the
  kernel's, the device's quarter of a convolution's gradient is picked out alike, and the moments and updates are the
  optimiser's step entry by entry.
-/
module

public import proofs.«01_k».proof.Proof.Step
public import proofs.«01_k».proof.Proof.SmallBody
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Kernel13Ideal.SmallStep

open Idealize.ShloMosaic
open Cert.Kernel13Ideal Cert.Kernel13Ideal.Gen Cert.Step
open Cert.Reference13Ideal.Read

/-! ## The rows of the summed gradient -/

variable (x0 : Vec Ideal S2 .i32) (x1 : Vec Ideal S48x1024 .f32)

/-- Row 0 of the summed gradient. -/
theorem row0 : View.ld x1 (Rect.unit (s := S48x1024) ![0, 0] S1x1024.size inb_S48x1024_S1x1024_0_0) = val_main_v0 (F := Ideal) x1 := by
  funext i
  rw [val_main_v0_apply]
  refine congrArg x1 (funext fun a => Fin.ext ?_)
  match a with
  | ⟨0, _⟩ => show 0 + 1 * (i 0).val = (i 0).val; omega
  | ⟨1, _⟩ => show 0 + 1 * (i 1).val = (i 1).val; omega

/-- Row 1 of the summed gradient. -/
theorem row1 : View.ld x1 (Rect.unit (s := S48x1024) ![1, 0] S1x1024.size inb_S48x1024_S1x1024_1_0) = val_main_v1 (F := Ideal) x1 := by
  funext i
  rw [val_main_v1_apply]
  refine congrArg x1 (funext fun a => Fin.ext ?_)
  match a with
  | ⟨0, _⟩ => show 1 + 1 * (i 0).val = 1 + (i 0).val; omega
  | ⟨1, _⟩ => show 0 + 1 * (i 1).val = (i 1).val; omega

/-- Row 2 of the summed gradient. -/
theorem row2 : View.ld x1 (Rect.unit (s := S48x1024) ![2, 0] S1x1024.size inb_S48x1024_S1x1024_2_0) = val_main_v2 (F := Ideal) x1 := by
  funext i
  rw [val_main_v2_apply]
  refine congrArg x1 (funext fun a => Fin.ext ?_)
  match a with
  | ⟨0, _⟩ => show 2 + 1 * (i 0).val = 2 + (i 0).val; omega
  | ⟨1, _⟩ => show 0 + 1 * (i 1).val = (i 1).val; omega

/-- Row 3 of the summed gradient. -/
theorem row3 : View.ld x1 (Rect.unit (s := S48x1024) ![3, 0] S1x1024.size inb_S48x1024_S1x1024_3_0) = val_main_v3 (F := Ideal) x1 := by
  funext i
  rw [val_main_v3_apply]
  refine congrArg x1 (funext fun a => Fin.ext ?_)
  match a with
  | ⟨0, _⟩ => show 3 + 1 * (i 0).val = 3 + (i 0).val; omega
  | ⟨1, _⟩ => show 0 + 1 * (i 1).val = (i 1).val; omega

/-- Row 4 of the summed gradient. -/
theorem row4 : View.ld x1 (Rect.unit (s := S48x1024) ![4, 0] S1x1024.size inb_S48x1024_S1x1024_4_0) = val_main_v4 (F := Ideal) x1 := by
  funext i
  rw [val_main_v4_apply]
  refine congrArg x1 (funext fun a => Fin.ext ?_)
  match a with
  | ⟨0, _⟩ => show 4 + 1 * (i 0).val = 4 + (i 0).val; omega
  | ⟨1, _⟩ => show 0 + 1 * (i 1).val = (i 1).val; omega

/-- Row 5 of the summed gradient. -/
theorem row5 : View.ld x1 (Rect.unit (s := S48x1024) ![5, 0] S1x1024.size inb_S48x1024_S1x1024_5_0) = val_main_v5 (F := Ideal) x1 := by
  funext i
  rw [val_main_v5_apply]
  refine congrArg x1 (funext fun a => Fin.ext ?_)
  match a with
  | ⟨0, _⟩ => show 5 + 1 * (i 0).val = 5 + (i 0).val; omega
  | ⟨1, _⟩ => show 0 + 1 * (i 1).val = (i 1).val; omega

/-- Row 6 of the summed gradient. -/
theorem row6 : View.ld x1 (Rect.unit (s := S48x1024) ![6, 0] S1x1024.size inb_S48x1024_S1x1024_6_0) = val_main_v6 (F := Ideal) x1 := by
  funext i
  rw [val_main_v6_apply]
  refine congrArg x1 (funext fun a => Fin.ext ?_)
  match a with
  | ⟨0, _⟩ => show 6 + 1 * (i 0).val = 6 + (i 0).val; omega
  | ⟨1, _⟩ => show 0 + 1 * (i 1).val = (i 1).val; omega

/-- Column block 0 of the rows of convolution A's gradient. -/
theorem colsA0 : View.ld x1 (Rect.unit (s := S48x1024) ![8, 0] S31x256.size inb_S48x1024_S31x256_8_0) = val_main_v11 (F := Ideal) x1 := by
  funext i
  rw [val_main_v11_apply, val_main_v7_apply]
  refine congrArg x1 (funext fun a => Fin.ext ?_)
  match a with
  | ⟨0, _⟩ => show 8 + 1 * (i 0).val = 8 + (i 0).val; omega
  | ⟨1, _⟩ => show 0 + 1 * (i 1).val = (i 1).val; omega

/-- Column block 1 of the rows of convolution A's gradient. -/
theorem colsA1 : View.ld x1 (Rect.unit (s := S48x1024) ![8, 256] S31x256.size inb_S48x1024_S31x256_8_256) = val_main_v18 (F := Ideal) x1 := by
  funext i
  rw [val_main_v18_apply, val_main_v7_apply]
  refine congrArg x1 (funext fun a => Fin.ext ?_)
  match a with
  | ⟨0, _⟩ => show 8 + 1 * (i 0).val = 8 + (i 0).val; omega
  | ⟨1, _⟩ => show 256 + 1 * (i 1).val = 256 + (i 1).val; omega

/-- Column block 2 of the rows of convolution A's gradient. -/
theorem colsA2 : View.ld x1 (Rect.unit (s := S48x1024) ![8, 512] S31x256.size inb_S48x1024_S31x256_8_512) = val_main_v24 (F := Ideal) x1 := by
  funext i
  rw [val_main_v24_apply, val_main_v7_apply]
  refine congrArg x1 (funext fun a => Fin.ext ?_)
  match a with
  | ⟨0, _⟩ => show 8 + 1 * (i 0).val = 8 + (i 0).val; omega
  | ⟨1, _⟩ => show 512 + 1 * (i 1).val = 512 + (i 1).val; omega

/-- Column block 3 of the rows of convolution A's gradient. -/
theorem colsA3 : View.ld x1 (Rect.unit (s := S48x1024) ![8, 768] S31x256.size inb_S48x1024_S31x256_8_768) = val_main_v30 (F := Ideal) x1 := by
  funext i
  rw [val_main_v30_apply, val_main_v7_apply]
  refine congrArg x1 (funext fun a => Fin.ext ?_)
  match a with
  | ⟨0, _⟩ => show 8 + 1 * (i 0).val = 8 + (i 0).val; omega
  | ⟨1, _⟩ => show 768 + 1 * (i 1).val = 768 + (i 1).val; omega

/-- Column block 0 of the rows of convolution B's gradient. -/
theorem colsB0 : View.ld x1 (Rect.unit (s := S48x1024) ![40, 0] S3x256.size inb_S48x1024_S3x256_40_0) = val_main_v38 (F := Ideal) x1 := by
  funext i
  rw [val_main_v38_apply, val_main_v34_apply]
  refine congrArg x1 (funext fun a => Fin.ext ?_)
  match a with
  | ⟨0, _⟩ => show 40 + 1 * (i 0).val = 40 + (i 0).val; omega
  | ⟨1, _⟩ => show 0 + 1 * (i 1).val = (i 1).val; omega

/-- Column block 1 of the rows of convolution B's gradient. -/
theorem colsB1 : View.ld x1 (Rect.unit (s := S48x1024) ![40, 256] S3x256.size inb_S48x1024_S3x256_40_256) = val_main_v45 (F := Ideal) x1 := by
  funext i
  rw [val_main_v45_apply, val_main_v34_apply]
  refine congrArg x1 (funext fun a => Fin.ext ?_)
  match a with
  | ⟨0, _⟩ => show 40 + 1 * (i 0).val = 40 + (i 0).val; omega
  | ⟨1, _⟩ => show 256 + 1 * (i 1).val = 256 + (i 1).val; omega

/-- Column block 2 of the rows of convolution B's gradient. -/
theorem colsB2 : View.ld x1 (Rect.unit (s := S48x1024) ![40, 512] S3x256.size inb_S48x1024_S3x256_40_512) = val_main_v51 (F := Ideal) x1 := by
  funext i
  rw [val_main_v51_apply, val_main_v34_apply]
  refine congrArg x1 (funext fun a => Fin.ext ?_)
  match a with
  | ⟨0, _⟩ => show 40 + 1 * (i 0).val = 40 + (i 0).val; omega
  | ⟨1, _⟩ => show 512 + 1 * (i 1).val = 512 + (i 1).val; omega

/-- Column block 3 of the rows of convolution B's gradient. -/
theorem colsB3 : View.ld x1 (Rect.unit (s := S48x1024) ![40, 768] S3x256.size inb_S48x1024_S3x256_40_768) = val_main_v57 (F := Ideal) x1 := by
  funext i
  rw [val_main_v57_apply, val_main_v34_apply]
  refine congrArg x1 (funext fun a => Fin.ext ?_)
  match a with
  | ⟨0, _⟩ => show 40 + 1 * (i 0).val = 40 + (i 0).val; omega
  | ⟨1, _⟩ => show 768 + 1 * (i 1).val = 768 + (i 1).val; omega

theorem place_v9 (i : Cert.Reference13Ideal.S_.Idx) : val_main_v9 (F := Ideal) x0 i = chip x0 := by
  unfold val_main_v9 chip
  unfold shapeCast
  rw [val_main_v8_apply]
  refine congrArg x0 (funext fun a => Fin.ext ?_)
  match a with
  | ⟨0, _⟩ => simp

theorem place_v16 (i : Cert.Reference13Ideal.S_.Idx) : val_main_v16 (F := Ideal) x0 i = chip x0 := by
  unfold val_main_v16 chip
  unfold shapeCast
  rw [val_main_v15_apply]
  refine congrArg x0 (funext fun a => Fin.ext ?_)
  match a with
  | ⟨0, _⟩ => simp

theorem place_v22 (i : Cert.Reference13Ideal.S_.Idx) : val_main_v22 (F := Ideal) x0 i = chip x0 := by
  unfold val_main_v22 chip
  unfold shapeCast
  rw [val_main_v21_apply]
  refine congrArg x0 (funext fun a => Fin.ext ?_)
  match a with
  | ⟨0, _⟩ => simp

theorem place_v28 (i : Cert.Reference13Ideal.S_.Idx) : val_main_v28 (F := Ideal) x0 i = chip x0 := by
  unfold val_main_v28 chip
  unfold shapeCast
  rw [val_main_v27_apply]
  refine congrArg x0 (funext fun a => Fin.ext ?_)
  match a with
  | ⟨0, _⟩ => simp

theorem place_v36 (i : Cert.Reference13Ideal.S_.Idx) : val_main_v36 (F := Ideal) x0 i = chip x0 := by
  unfold val_main_v36 chip
  unfold shapeCast
  rw [val_main_v35_apply]
  refine congrArg x0 (funext fun a => Fin.ext ?_)
  match a with
  | ⟨0, _⟩ => simp

theorem place_v43 (i : Cert.Reference13Ideal.S_.Idx) : val_main_v43 (F := Ideal) x0 i = chip x0 := by
  unfold val_main_v43 chip
  unfold shapeCast
  rw [val_main_v42_apply]
  refine congrArg x0 (funext fun a => Fin.ext ?_)
  match a with
  | ⟨0, _⟩ => simp

theorem place_v49 (i : Cert.Reference13Ideal.S_.Idx) : val_main_v49 (F := Ideal) x0 i = chip x0 := by
  unfold val_main_v49 chip
  unfold shapeCast
  rw [val_main_v48_apply]
  refine congrArg x0 (funext fun a => Fin.ext ?_)
  match a with
  | ⟨0, _⟩ => simp

theorem place_v55 (i : Cert.Reference13Ideal.S_.Idx) : val_main_v55 (F := Ideal) x0 i = chip x0 := by
  unfold val_main_v55 chip
  unfold shapeCast
  rw [val_main_v54_apply]
  refine congrArg x0 (funext fun a => Fin.ext ?_)
  match a with
  | ⟨0, _⟩ => simp

/-- The device's quarter of convolution A's gradient is the reference's. -/
theorem quarterA : gA x0 x1 = val_main_v32 (F := Ideal) x0 x1 := by
  unfold gA
  rw [colsA0, colsA1, colsA2, colsA3]
  funext i
  pointwise [k0_pay23, val_main_v32, val_main_v31, val_main_call3_v1, val_main_call3_v0, val_main_cst_6, val_main_v29, val_main_c_5, val_main_v26, val_main_v25, val_main_call2_v1, val_main_call2_v0, val_main_cst_4, val_main_v23, val_main_c_3, val_main_v20, val_main_v19, val_main_call1_v1, val_main_call1_v0, val_main_cst_2, val_main_v17, val_main_c_1, val_main_v14, val_main_v12, val_main_call0_v1, val_main_call0_v0, val_main_cst, val_main_v10, val_main_c, val_main_v13, val_main_cst_0, place_v9, place_v16, place_v22, place_v28, place_v36, place_v43, place_v49, place_v55]
  simp only [id_eq, constant, broadcast]
  rw [show (FloatOps.ofBits (F := Ideal) FTy.f32 0#32 : EReal) = 0 from by pointwise []]
  rfl

/-- The device's quarter of convolution B's gradient is the reference's. -/
theorem quarterB : gB x0 x1 = val_main_v59 (F := Ideal) x0 x1 := by
  unfold gB
  rw [colsB0, colsB1, colsB2, colsB3]
  funext i
  pointwise [k0_pay32, val_main_v59, val_main_v58, val_main_call7_v1, val_main_call7_v0, val_main_cst_15, val_main_v56, val_main_c_14, val_main_v53, val_main_v52, val_main_call6_v1, val_main_call6_v0, val_main_cst_13, val_main_v50, val_main_c_12, val_main_v47, val_main_v46, val_main_call5_v1, val_main_call5_v0, val_main_cst_11, val_main_v44, val_main_c_10, val_main_v41, val_main_v39, val_main_call4_v1, val_main_call4_v0, val_main_cst_8, val_main_v37, val_main_c_7, val_main_v40, val_main_cst_9, place_v9, place_v16, place_v22, place_v28, place_v36, place_v43, place_v49, place_v55]
  simp only [id_eq, constant, broadcast]
  rw [show (FloatOps.ofBits (F := Ideal) FTy.f32 0#32 : EReal) = 0 from by pointwise []]
  rfl

/-! ## The steps -/

section
variable (w u v : FVec Ideal S1x1024 .f32)

theorem ref_d0 : val_main_v84 (F := Ideal) x1 w u v = updates w (val_main_v0 (F := Ideal) x1) u v := by
  funext i
  pointwise [val_main_v84, val_main_v82, val_main_v81, val_main_v80, val_main_cst_23, val_main_v79, val_main_v78, val_main_v77, val_main_cst_22, val_main_v76, val_main_v75, val_main_v74, val_main_cst_21, val_main_v71, val_main_v70, val_main_v68, val_main_v69, val_main_cst_19, val_main_v67, val_main_v66, val_main_cst_18, val_main_v73, val_main_v72, val_main_cst_20, val_main_v65, val_main_v64, val_main_v63, val_main_cst_17, val_main_v62, val_main_v61, val_main_cst_16, val_main_v83, val_main_cst_24, updates, firsts, seconds, update, first, second]

theorem ref_m0 : val_main_v65 (F := Ideal) x1 u = firsts (val_main_v0 (F := Ideal) x1) u := by
  funext i
  pointwise [val_main_v65, val_main_v64, val_main_v63, val_main_cst_17, val_main_v62, val_main_v61, val_main_cst_16, updates, firsts, seconds, update, first, second]

theorem ref_v0 : val_main_v71 (F := Ideal) x1 v = seconds (val_main_v0 (F := Ideal) x1) v := by
  funext i
  pointwise [val_main_v71, val_main_v70, val_main_v68, val_main_v69, val_main_cst_19, val_main_v67, val_main_v66, val_main_cst_18, updates, firsts, seconds, update, first, second]

theorem pay_d0 (g : FVec Ideal S1x1024 .f32) : k0_pay4 g w u v = updates w g u v := by
  funext i
  pointwise [k0_pay4, k0_pay2, k0_pay3, updates, update, first, second]

theorem pay_m0 (g : FVec Ideal S1x1024 .f32) : k0_pay2 g u = firsts g u := by
  funext i
  pointwise [k0_pay2, firsts, first]

theorem pay_v0 (g : FVec Ideal S1x1024 .f32) : k0_pay3 g v = seconds g v := by
  funext i
  pointwise [k0_pay3, seconds, second]

end

section
variable (w u v : FVec Ideal S1x1024 .f32)

theorem ref_d1 : val_main_v108 (F := Ideal) x1 w u v = updates w (val_main_v1 (F := Ideal) x1) u v := by
  funext i
  pointwise [val_main_v108, val_main_v106, val_main_v105, val_main_v104, val_main_cst_32, val_main_v103, val_main_v102, val_main_v101, val_main_cst_31, val_main_v100, val_main_v99, val_main_v98, val_main_cst_30, val_main_v95, val_main_v94, val_main_v92, val_main_v93, val_main_cst_28, val_main_v91, val_main_v90, val_main_cst_27, val_main_v97, val_main_v96, val_main_cst_29, val_main_v89, val_main_v88, val_main_v87, val_main_cst_26, val_main_v86, val_main_v85, val_main_cst_25, val_main_v107, val_main_cst_33, updates, firsts, seconds, update, first, second]

theorem ref_m1 : val_main_v89 (F := Ideal) x1 u = firsts (val_main_v1 (F := Ideal) x1) u := by
  funext i
  pointwise [val_main_v89, val_main_v88, val_main_v87, val_main_cst_26, val_main_v86, val_main_v85, val_main_cst_25, updates, firsts, seconds, update, first, second]

theorem ref_v1 : val_main_v95 (F := Ideal) x1 v = seconds (val_main_v1 (F := Ideal) x1) v := by
  funext i
  pointwise [val_main_v95, val_main_v94, val_main_v92, val_main_v93, val_main_cst_28, val_main_v91, val_main_v90, val_main_cst_27, updates, firsts, seconds, update, first, second]

theorem pay_d1 (g : FVec Ideal S1x1024 .f32) : k0_pay7 g w u v = updates w g u v := by
  funext i
  pointwise [k0_pay7, k0_pay5, k0_pay6, updates, update, first, second]

theorem pay_m1 (g : FVec Ideal S1x1024 .f32) : k0_pay5 g u = firsts g u := by
  funext i
  pointwise [k0_pay5, firsts, first]

theorem pay_v1 (g : FVec Ideal S1x1024 .f32) : k0_pay6 g v = seconds g v := by
  funext i
  pointwise [k0_pay6, seconds, second]

end

section
variable (w u v : FVec Ideal S1x1024 .f32)

theorem ref_d2 : val_main_v132 (F := Ideal) x1 w u v = updates w (val_main_v2 (F := Ideal) x1) u v := by
  funext i
  pointwise [val_main_v132, val_main_v130, val_main_v129, val_main_v128, val_main_cst_41, val_main_v127, val_main_v126, val_main_v125, val_main_cst_40, val_main_v124, val_main_v123, val_main_v122, val_main_cst_39, val_main_v119, val_main_v118, val_main_v116, val_main_v117, val_main_cst_37, val_main_v115, val_main_v114, val_main_cst_36, val_main_v121, val_main_v120, val_main_cst_38, val_main_v113, val_main_v112, val_main_v111, val_main_cst_35, val_main_v110, val_main_v109, val_main_cst_34, val_main_v131, val_main_cst_42, updates, firsts, seconds, update, first, second]

theorem ref_m2 : val_main_v113 (F := Ideal) x1 u = firsts (val_main_v2 (F := Ideal) x1) u := by
  funext i
  pointwise [val_main_v113, val_main_v112, val_main_v111, val_main_cst_35, val_main_v110, val_main_v109, val_main_cst_34, updates, firsts, seconds, update, first, second]

theorem ref_v2 : val_main_v119 (F := Ideal) x1 v = seconds (val_main_v2 (F := Ideal) x1) v := by
  funext i
  pointwise [val_main_v119, val_main_v118, val_main_v116, val_main_v117, val_main_cst_37, val_main_v115, val_main_v114, val_main_cst_36, updates, firsts, seconds, update, first, second]

theorem pay_d2 (g : FVec Ideal S1x1024 .f32) : k0_pay10 g w u v = updates w g u v := by
  funext i
  pointwise [k0_pay10, k0_pay8, k0_pay9, updates, update, first, second]

theorem pay_m2 (g : FVec Ideal S1x1024 .f32) : k0_pay8 g u = firsts g u := by
  funext i
  pointwise [k0_pay8, firsts, first]

theorem pay_v2 (g : FVec Ideal S1x1024 .f32) : k0_pay9 g v = seconds g v := by
  funext i
  pointwise [k0_pay9, seconds, second]

end

section
variable (w u v : FVec Ideal S1x1024 .f32)

theorem ref_d3 : val_main_v156 (F := Ideal) x1 w u v = updates w (val_main_v3 (F := Ideal) x1) u v := by
  funext i
  pointwise [val_main_v156, val_main_v154, val_main_v153, val_main_v152, val_main_cst_50, val_main_v151, val_main_v150, val_main_v149, val_main_cst_49, val_main_v148, val_main_v147, val_main_v146, val_main_cst_48, val_main_v143, val_main_v142, val_main_v140, val_main_v141, val_main_cst_46, val_main_v139, val_main_v138, val_main_cst_45, val_main_v145, val_main_v144, val_main_cst_47, val_main_v137, val_main_v136, val_main_v135, val_main_cst_44, val_main_v134, val_main_v133, val_main_cst_43, val_main_v155, val_main_cst_51, updates, firsts, seconds, update, first, second]

theorem ref_m3 : val_main_v137 (F := Ideal) x1 u = firsts (val_main_v3 (F := Ideal) x1) u := by
  funext i
  pointwise [val_main_v137, val_main_v136, val_main_v135, val_main_cst_44, val_main_v134, val_main_v133, val_main_cst_43, updates, firsts, seconds, update, first, second]

theorem ref_v3 : val_main_v143 (F := Ideal) x1 v = seconds (val_main_v3 (F := Ideal) x1) v := by
  funext i
  pointwise [val_main_v143, val_main_v142, val_main_v140, val_main_v141, val_main_cst_46, val_main_v139, val_main_v138, val_main_cst_45, updates, firsts, seconds, update, first, second]

theorem pay_d3 (g : FVec Ideal S1x1024 .f32) : k0_pay13 g w u v = updates w g u v := by
  funext i
  pointwise [k0_pay13, k0_pay11, k0_pay12, updates, update, first, second]

theorem pay_m3 (g : FVec Ideal S1x1024 .f32) : k0_pay11 g u = firsts g u := by
  funext i
  pointwise [k0_pay11, firsts, first]

theorem pay_v3 (g : FVec Ideal S1x1024 .f32) : k0_pay12 g v = seconds g v := by
  funext i
  pointwise [k0_pay12, seconds, second]

end

section
variable (w u v : FVec Ideal S1x1024 .f32)

theorem ref_d4 : val_main_v180 (F := Ideal) x1 w u v = updates w (val_main_v4 (F := Ideal) x1) u v := by
  funext i
  pointwise [val_main_v180, val_main_v178, val_main_v177, val_main_v176, val_main_cst_59, val_main_v175, val_main_v174, val_main_v173, val_main_cst_58, val_main_v172, val_main_v171, val_main_v170, val_main_cst_57, val_main_v167, val_main_v166, val_main_v164, val_main_v165, val_main_cst_55, val_main_v163, val_main_v162, val_main_cst_54, val_main_v169, val_main_v168, val_main_cst_56, val_main_v161, val_main_v160, val_main_v159, val_main_cst_53, val_main_v158, val_main_v157, val_main_cst_52, val_main_v179, val_main_cst_60, updates, firsts, seconds, update, first, second]

theorem ref_m4 : val_main_v161 (F := Ideal) x1 u = firsts (val_main_v4 (F := Ideal) x1) u := by
  funext i
  pointwise [val_main_v161, val_main_v160, val_main_v159, val_main_cst_53, val_main_v158, val_main_v157, val_main_cst_52, updates, firsts, seconds, update, first, second]

theorem ref_v4 : val_main_v167 (F := Ideal) x1 v = seconds (val_main_v4 (F := Ideal) x1) v := by
  funext i
  pointwise [val_main_v167, val_main_v166, val_main_v164, val_main_v165, val_main_cst_55, val_main_v163, val_main_v162, val_main_cst_54, updates, firsts, seconds, update, first, second]

theorem pay_d4 (g : FVec Ideal S1x1024 .f32) : k0_pay16 g w u v = updates w g u v := by
  funext i
  pointwise [k0_pay16, k0_pay14, k0_pay15, updates, update, first, second]

theorem pay_m4 (g : FVec Ideal S1x1024 .f32) : k0_pay14 g u = firsts g u := by
  funext i
  pointwise [k0_pay14, firsts, first]

theorem pay_v4 (g : FVec Ideal S1x1024 .f32) : k0_pay15 g v = seconds g v := by
  funext i
  pointwise [k0_pay15, seconds, second]

end

section
variable (w u v : FVec Ideal S1x1024 .f32)

theorem ref_d5 : val_main_v204 (F := Ideal) x1 w u v = updates w (val_main_v5 (F := Ideal) x1) u v := by
  funext i
  pointwise [val_main_v204, val_main_v202, val_main_v201, val_main_v200, val_main_cst_68, val_main_v199, val_main_v198, val_main_v197, val_main_cst_67, val_main_v196, val_main_v195, val_main_v194, val_main_cst_66, val_main_v191, val_main_v190, val_main_v188, val_main_v189, val_main_cst_64, val_main_v187, val_main_v186, val_main_cst_63, val_main_v193, val_main_v192, val_main_cst_65, val_main_v185, val_main_v184, val_main_v183, val_main_cst_62, val_main_v182, val_main_v181, val_main_cst_61, val_main_v203, val_main_cst_69, updates, firsts, seconds, update, first, second]

theorem ref_m5 : val_main_v185 (F := Ideal) x1 u = firsts (val_main_v5 (F := Ideal) x1) u := by
  funext i
  pointwise [val_main_v185, val_main_v184, val_main_v183, val_main_cst_62, val_main_v182, val_main_v181, val_main_cst_61, updates, firsts, seconds, update, first, second]

theorem ref_v5 : val_main_v191 (F := Ideal) x1 v = seconds (val_main_v5 (F := Ideal) x1) v := by
  funext i
  pointwise [val_main_v191, val_main_v190, val_main_v188, val_main_v189, val_main_cst_64, val_main_v187, val_main_v186, val_main_cst_63, updates, firsts, seconds, update, first, second]

theorem pay_d5 (g : FVec Ideal S1x1024 .f32) : k0_pay19 g w u v = updates w g u v := by
  funext i
  pointwise [k0_pay19, k0_pay17, k0_pay18, updates, update, first, second]

theorem pay_m5 (g : FVec Ideal S1x1024 .f32) : k0_pay17 g u = firsts g u := by
  funext i
  pointwise [k0_pay17, firsts, first]

theorem pay_v5 (g : FVec Ideal S1x1024 .f32) : k0_pay18 g v = seconds g v := by
  funext i
  pointwise [k0_pay18, seconds, second]

end

section
variable (w u v : FVec Ideal S1x1024 .f32)

theorem ref_d6 : val_main_v228 (F := Ideal) x1 w u v = updates w (val_main_v6 (F := Ideal) x1) u v := by
  funext i
  pointwise [val_main_v228, val_main_v226, val_main_v225, val_main_v224, val_main_cst_77, val_main_v223, val_main_v222, val_main_v221, val_main_cst_76, val_main_v220, val_main_v219, val_main_v218, val_main_cst_75, val_main_v215, val_main_v214, val_main_v212, val_main_v213, val_main_cst_73, val_main_v211, val_main_v210, val_main_cst_72, val_main_v217, val_main_v216, val_main_cst_74, val_main_v209, val_main_v208, val_main_v207, val_main_cst_71, val_main_v206, val_main_v205, val_main_cst_70, val_main_v227, val_main_cst_78, updates, firsts, seconds, update, first, second]

theorem ref_m6 : val_main_v209 (F := Ideal) x1 u = firsts (val_main_v6 (F := Ideal) x1) u := by
  funext i
  pointwise [val_main_v209, val_main_v208, val_main_v207, val_main_cst_71, val_main_v206, val_main_v205, val_main_cst_70, updates, firsts, seconds, update, first, second]

theorem ref_v6 : val_main_v215 (F := Ideal) x1 v = seconds (val_main_v6 (F := Ideal) x1) v := by
  funext i
  pointwise [val_main_v215, val_main_v214, val_main_v212, val_main_v213, val_main_cst_73, val_main_v211, val_main_v210, val_main_cst_72, updates, firsts, seconds, update, first, second]

theorem pay_d6 (g : FVec Ideal S1x1024 .f32) : k0_pay22 g w u v = updates w g u v := by
  funext i
  pointwise [k0_pay22, k0_pay20, k0_pay21, updates, update, first, second]

theorem pay_m6 (g : FVec Ideal S1x1024 .f32) : k0_pay20 g u = firsts g u := by
  funext i
  pointwise [k0_pay20, firsts, first]

theorem pay_v6 (g : FVec Ideal S1x1024 .f32) : k0_pay21 g v = seconds g v := by
  funext i
  pointwise [k0_pay21, seconds, second]

end

section
variable (w u v : FVec Ideal S1x31x256 .f32)

theorem ref_dA : val_main_v252 (F := Ideal) x0 x1 w u v = updates w (val_main_v33 (F := Ideal) x0 x1) u v := by
  funext i
  pointwise [val_main_v252, val_main_v250, val_main_v249, val_main_v248, val_main_cst_86, val_main_v247, val_main_v246, val_main_v245, val_main_cst_85, val_main_v244, val_main_v243, val_main_v242, val_main_cst_84, val_main_v239, val_main_v238, val_main_v236, val_main_v237, val_main_cst_82, val_main_v235, val_main_v234, val_main_cst_81, val_main_v241, val_main_v240, val_main_cst_83, val_main_v233, val_main_v232, val_main_v231, val_main_cst_80, val_main_v230, val_main_v229, val_main_cst_79, val_main_v251, val_main_cst_87, updates, firsts, seconds, update, first, second]

theorem ref_mA : val_main_v233 (F := Ideal) x0 x1 u = firsts (val_main_v33 (F := Ideal) x0 x1) u := by
  funext i
  pointwise [val_main_v233, val_main_v232, val_main_v231, val_main_cst_80, val_main_v230, val_main_v229, val_main_cst_79, updates, firsts, seconds, update, first, second]

theorem ref_vA : val_main_v239 (F := Ideal) x0 x1 v = seconds (val_main_v33 (F := Ideal) x0 x1) v := by
  funext i
  pointwise [val_main_v239, val_main_v238, val_main_v236, val_main_v237, val_main_cst_82, val_main_v235, val_main_v234, val_main_cst_81, updates, firsts, seconds, update, first, second]

/-- The gradient as it is stored. -/
theorem pay_gA : k0_pay28 (gA x0 x1) = val_main_v33 (F := Ideal) x0 x1 := by
  rw [quarterA]
  funext i
  rw [val_main_v33_apply]
  unfold k0_pay28
  refine (shapeCast_addUnit_apply (n := 2) ![31, 256] _ _ i).trans ?_
  refine congrArg _ (funext fun a => Fin.ext ?_)
  match a with
  | ⟨0, _⟩ => rfl
  | ⟨1, _⟩ => rfl

/-- A cast there and back, at an index. -/
theorem backA (x : FVec Ideal S1x31x256 .f32) (i : S1x31x256.Idx) :
    shapeCast S31x256 x shapeCasts_S1x31x256_S31x256 (fun a => i a.succ) = x i := by
  refine (shapeCast_dropUnit_apply (n := 2) ![31, 256] x _ _).trans ?_
  refine congrArg x (funext fun a => Fin.ext ?_)
  have h0 : (i 0).val < 1 := (i 0).isLt
  match a with
  | ⟨0, _⟩ => show 0 = (i 0).val; omega
  | ⟨1, _⟩ => rfl
  | ⟨2, _⟩ => rfl

variable (g : FVec Ideal S31x256 .f32)

theorem cast_gA (i : S1x31x256.Idx) : k0_pay28 g i = g (fun a => i a.succ) := by
  unfold k0_pay28
  exact shapeCast_addUnit_apply (n := 2) ![31, 256] _ _ i

theorem pay_dA : k0_pay29 g (k0_pay24 w) (k0_pay25 u) v = updates w (k0_pay28 g) u v := by
  funext i
  unfold k0_pay29
  refine (shapeCast_addUnit_apply (n := 2) ![31, 256] _ _ i).trans ?_
  simp only [updates, update, first, second, cast_gA]
  have hb := backA
  rw [← backA w i]; rw [← backA u i]; rw [← backA v i]
  rfl

theorem pay_mA : k0_pay30 g (k0_pay25 u) = firsts (k0_pay28 g) u := by
  funext i
  unfold k0_pay30
  refine (shapeCast_addUnit_apply (n := 2) ![31, 256] _ _ i).trans ?_
  simp only [firsts, first, cast_gA]
  have hb := backA
  rw [← backA u i]
  rfl

theorem pay_vA : k0_pay31 (k0_pay27 g v) = seconds (k0_pay28 g) v := by
  funext i
  unfold k0_pay31
  refine (shapeCast_addUnit_apply (n := 2) ![31, 256] _ _ i).trans ?_
  simp only [seconds, second, cast_gA]
  have hb := backA
  rw [← backA v i]
  rfl

end

section
variable (w u v : FVec Ideal S1x3x256 .f32)

theorem ref_dB : val_main_v276 (F := Ideal) x0 x1 w u v = updates w (val_main_v60 (F := Ideal) x0 x1) u v := by
  funext i
  pointwise [val_main_v276, val_main_v274, val_main_v273, val_main_v272, val_main_cst_95, val_main_v271, val_main_v270, val_main_v269, val_main_cst_94, val_main_v268, val_main_v267, val_main_v266, val_main_cst_93, val_main_v263, val_main_v262, val_main_v260, val_main_v261, val_main_cst_91, val_main_v259, val_main_v258, val_main_cst_90, val_main_v265, val_main_v264, val_main_cst_92, val_main_v257, val_main_v256, val_main_v255, val_main_cst_89, val_main_v254, val_main_v253, val_main_cst_88, val_main_v275, val_main_cst_96, updates, firsts, seconds, update, first, second]

theorem ref_mB : val_main_v257 (F := Ideal) x0 x1 u = firsts (val_main_v60 (F := Ideal) x0 x1) u := by
  funext i
  pointwise [val_main_v257, val_main_v256, val_main_v255, val_main_cst_89, val_main_v254, val_main_v253, val_main_cst_88, updates, firsts, seconds, update, first, second]

theorem ref_vB : val_main_v263 (F := Ideal) x0 x1 v = seconds (val_main_v60 (F := Ideal) x0 x1) v := by
  funext i
  pointwise [val_main_v263, val_main_v262, val_main_v260, val_main_v261, val_main_cst_91, val_main_v259, val_main_v258, val_main_cst_90, updates, firsts, seconds, update, first, second]

/-- The gradient as it is stored. -/
theorem pay_gB : k0_pay38 (gB x0 x1) = val_main_v60 (F := Ideal) x0 x1 := by
  rw [quarterB]
  funext i
  rw [val_main_v60_apply]
  unfold k0_pay38
  refine (shapeCast_addUnit_apply (n := 2) ![3, 256] _ _ i).trans ?_
  refine congrArg _ (funext fun a => Fin.ext ?_)
  match a with
  | ⟨0, _⟩ => rfl
  | ⟨1, _⟩ => rfl

/-- A cast there and back, at an index. -/
theorem backB (x : FVec Ideal S1x3x256 .f32) (i : S1x3x256.Idx) :
    shapeCast S3x256 x shapeCasts_S1x3x256_S3x256 (fun a => i a.succ) = x i := by
  refine (shapeCast_dropUnit_apply (n := 2) ![3, 256] x _ _).trans ?_
  refine congrArg x (funext fun a => Fin.ext ?_)
  have h0 : (i 0).val < 1 := (i 0).isLt
  match a with
  | ⟨0, _⟩ => show 0 = (i 0).val; omega
  | ⟨1, _⟩ => rfl
  | ⟨2, _⟩ => rfl

variable (g : FVec Ideal S3x256 .f32)

theorem cast_gB (i : S1x3x256.Idx) : k0_pay38 g i = g (fun a => i a.succ) := by
  unfold k0_pay38
  exact shapeCast_addUnit_apply (n := 2) ![3, 256] _ _ i

theorem pay_dB : k0_pay39 g (k0_pay33 w) (k0_pay34 v) (k0_pay35 u) (Scalar.ofBits .f32 0x3DCCCCCD#32) = updates w (k0_pay38 g) u v := by
  funext i
  unfold k0_pay39
  refine (shapeCast_addUnit_apply (n := 2) ![3, 256] _ _ i).trans ?_
  simp only [updates, update, first, second, cast_gB]
  have hb := backB
  rw [← backB w i]; rw [← backB u i]; rw [← backB v i]
  rfl

theorem pay_mB : k0_pay40 g (k0_pay35 u) (Scalar.ofBits .f32 0x3DCCCCCD#32) = firsts (k0_pay38 g) u := by
  funext i
  unfold k0_pay40
  refine (shapeCast_addUnit_apply (n := 2) ![3, 256] _ _ i).trans ?_
  simp only [firsts, first, cast_gB]
  have hb := backB
  rw [← backB u i]
  rfl

theorem pay_vB : k0_pay1 (k0_pay37 g (k0_pay34 v)) = seconds (k0_pay38 g) v := by
  funext i
  unfold k0_pay1
  refine (shapeCast_addUnit_apply (n := 2) ![3, 256] _ _ i).trans ?_
  simp only [seconds, second, cast_gB]
  have hb := backB
  rw [← backB v i]
  rfl

end

end Cert.Kernel13Ideal.SmallStep

end
-- ==== Proof.SmallWhole.lean ====
/-
  The optimiser's step of the small weights (the thirteenth program): its windows are whole arrays.
-/
module

public import proofs.«01_k».proof.Proof.SmallBody
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-! ## Every window is its whole array -/

theorem idx0 : ∀ t : Fin cfg0.N, win0_0.index t = ![0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0, 0] := (by decide +kernel : ∀ t : Fin grid0.N, _)
theorem idx24 : ∀ t : Fin cfg0.N, win0_24.index t = ![0, 0, 0] := (by decide +kernel : ∀ t : Fin grid0.N, _)
theorem idx25 : ∀ t : Fin cfg0.N, win0_25.index t = ![0, 0, 0] := (by decide +kernel : ∀ t : Fin grid0.N, _)
theorem idx26 : ∀ t : Fin cfg0.N, win0_26.index t = ![0, 0, 0] := (by decide +kernel : ∀ t : Fin grid0.N, _)
theorem idx27 : ∀ t : Fin cfg0.N, win0_27.index t = ![0, 0, 0] := (by decide +kernel : ∀ t : Fin grid0.N, _)
theorem idx28 : ∀ t : Fin cfg0.N, win0_28.index t = ![0, 0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![0, 0] := (by decide +kernel : ∀ t : Fin grid0.N, _)
theorem idx37 : ∀ t : Fin cfg0.N, win0_37.index t = ![0, 0] := (by decide +kernel : ∀ t : Fin grid0.N, _)
theorem idx38 : ∀ t : Fin cfg0.N, win0_38.index t = ![0, 0] := (by decide +kernel : ∀ t : Fin grid0.N, _)
theorem idx39 : ∀ t : Fin cfg0.N, win0_39.index t = ![0, 0] := (by decide +kernel : ∀ t : Fin grid0.N, _)
theorem idx40 : ∀ t : Fin cfg0.N, win0_40.index t = ![0, 0] := (by decide +kernel : ∀ t : Fin grid0.N, _)
theorem idx41 : ∀ t : Fin cfg0.N, win0_41.index t = ![0, 0] := (by decide +kernel : ∀ t : Fin grid0.N, _)
theorem idx42 : ∀ t : Fin cfg0.N, win0_42.index t = ![0, 0] := (by decide +kernel : ∀ t : Fin grid0.N, _)
theorem idx43 : ∀ t : Fin cfg0.N, win0_43.index t = ![0, 0] := (by decide +kernel : ∀ t : Fin grid0.N, _)
theorem idx44 : ∀ t : Fin cfg0.N, win0_44.index t = ![0, 0] := (by decide +kernel : ∀ t : Fin grid0.N, _)
theorem idx45 : ∀ t : Fin cfg0.N, win0_45.index t = ![0, 0] := (by decide +kernel : ∀ t : Fin grid0.N, _)
theorem idx46 : ∀ t : Fin cfg0.N, win0_46.index t = ![0, 0] := (by decide +kernel : ∀ t : Fin grid0.N, _)
theorem idx47 : ∀ t : Fin cfg0.N, win0_47.index t = ![0, 0] := (by decide +kernel : ∀ t : Fin grid0.N, _)
theorem idx48 : ∀ t : Fin cfg0.N, win0_48.index t = ![0, 0] := (by decide +kernel : ∀ t : Fin grid0.N, _)
theorem idx49 : ∀ t : Fin cfg0.N, win0_49.index t = ![0, 0] := (by decide +kernel : ∀ t : Fin grid0.N, _)
theorem idx50 : ∀ t : Fin cfg0.N, win0_50.index t = ![0, 0] := (by decide +kernel : ∀ t : Fin grid0.N, _)
theorem idx51 : ∀ t : Fin cfg0.N, win0_51.index t = ![0, 0] := (by decide +kernel : ∀ t : Fin grid0.N, _)
theorem idx52 : ∀ t : Fin cfg0.N, win0_52.index t = ![0, 0] := (by decide +kernel : ∀ t : Fin grid0.N, _)
theorem idx53 : ∀ t : Fin cfg0.N, win0_53.index t = ![0, 0] := (by decide +kernel : ∀ t : Fin grid0.N, _)
theorem idx54 : ∀ t : Fin cfg0.N, win0_54.index t = ![0, 0] := (by decide +kernel : ∀ t : Fin grid0.N, _)
theorem idx55 : ∀ t : Fin cfg0.N, win0_55.index t = ![0, 0] := (by decide +kernel : ∀ t : Fin grid0.N, _)
theorem idx56 : ∀ t : Fin cfg0.N, win0_56.index t = ![0, 0] := (by decide +kernel : ∀ t : Fin grid0.N, _)
theorem idx57 : ∀ t : Fin cfg0.N, win0_57.index t = ![0, 0, 0] := (by decide +kernel : ∀ t : Fin grid0.N, _)
theorem idx58 : ∀ t : Fin cfg0.N, win0_58.index t = ![0, 0, 0] := (by decide +kernel : ∀ t : Fin grid0.N, _)
theorem idx59 : ∀ t : Fin cfg0.N, win0_59.index t = ![0, 0, 0] := (by decide +kernel : ∀ t : Fin grid0.N, _)
theorem idx60 : ∀ t : Fin cfg0.N, win0_60.index t = ![0, 0, 0] := (by decide +kernel : ∀ t : Fin grid0.N, _)
theorem idx61 : ∀ t : Fin cfg0.N, win0_61.index t = ![0, 0, 0] := (by decide +kernel : ∀ t : Fin grid0.N, _)
theorem idx62 : ∀ t : Fin cfg0.N, win0_62.index t = ![0, 0, 0] := (by decide +kernel : ∀ t : Fin grid0.N, _)
theorem idx63 : ∀ t : Fin cfg0.N, win0_63.index t = ![0, 0, 0] := (by decide +kernel : ∀ t : Fin grid0.N, _)
theorem idx64 : ∀ t : Fin cfg0.N, win0_64.index t = ![0, 0, 0] := (by decide +kernel : ∀ t : Fin grid0.N, _)

theorem whole0 (c : Dev nD) (t : Fin cfg0.N) : (iblk m c 0 t : Vec Ideal S2 .i32) = m ((c : Thread nD τ).loc main_arg0) := by
  funext y
  blk_point [iblk, V, idx0 t]

theorem whole1 (c : Dev nD) (t : Fin cfg0.N) : (iblk m c 1 t : Vec Ideal S48x1024 .f32) = m ((c : Thread nD τ).loc main_arg1) := by
  funext y
  blk_point [iblk, V, idx1 t]

theorem whole2 (c : Dev nD) (t : Fin cfg0.N) : (iblk m c 2 t : Vec Ideal S1x1024 .f32) = m ((c : Thread nD τ).loc main_arg2) := by
  funext y
  blk_point [iblk, V, idx2 t]

theorem whole3 (c : Dev nD) (t : Fin cfg0.N) : (iblk m c 3 t : Vec Ideal S1x1024 .f32) = m ((c : Thread nD τ).loc main_arg3) := by
  funext y
  blk_point [iblk, V, idx3 t]

theorem whole4 (c : Dev nD) (t : Fin cfg0.N) : (iblk m c 4 t : Vec Ideal S1x1024 .f32) = m ((c : Thread nD τ).loc main_arg4) := by
  funext y
  blk_point [iblk, V, idx4 t]

theorem whole5 (c : Dev nD) (t : Fin cfg0.N) : (iblk m c 5 t : Vec Ideal S1x1024 .f32) = m ((c : Thread nD τ).loc main_arg5) := by
  funext y
  blk_point [iblk, V, idx5 t]

theorem whole6 (c : Dev nD) (t : Fin cfg0.N) : (iblk m c 6 t : Vec Ideal S1x1024 .f32) = m ((c : Thread nD τ).loc main_arg6) := by
  funext y
  blk_point [iblk, V, idx6 t]

theorem whole7 (c : Dev nD) (t : Fin cfg0.N) : (iblk m c 7 t : Vec Ideal S1x1024 .f32) = m ((c : Thread nD τ).loc main_arg7) := by
  funext y
  blk_point [iblk, V, idx7 t]

theorem whole8 (c : Dev nD) (t : Fin cfg0.N) : (iblk m c 8 t : Vec Ideal S1x1024 .f32) = m ((c : Thread nD τ).loc main_arg8) := by
  funext y
  blk_point [iblk, V, idx8 t]

theorem whole9 (c : Dev nD) (t : Fin cfg0.N) : (iblk m c 9 t : Vec Ideal S1x1024 .f32) = m ((c : Thread nD τ).loc main_arg9) := by
  funext y
  blk_point [iblk, V, idx9 t]

theorem whole10 (c : Dev nD) (t : Fin cfg0.N) : (iblk m c 10 t : Vec Ideal S1x1024 .f32) = m ((c : Thread nD τ).loc main_arg10) := by
  funext y
  blk_point [iblk, V, idx10 t]

theorem whole11 (c : Dev nD) (t : Fin cfg0.N) : (iblk m c 11 t : Vec Ideal S1x1024 .f32) = m ((c : Thread nD τ).loc main_arg11) := by
  funext y
  blk_point [iblk, V, idx11 t]

theorem whole12 (c : Dev nD) (t : Fin cfg0.N) : (iblk m c 12 t : Vec Ideal S1x1024 .f32) = m ((c : Thread nD τ).loc main_arg12) := by
  funext y
  blk_point [iblk, V, idx12 t]

theorem whole13 (c : Dev nD) (t : Fin cfg0.N) : (iblk m c 13 t : Vec Ideal S1x1024 .f32) = m ((c : Thread nD τ).loc main_arg13) := by
  funext y
  blk_point [iblk, V, idx13 t]

theorem whole14 (c : Dev nD) (t : Fin cfg0.N) : (iblk m c 14 t : Vec Ideal S1x1024 .f32) = m ((c : Thread nD τ).loc main_arg14) := by
  funext y
  blk_point [iblk, V, idx14 t]

theorem whole15 (c : Dev nD) (t : Fin cfg0.N) : (iblk m c 15 t : Vec Ideal S1x1024 .f32) = m ((c : Thread nD τ).loc main_arg15) := by
  funext y
  blk_point [iblk, V, idx15 t]

theorem whole16 (c : Dev nD) (t : Fin cfg0.N) : (iblk m c 16 t : Vec Ideal S1x1024 .f32) = m ((c : Thread nD τ).loc main_arg16) := by
  funext y
  blk_point [iblk, V, idx16 t]

theorem whole17 (c : Dev nD) (t : Fin cfg0.N) : (iblk m c 17 t : Vec Ideal S1x1024 .f32) = m ((c : Thread nD τ).loc main_arg17) := by
  funext y
  blk_point [iblk, V, idx17 t]

theorem whole18 (c : Dev nD) (t : Fin cfg0.N) : (iblk m c 18 t : Vec Ideal S1x1024 .f32) = m ((c : Thread nD τ).loc main_arg18) := by
  funext y
  blk_point [iblk, V, idx18 t]

theorem whole19 (c : Dev nD) (t : Fin cfg0.N) : (iblk m c 19 t : Vec Ideal S1x1024 .f32) = m ((c : Thread nD τ).loc main_arg19) := by
  funext y
  blk_point [iblk, V, idx19 t]

theorem whole20 (c : Dev nD) (t : Fin cfg0.N) : (iblk m c 20 t : Vec Ideal S1x1024 .f32) = m ((c : Thread nD τ).loc main_arg20) := by
  funext y
  blk_point [iblk, V, idx20 t]

theorem whole21 (c : Dev nD) (t : Fin cfg0.N) : (iblk m c 21 t : Vec Ideal S1x1024 .f32) = m ((c : Thread nD τ).loc main_arg21) := by
  funext y
  blk_point [iblk, V, idx21 t]

theorem whole22 (c : Dev nD) (t : Fin cfg0.N) : (iblk m c 22 t : Vec Ideal S1x1024 .f32) = m ((c : Thread nD τ).loc main_arg22) := by
  funext y
  blk_point [iblk, V, idx22 t]

theorem whole23 (c : Dev nD) (t : Fin cfg0.N) : (iblk m c 23 t : Vec Ideal S1x31x256 .f32) = m ((c : Thread nD τ).loc main_arg23) := by
  funext y
  blk_point [iblk, V, idx23 t]

theorem whole24 (c : Dev nD) (t : Fin cfg0.N) : (iblk m c 24 t : Vec Ideal S1x31x256 .f32) = m ((c : Thread nD τ).loc main_arg24) := by
  funext y
  blk_point [iblk, V, idx24 t]

theorem whole25 (c : Dev nD) (t : Fin cfg0.N) : (iblk m c 25 t : Vec Ideal S1x31x256 .f32) = m ((c : Thread nD τ).loc main_arg25) := by
  funext y
  blk_point [iblk, V, idx25 t]

theorem whole26 (c : Dev nD) (t : Fin cfg0.N) : (iblk m c 26 t : Vec Ideal S1x3x256 .f32) = m ((c : Thread nD τ).loc main_arg26) := by
  funext y
  blk_point [iblk, V, idx26 t]

theorem whole27 (c : Dev nD) (t : Fin cfg0.N) : (iblk m c 27 t : Vec Ideal S1x3x256 .f32) = m ((c : Thread nD τ).loc main_arg27) := by
  funext y
  blk_point [iblk, V, idx27 t]

theorem whole28 (c : Dev nD) (t : Fin cfg0.N) : (iblk m c 28 t : Vec Ideal S1x3x256 .f32) = m ((c : Thread nD τ).loc main_arg28) := by
  funext y
  blk_point [iblk, V, idx28 t]

end Cert.Kernel13Ideal.SmallStep

end
-- ==== Proof.SmallFrame.lean ====
/- The frame of the optimiser's step of the small weights (the thirteenth program): what each window
   holds after the body, and the run of the program from any launch. It follows the generated frame, with the results'
   contents stated outright. -/
module

public import proofs.«01_k».proof.Proof.SmallBody
public import Idealize.ShloMosaic.Lib.Claim

@[expose] public section

-- rectangles at these extents need a deep recursion, one step per coordinate of the long axes
set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `out0_W`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => out0_29 (iblk m c 1 t)
    | ⟨30, _⟩ => out0_30 (iblk m c 1 t) (iblk m c 2 t) (iblk m c 3 t) (iblk m c 4 t)
    | ⟨31, _⟩ => out0_31 (iblk m c 1 t) (iblk m c 3 t)
    | ⟨32, _⟩ => out0_32 (iblk m c 1 t) (iblk m c 4 t)
    | ⟨33, _⟩ => out0_33 (iblk m c 1 t)
    | ⟨34, _⟩ => out0_34 (iblk m c 1 t) (iblk m c 5 t) (iblk m c 6 t) (iblk m c 7 t)
    | ⟨35, _⟩ => out0_35 (iblk m c 1 t) (iblk m c 6 t)
    | ⟨36, _⟩ => out0_36 (iblk m c 1 t) (iblk m c 7 t)
    | ⟨37, _⟩ => out0_37 (iblk m c 1 t)
    | ⟨38, _⟩ => out0_38 (iblk m c 1 t) (iblk m c 8 t) (iblk m c 9 t) (iblk m c 10 t)
    | ⟨39, _⟩ => out0_39 (iblk m c 1 t) (iblk m c 9 t)
    | ⟨40, _⟩ => out0_40 (iblk m c 1 t) (iblk m c 10 t)
    | ⟨41, _⟩ => out0_41 (iblk m c 1 t)
    | ⟨42, _⟩ => out0_42 (iblk m c 1 t) (iblk m c 11 t) (iblk m c 12 t) (iblk m c 13 t)
    | ⟨43, _⟩ => out0_43 (iblk m c 1 t) (iblk m c 12 t)
    | ⟨44, _⟩ => out0_44 (iblk m c 1 t) (iblk m c 13 t)
    | ⟨45, _⟩ => out0_45 (iblk m c 1 t)
    | ⟨46, _⟩ => out0_46 (iblk m c 1 t) (iblk m c 14 t) (iblk m c 15 t) (iblk m c 16 t)
    | ⟨47, _⟩ => out0_47 (iblk m c 1 t) (iblk m c 15 t)
    | ⟨48, _⟩ => out0_48 (iblk m c 1 t) (iblk m c 16 t)
    | ⟨49, _⟩ => out0_49 (iblk m c 1 t)
    | ⟨50, _⟩ => out0_50 (iblk m c 1 t) (iblk m c 17 t) (iblk m c 18 t) (iblk m c 19 t)
    | ⟨51, _⟩ => out0_51 (iblk m c 1 t) (iblk m c 18 t)
    | ⟨52, _⟩ => out0_52 (iblk m c 1 t) (iblk m c 19 t)
    | ⟨53, _⟩ => out0_53 (iblk m c 1 t)
    | ⟨54, _⟩ => out0_54 (iblk m c 1 t) (iblk m c 20 t) (iblk m c 21 t) (iblk m c 22 t)
    | ⟨55, _⟩ => out0_55 (iblk m c 1 t) (iblk m c 21 t)
    | ⟨56, _⟩ => out0_56 (iblk m c 1 t) (iblk m c 22 t)
    | ⟨57, _⟩ => out0_57 (iblk m c 0 t) (iblk m c 1 t)
    | ⟨58, _⟩ => out0_58 (iblk m c 0 t) (iblk m c 1 t) (iblk m c 23 t) (iblk m c 24 t) (iblk m c 25 t)
    | ⟨59, _⟩ => out0_59 (iblk m c 0 t) (iblk m c 1 t) (iblk m c 24 t)
    | ⟨60, _⟩ => out0_60 (iblk m c 0 t) (iblk m c 1 t) (iblk m c 25 t)
    | ⟨61, _⟩ => out0_61 (iblk m c 0 t) (iblk m c 1 t)
    | ⟨62, _⟩ => out0_62 (iblk m c 0 t) (iblk m c 1 t) (iblk m c 26 t) (iblk m c 27 t) (iblk m c 28 t)
    | ⟨63, _⟩ => out0_63 (iblk m c 0 t) (iblk m c 1 t) (iblk m c 27 t)
    | ⟨64, _⟩ => out0_64 (iblk m c 0 t) (iblk m c 1 t) (iblk m c 28 t)
    | ⟨_ + 65, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = out0_29 (iblk m c 1 t) := by dsimp only [dats]
theorem after0_30 (c : Dev nD) (t : Fin cfg0.N) : (dats m 0 c).after 30 t = out0_30 (iblk m c 1 t) (iblk m c 2 t) (iblk m c 3 t) (iblk m c 4 t) := by dsimp only [dats]
theorem after0_31 (c : Dev nD) (t : Fin cfg0.N) : (dats m 0 c).after 31 t = out0_31 (iblk m c 1 t) (iblk m c 3 t) := by dsimp only [dats]
theorem after0_32 (c : Dev nD) (t : Fin cfg0.N) : (dats m 0 c).after 32 t = out0_32 (iblk m c 1 t) (iblk m c 4 t) := by dsimp only [dats]
theorem after0_33 (c : Dev nD) (t : Fin cfg0.N) : (dats m 0 c).after 33 t = out0_33 (iblk m c 1 t) := by dsimp only [dats]
theorem after0_34 (c : Dev nD) (t : Fin cfg0.N) : (dats m 0 c).after 34 t = out0_34 (iblk m c 1 t) (iblk m c 5 t) (iblk m c 6 t) (iblk m c 7 t) := by dsimp only [dats]
theorem after0_35 (c : Dev nD) (t : Fin cfg0.N) : (dats m 0 c).after 35 t = out0_35 (iblk m c 1 t) (iblk m c 6 t) := by dsimp only [dats]
theorem after0_36 (c : Dev nD) (t : Fin cfg0.N) : (dats m 0 c).after 36 t = out0_36 (iblk m c 1 t) (iblk m c 7 t) := by dsimp only [dats]
theorem after0_37 (c : Dev nD) (t : Fin cfg0.N) : (dats m 0 c).after 37 t = out0_37 (iblk m c 1 t) := by dsimp only [dats]
theorem after0_38 (c : Dev nD) (t : Fin cfg0.N) : (dats m 0 c).after 38 t = out0_38 (iblk m c 1 t) (iblk m c 8 t) (iblk m c 9 t) (iblk m c 10 t) := by dsimp only [dats]
theorem after0_39 (c : Dev nD) (t : Fin cfg0.N) : (dats m 0 c).after 39 t = out0_39 (iblk m c 1 t) (iblk m c 9 t) := by dsimp only [dats]
theorem after0_40 (c : Dev nD) (t : Fin cfg0.N) : (dats m 0 c).after 40 t = out0_40 (iblk m c 1 t) (iblk m c 10 t) := by dsimp only [dats]
theorem after0_41 (c : Dev nD) (t : Fin cfg0.N) : (dats m 0 c).after 41 t = out0_41 (iblk m c 1 t) := by dsimp only [dats]
theorem after0_42 (c : Dev nD) (t : Fin cfg0.N) : (dats m 0 c).after 42 t = out0_42 (iblk m c 1 t) (iblk m c 11 t) (iblk m c 12 t) (iblk m c 13 t) := by dsimp only [dats]
theorem after0_43 (c : Dev nD) (t : Fin cfg0.N) : (dats m 0 c).after 43 t = out0_43 (iblk m c 1 t) (iblk m c 12 t) := by dsimp only [dats]
theorem after0_44 (c : Dev nD) (t : Fin cfg0.N) : (dats m 0 c).after 44 t = out0_44 (iblk m c 1 t) (iblk m c 13 t) := by dsimp only [dats]
theorem after0_45 (c : Dev nD) (t : Fin cfg0.N) : (dats m 0 c).after 45 t = out0_45 (iblk m c 1 t) := by dsimp only [dats]
theorem after0_46 (c : Dev nD) (t : Fin cfg0.N) : (dats m 0 c).after 46 t = out0_46 (iblk m c 1 t) (iblk m c 14 t) (iblk m c 15 t) (iblk m c 16 t) := by dsimp only [dats]
theorem after0_47 (c : Dev nD) (t : Fin cfg0.N) : (dats m 0 c).after 47 t = out0_47 (iblk m c 1 t) (iblk m c 15 t) := by dsimp only [dats]
theorem after0_48 (c : Dev nD) (t : Fin cfg0.N) : (dats m 0 c).after 48 t = out0_48 (iblk m c 1 t) (iblk m c 16 t) := by dsimp only [dats]
theorem after0_49 (c : Dev nD) (t : Fin cfg0.N) : (dats m 0 c).after 49 t = out0_49 (iblk m c 1 t) := by dsimp only [dats]
theorem after0_50 (c : Dev nD) (t : Fin cfg0.N) : (dats m 0 c).after 50 t = out0_50 (iblk m c 1 t) (iblk m c 17 t) (iblk m c 18 t) (iblk m c 19 t) := by dsimp only [dats]
theorem after0_51 (c : Dev nD) (t : Fin cfg0.N) : (dats m 0 c).after 51 t = out0_51 (iblk m c 1 t) (iblk m c 18 t) := by dsimp only [dats]
theorem after0_52 (c : Dev nD) (t : Fin cfg0.N) : (dats m 0 c).after 52 t = out0_52 (iblk m c 1 t) (iblk m c 19 t) := by dsimp only [dats]
theorem after0_53 (c : Dev nD) (t : Fin cfg0.N) : (dats m 0 c).after 53 t = out0_53 (iblk m c 1 t) := by dsimp only [dats]
theorem after0_54 (c : Dev nD) (t : Fin cfg0.N) : (dats m 0 c).after 54 t = out0_54 (iblk m c 1 t) (iblk m c 20 t) (iblk m c 21 t) (iblk m c 22 t) := by dsimp only [dats]
theorem after0_55 (c : Dev nD) (t : Fin cfg0.N) : (dats m 0 c).after 55 t = out0_55 (iblk m c 1 t) (iblk m c 21 t) := by dsimp only [dats]
theorem after0_56 (c : Dev nD) (t : Fin cfg0.N) : (dats m 0 c).after 56 t = out0_56 (iblk m c 1 t) (iblk m c 22 t) := by dsimp only [dats]
theorem after0_57 (c : Dev nD) (t : Fin cfg0.N) : (dats m 0 c).after 57 t = out0_57 (iblk m c 0 t) (iblk m c 1 t) := by dsimp only [dats]
theorem after0_58 (c : Dev nD) (t : Fin cfg0.N) : (dats m 0 c).after 58 t = out0_58 (iblk m c 0 t) (iblk m c 1 t) (iblk m c 23 t) (iblk m c 24 t) (iblk m c 25 t) := by dsimp only [dats]
theorem after0_59 (c : Dev nD) (t : Fin cfg0.N) : (dats m 0 c).after 59 t = out0_59 (iblk m c 0 t) (iblk m c 1 t) (iblk m c 24 t) := by dsimp only [dats]
theorem after0_60 (c : Dev nD) (t : Fin cfg0.N) : (dats m 0 c).after 60 t = out0_60 (iblk m c 0 t) (iblk m c 1 t) (iblk m c 25 t) := by dsimp only [dats]
theorem after0_61 (c : Dev nD) (t : Fin cfg0.N) : (dats m 0 c).after 61 t = out0_61 (iblk m c 0 t) (iblk m c 1 t) := by dsimp only [dats]
theorem after0_62 (c : Dev nD) (t : Fin cfg0.N) : (dats m 0 c).after 62 t = out0_62 (iblk m c 0 t) (iblk m c 1 t) (iblk m c 26 t) (iblk m c 27 t) (iblk m c 28 t) := by dsimp only [dats]
theorem after0_63 (c : Dev nD) (t : Fin cfg0.N) : (dats m 0 c).after 63 t = out0_63 (iblk m c 0 t) (iblk m c 1 t) (iblk m c 27 t) := by dsimp only [dats]
theorem after0_64 (c : Dev nD) (t : Fin cfg0.N) : (dats m 0 c).after 64 t = out0_64 (iblk m c 0 t) (iblk m c 1 t) (iblk m c 28 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d))
    ∗ (∃ d, owns (c : Thread nD τ) (ms0_59 t) fullShare ((dats m 0 c).before 59 t d))
    ∗ (∃ d, owns (c : Thread nD τ) (ms0_60 t) fullShare ((dats m 0 c).before 60 t d))
    ∗ (∃ d, owns (c : Thread nD τ) (ms0_61 t) fullShare ((dats m 0 c).before 61 t d))
    ∗ (∃ d, owns (c : Thread nD τ) (ms0_62 t) fullShare ((dats m 0 c).before 62 t d))
    ∗ (∃ d, owns (c : Thread nD τ) (ms0_63 t) fullShare ((dats m 0 c).before 63 t d))
    ∗ (∃ d, owns (c : Thread nD τ) (ms0_64 t) fullShare ((dats m 0 c).before 64 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t)
    ∗ owns (c : Thread nD τ) (ms0_59 t) fullShare ((dats m 0 c).after 59 t)
    ∗ owns (c : Thread nD τ) (ms0_60 t) fullShare ((dats m 0 c).after 60 t)
    ∗ owns (c : Thread nD τ) (ms0_61 t) fullShare ((dats m 0 c).after 61 t)
    ∗ owns (c : Thread nD τ) (ms0_62 t) fullShare ((dats m 0 c).after 62 t)
    ∗ owns (c : Thread nD τ) (ms0_63 t) fullShare ((dats m 0 c).after 63 t)
    ∗ owns (c : Thread nD τ) (ms0_64 t) fullShare ((dats m 0 c).after 64 t))

set_option maxHeartbeats 40000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  iexact H64

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 40000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- The frame, with the semaphores' counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

end Cert.Kernel13Ideal.Gen

end
-- ==== Proof.SmallRun1.lean ====
/-
  The optimiser's step of the small weights (the thirteenth program): what the results for the first three vectors hold after the run.
-/
module

public import proofs.«01_k».proof.Proof.SmallMaths
public import proofs.«01_k».proof.Proof.SmallWhole
public import proofs.«01_k».proof.Proof.SmallFrame
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

variable (m : (ℓ : Loc nD τ sig) → Buf (Elt Ideal) ℓ)

/-- Vector 0: its summed gradient. -/
theorem final29 (c : Dev nD) : (dats m 0 c).arrAt 29 (cfgs 0).N = val_main_v0 (F := Ideal) (m ((c : Thread nD τ).loc main_arg1)) := by
  refine (dats m 0 c).arrAt_eq_of_covers 29 _ (by decide +kernel) fun t _ y => ?_
  blk_simp
  rw [after0_29]
  unfold out0_29
  frame_out
  rw [whole1 m c t, row0]
  blk_point [idx29 t]

/-- Vector 0: its update. -/
theorem final30 (c : Dev nD) : (dats m 0 c).arrAt 30 (cfgs 0).N = updates (m ((c : Thread nD τ).loc main_arg2)) (val_main_v0 (F := Ideal) (m ((c : Thread nD τ).loc main_arg1))) (m ((c : Thread nD τ).loc main_arg3)) (m ((c : Thread nD τ).loc main_arg4)) := by
  refine (dats m 0 c).arrAt_eq_of_covers 30 _ (by decide +kernel) fun t _ y => ?_
  blk_simp
  rw [after0_30]
  unfold out0_30
  frame_out
  rw [whole1 m c t, whole2 m c t, whole3 m c t, whole4 m c t, row0, pay_d0]
  blk_point [idx30 t]

/-- Vector 0: its new first moment. -/
theorem final31 (c : Dev nD) : (dats m 0 c).arrAt 31 (cfgs 0).N = firsts (val_main_v0 (F := Ideal) (m ((c : Thread nD τ).loc main_arg1))) (m ((c : Thread nD τ).loc main_arg3)) := by
  refine (dats m 0 c).arrAt_eq_of_covers 31 _ (by decide +kernel) fun t _ y => ?_
  blk_simp
  rw [after0_31]
  unfold out0_31
  frame_out
  rw [whole1 m c t, whole3 m c t, row0, pay_m0]
  blk_point [idx31 t]

/-- Vector 0: its new second moment. -/
theorem final32 (c : Dev nD) : (dats m 0 c).arrAt 32 (cfgs 0).N = seconds (val_main_v0 (F := Ideal) (m ((c : Thread nD τ).loc main_arg1))) (m ((c : Thread nD τ).loc main_arg4)) := by
  refine (dats m 0 c).arrAt_eq_of_covers 32 _ (by decide +kernel) fun t _ y => ?_
  blk_simp
  rw [after0_32]
  unfold out0_32
  frame_out
  rw [whole1 m c t, whole4 m c t, row0, pay_v0]
  blk_point [idx32 t]

/-- Vector 1: its summed gradient. -/
theorem final33 (c : Dev nD) : (dats m 0 c).arrAt 33 (cfgs 0).N = val_main_v1 (F := Ideal) (m ((c : Thread nD τ).loc main_arg1)) := by
  refine (dats m 0 c).arrAt_eq_of_covers 33 _ (by decide +kernel) fun t _ y => ?_
  blk_simp
  rw [after0_33]
  unfold out0_33
  frame_out
  rw [whole1 m c t, row1]
  blk_point [idx33 t]

/-- Vector 1: its update. -/
theorem final34 (c : Dev nD) : (dats m 0 c).arrAt 34 (cfgs 0).N = updates (m ((c : Thread nD τ).loc main_arg5)) (val_main_v1 (F := Ideal) (m ((c : Thread nD τ).loc main_arg1))) (m ((c : Thread nD τ).loc main_arg6)) (m ((c : Thread nD τ).loc main_arg7)) := by
  refine (dats m 0 c).arrAt_eq_of_covers 34 _ (by decide +kernel) fun t _ y => ?_
  blk_simp
  rw [after0_34]
  unfold out0_34
  frame_out
  rw [whole1 m c t, whole5 m c t, whole6 m c t, whole7 m c t, row1, pay_d1]
  blk_point [idx34 t]

/-- Vector 1: its new first moment. -/
theorem final35 (c : Dev nD) : (dats m 0 c).arrAt 35 (cfgs 0).N = firsts (val_main_v1 (F := Ideal) (m ((c : Thread nD τ).loc main_arg1))) (m ((c : Thread nD τ).loc main_arg6)) := by
  refine (dats m 0 c).arrAt_eq_of_covers 35 _ (by decide +kernel) fun t _ y => ?_
  blk_simp
  rw [after0_35]
  unfold out0_35
  frame_out
  rw [whole1 m c t, whole6 m c t, row1, pay_m1]
  blk_point [idx35 t]

/-- Vector 1: its new second moment. -/
theorem final36 (c : Dev nD) : (dats m 0 c).arrAt 36 (cfgs 0).N = seconds (val_main_v1 (F := Ideal) (m ((c : Thread nD τ).loc main_arg1))) (m ((c : Thread nD τ).loc main_arg7)) := by
  refine (dats m 0 c).arrAt_eq_of_covers 36 _ (by decide +kernel) fun t _ y => ?_
  blk_simp
  rw [after0_36]
  unfold out0_36
  frame_out
  rw [whole1 m c t, whole7 m c t, row1, pay_v1]
  blk_point [idx36 t]

/-- Vector 2: its summed gradient. -/
theorem final37 (c : Dev nD) : (dats m 0 c).arrAt 37 (cfgs 0).N = val_main_v2 (F := Ideal) (m ((c : Thread nD τ).loc main_arg1)) := by
  refine (dats m 0 c).arrAt_eq_of_covers 37 _ (by decide +kernel) fun t _ y => ?_
  blk_simp
  rw [after0_37]
  unfold out0_37
  frame_out
  rw [whole1 m c t, row2]
  blk_point [idx37 t]

/-- Vector 2: its update. -/
theorem final38 (c : Dev nD) : (dats m 0 c).arrAt 38 (cfgs 0).N = updates (m ((c : Thread nD τ).loc main_arg8)) (val_main_v2 (F := Ideal) (m ((c : Thread nD τ).loc main_arg1))) (m ((c : Thread nD τ).loc main_arg9)) (m ((c : Thread nD τ).loc main_arg10)) := by
  refine (dats m 0 c).arrAt_eq_of_covers 38 _ (by decide +kernel) fun t _ y => ?_
  blk_simp
  rw [after0_38]
  unfold out0_38
  frame_out
  rw [whole1 m c t, whole8 m c t, whole9 m c t, whole10 m c t, row2, pay_d2]
  blk_point [idx38 t]

/-- Vector 2: its new first moment. -/
theorem final39 (c : Dev nD) : (dats m 0 c).arrAt 39 (cfgs 0).N = firsts (val_main_v2 (F := Ideal) (m ((c : Thread nD τ).loc main_arg1))) (m ((c : Thread nD τ).loc main_arg9)) := by
  refine (dats m 0 c).arrAt_eq_of_covers 39 _ (by decide +kernel) fun t _ y => ?_
  blk_simp
  rw [after0_39]
  unfold out0_39
  frame_out
  rw [whole1 m c t, whole9 m c t, row2, pay_m2]
  blk_point [idx39 t]

/-- Vector 2: its new second moment. -/
theorem final40 (c : Dev nD) : (dats m 0 c).arrAt 40 (cfgs 0).N = seconds (val_main_v2 (F := Ideal) (m ((c : Thread nD τ).loc main_arg1))) (m ((c : Thread nD τ).loc main_arg10)) := by
  refine (dats m 0 c).arrAt_eq_of_covers 40 _ (by decide +kernel) fun t _ y => ?_
  blk_simp
  rw [after0_40]
  unfold out0_40
  frame_out
  rw [whole1 m c t, whole10 m c t, row2, pay_v2]
  blk_point [idx40 t]

end Cert.Kernel13Ideal.SmallStep

end
-- ==== Proof.SmallRun2.lean ====
/-
  The optimiser's step of the small weights (the thirteenth program): what the results for the next two vectors hold after the run.
-/
module

public import proofs.«01_k».proof.Proof.SmallMaths
public import proofs.«01_k».proof.Proof.SmallWhole
public import proofs.«01_k».proof.Proof.SmallFrame
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

variable (m : (ℓ : Loc nD τ sig) → Buf (Elt Ideal) ℓ)

/-- Vector 3: its summed gradient. -/
theorem final41 (c : Dev nD) : (dats m 0 c).arrAt 41 (cfgs 0).N = val_main_v3 (F := Ideal) (m ((c : Thread nD τ).loc main_arg1)) := by
  refine (dats m 0 c).arrAt_eq_of_covers 41 _ (by decide +kernel) fun t _ y => ?_
  blk_simp
  rw [after0_41]
  unfold out0_41
  frame_out
  rw [whole1 m c t, row3]
  blk_point [idx41 t]

/-- Vector 3: its update. -/
theorem final42 (c : Dev nD) : (dats m 0 c).arrAt 42 (cfgs 0).N = updates (m ((c : Thread nD τ).loc main_arg11)) (val_main_v3 (F := Ideal) (m ((c : Thread nD τ).loc main_arg1))) (m ((c : Thread nD τ).loc main_arg12)) (m ((c : Thread nD τ).loc main_arg13)) := by
  refine (dats m 0 c).arrAt_eq_of_covers 42 _ (by decide +kernel) fun t _ y => ?_
  blk_simp
  rw [after0_42]
  unfold out0_42
  frame_out
  rw [whole1 m c t, whole11 m c t, whole12 m c t, whole13 m c t, row3, pay_d3]
  blk_point [idx42 t]

/-- Vector 3: its new first moment. -/
theorem final43 (c : Dev nD) : (dats m 0 c).arrAt 43 (cfgs 0).N = firsts (val_main_v3 (F := Ideal) (m ((c : Thread nD τ).loc main_arg1))) (m ((c : Thread nD τ).loc main_arg12)) := by
  refine (dats m 0 c).arrAt_eq_of_covers 43 _ (by decide +kernel) fun t _ y => ?_
  blk_simp
  rw [after0_43]
  unfold out0_43
  frame_out
  rw [whole1 m c t, whole12 m c t, row3, pay_m3]
  blk_point [idx43 t]

/-- Vector 3: its new second moment. -/
theorem final44 (c : Dev nD) : (dats m 0 c).arrAt 44 (cfgs 0).N = seconds (val_main_v3 (F := Ideal) (m ((c : Thread nD τ).loc main_arg1))) (m ((c : Thread nD τ).loc main_arg13)) := by
  refine (dats m 0 c).arrAt_eq_of_covers 44 _ (by decide +kernel) fun t _ y => ?_
  blk_simp
  rw [after0_44]
  unfold out0_44
  frame_out
  rw [whole1 m c t, whole13 m c t, row3, pay_v3]
  blk_point [idx44 t]

/-- Vector 4: its summed gradient. -/
theorem final45 (c : Dev nD) : (dats m 0 c).arrAt 45 (cfgs 0).N = val_main_v4 (F := Ideal) (m ((c : Thread nD τ).loc main_arg1)) := by
  refine (dats m 0 c).arrAt_eq_of_covers 45 _ (by decide +kernel) fun t _ y => ?_
  blk_simp
  rw [after0_45]
  unfold out0_45
  frame_out
  rw [whole1 m c t, row4]
  blk_point [idx45 t]

/-- Vector 4: its update. -/
theorem final46 (c : Dev nD) : (dats m 0 c).arrAt 46 (cfgs 0).N = updates (m ((c : Thread nD τ).loc main_arg14)) (val_main_v4 (F := Ideal) (m ((c : Thread nD τ).loc main_arg1))) (m ((c : Thread nD τ).loc main_arg15)) (m ((c : Thread nD τ).loc main_arg16)) := by
  refine (dats m 0 c).arrAt_eq_of_covers 46 _ (by decide +kernel) fun t _ y => ?_
  blk_simp
  rw [after0_46]
  unfold out0_46
  frame_out
  rw [whole1 m c t, whole14 m c t, whole15 m c t, whole16 m c t, row4, pay_d4]
  blk_point [idx46 t]

/-- Vector 4: its new first moment. -/
theorem final47 (c : Dev nD) : (dats m 0 c).arrAt 47 (cfgs 0).N = firsts (val_main_v4 (F := Ideal) (m ((c : Thread nD τ).loc main_arg1))) (m ((c : Thread nD τ).loc main_arg15)) := by
  refine (dats m 0 c).arrAt_eq_of_covers 47 _ (by decide +kernel) fun t _ y => ?_
  blk_simp
  rw [after0_47]
  unfold out0_47
  frame_out
  rw [whole1 m c t, whole15 m c t, row4, pay_m4]
  blk_point [idx47 t]

/-- Vector 4: its new second moment. -/
theorem final48 (c : Dev nD) : (dats m 0 c).arrAt 48 (cfgs 0).N = seconds (val_main_v4 (F := Ideal) (m ((c : Thread nD τ).loc main_arg1))) (m ((c : Thread nD τ).loc main_arg16)) := by
  refine (dats m 0 c).arrAt_eq_of_covers 48 _ (by decide +kernel) fun t _ y => ?_
  blk_simp
  rw [after0_48]
  unfold out0_48
  frame_out
  rw [whole1 m c t, whole16 m c t, row4, pay_v4]
  blk_point [idx48 t]

end Cert.Kernel13Ideal.SmallStep

end
-- ==== Proof.SmallRun3.lean ====
/-
  The optimiser's step of the small weights (the thirteenth program): what the results for the last two vectors hold after the run.
-/
module

public import proofs.«01_k».proof.Proof.SmallMaths
public import proofs.«01_k».proof.Proof.SmallWhole
public import proofs.«01_k».proof.Proof.SmallFrame
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

variable (m : (ℓ : Loc nD τ sig) → Buf (Elt Ideal) ℓ)

/-- Vector 5: its summed gradient. -/
theorem final49 (c : Dev nD) : (dats m 0 c).arrAt 49 (cfgs 0).N = val_main_v5 (F := Ideal) (m ((c : Thread nD τ).loc main_arg1)) := by
  refine (dats m 0 c).arrAt_eq_of_covers 49 _ (by decide +kernel) fun t _ y => ?_
  blk_simp
  rw [after0_49]
  unfold out0_49
  frame_out
  rw [whole1 m c t, row5]
  blk_point [idx49 t]

/-- Vector 5: its update. -/
theorem final50 (c : Dev nD) : (dats m 0 c).arrAt 50 (cfgs 0).N = updates (m ((c : Thread nD τ).loc main_arg17)) (val_main_v5 (F := Ideal) (m ((c : Thread nD τ).loc main_arg1))) (m ((c : Thread nD τ).loc main_arg18)) (m ((c : Thread nD τ).loc main_arg19)) := by
  refine (dats m 0 c).arrAt_eq_of_covers 50 _ (by decide +kernel) fun t _ y => ?_
  blk_simp
  rw [after0_50]
  unfold out0_50
  frame_out
  rw [whole1 m c t, whole17 m c t, whole18 m c t, whole19 m c t, row5, pay_d5]
  blk_point [idx50 t]

/-- Vector 5: its new first moment. -/
theorem final51 (c : Dev nD) : (dats m 0 c).arrAt 51 (cfgs 0).N = firsts (val_main_v5 (F := Ideal) (m ((c : Thread nD τ).loc main_arg1))) (m ((c : Thread nD τ).loc main_arg18)) := by
  refine (dats m 0 c).arrAt_eq_of_covers 51 _ (by decide +kernel) fun t _ y => ?_
  blk_simp
  rw [after0_51]
  unfold out0_51
  frame_out
  rw [whole1 m c t, whole18 m c t, row5, pay_m5]
  blk_point [idx51 t]

/-- Vector 5: its new second moment. -/
theorem final52 (c : Dev nD) : (dats m 0 c).arrAt 52 (cfgs 0).N = seconds (val_main_v5 (F := Ideal) (m ((c : Thread nD τ).loc main_arg1))) (m ((c : Thread nD τ).loc main_arg19)) := by
  refine (dats m 0 c).arrAt_eq_of_covers 52 _ (by decide +kernel) fun t _ y => ?_
  blk_simp
  rw [after0_52]
  unfold out0_52
  frame_out
  rw [whole1 m c t, whole19 m c t, row5, pay_v5]
  blk_point [idx52 t]

/-- Vector 6: its summed gradient. -/
theorem final53 (c : Dev nD) : (dats m 0 c).arrAt 53 (cfgs 0).N = val_main_v6 (F := Ideal) (m ((c : Thread nD τ).loc main_arg1)) := by
  refine (dats m 0 c).arrAt_eq_of_covers 53 _ (by decide +kernel) fun t _ y => ?_
  blk_simp
  rw [after0_53]
  unfold out0_53
  frame_out
  rw [whole1 m c t, row6]
  blk_point [idx53 t]

/-- Vector 6: its update. -/
theorem final54 (c : Dev nD) : (dats m 0 c).arrAt 54 (cfgs 0).N = updates (m ((c : Thread nD τ).loc main_arg20)) (val_main_v6 (F := Ideal) (m ((c : Thread nD τ).loc main_arg1))) (m ((c : Thread nD τ).loc main_arg21)) (m ((c : Thread nD τ).loc main_arg22)) := by
  refine (dats m 0 c).arrAt_eq_of_covers 54 _ (by decide +kernel) fun t _ y => ?_
  blk_simp
  rw [after0_54]
  unfold out0_54
  frame_out
  rw [whole1 m c t, whole20 m c t, whole21 m c t, whole22 m c t, row6, pay_d6]
  blk_point [idx54 t]

/-- Vector 6: its new first moment. -/
theorem final55 (c : Dev nD) : (dats m 0 c).arrAt 55 (cfgs 0).N = firsts (val_main_v6 (F := Ideal) (m ((c : Thread nD τ).loc main_arg1))) (m ((c : Thread nD τ).loc main_arg21)) := by
  refine (dats m 0 c).arrAt_eq_of_covers 55 _ (by decide +kernel) fun t _ y => ?_
  blk_simp
  rw [after0_55]
  unfold out0_55
  frame_out
  rw [whole1 m c t, whole21 m c t, row6, pay_m6]
  blk_point [idx55 t]

/-- Vector 6: its new second moment. -/
theorem final56 (c : Dev nD) : (dats m 0 c).arrAt 56 (cfgs 0).N = seconds (val_main_v6 (F := Ideal) (m ((c : Thread nD τ).loc main_arg1))) (m ((c : Thread nD τ).loc main_arg22)) := by
  refine (dats m 0 c).arrAt_eq_of_covers 56 _ (by decide +kernel) fun t _ y => ?_
  blk_simp
  rw [after0_56]
  unfold out0_56
  frame_out
  rw [whole1 m c t, whole22 m c t, row6, pay_v6]
  blk_point [idx56 t]

end Cert.Kernel13Ideal.SmallStep

end
-- ==== Proof.SmallRun4.lean ====
/-
  The optimiser's step of the small weights (the thirteenth program): what the results for the first convolution's taps hold after the run.
-/
module

public import proofs.«01_k».proof.Proof.SmallMaths
public import proofs.«01_k».proof.Proof.SmallWhole
public import proofs.«01_k».proof.Proof.SmallFrame
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

variable (m : (ℓ : Loc nD τ sig) → Buf (Elt Ideal) ℓ)

/-- The first convolution's taps: the device's quarter of their summed gradient. -/
theorem final57 (c : Dev nD) : (dats m 0 c).arrAt 57 (cfgs 0).N = val_main_v33 (F := Ideal) (m ((c : Thread nD τ).loc main_arg0)) (m ((c : Thread nD τ).loc main_arg1)) := by
  refine (dats m 0 c).arrAt_eq_of_covers 57 _ (by decide +kernel) fun t _ y => ?_
  blk_simp
  rw [after0_57]
  unfold out0_57
  frame_out
  rw [whole0 m c t, whole1 m c t, pay_gA]
  blk_point [idx57 t]

/-- The first convolution's taps: their update. -/
theorem final58 (c : Dev nD) : (dats m 0 c).arrAt 58 (cfgs 0).N = updates (m ((c : Thread nD τ).loc main_arg23)) (val_main_v33 (F := Ideal) (m ((c : Thread nD τ).loc main_arg0)) (m ((c : Thread nD τ).loc main_arg1))) (m ((c : Thread nD τ).loc main_arg24)) (m ((c : Thread nD τ).loc main_arg25)) := by
  refine (dats m 0 c).arrAt_eq_of_covers 58 _ (by decide +kernel) fun t _ y => ?_
  blk_simp
  rw [after0_58]
  unfold out0_58
  frame_out
  rw [whole0 m c t, whole1 m c t, whole23 m c t, whole24 m c t, whole25 m c t, pay_dA, pay_gA]
  blk_point [idx58 t]

/-- The first convolution's taps: their new first moment. -/
theorem final59 (c : Dev nD) : (dats m 0 c).arrAt 59 (cfgs 0).N = firsts (val_main_v33 (F := Ideal) (m ((c : Thread nD τ).loc main_arg0)) (m ((c : Thread nD τ).loc main_arg1))) (m ((c : Thread nD τ).loc main_arg24)) := by
  refine (dats m 0 c).arrAt_eq_of_covers 59 _ (by decide +kernel) fun t _ y => ?_
  blk_simp
  rw [after0_59]
  unfold out0_59
  frame_out
  rw [whole0 m c t, whole1 m c t, whole24 m c t, pay_mA, pay_gA]
  blk_point [idx59 t]

/-- The first convolution's taps: their new second moment. -/
theorem final60 (c : Dev nD) : (dats m 0 c).arrAt 60 (cfgs 0).N = seconds (val_main_v33 (F := Ideal) (m ((c : Thread nD τ).loc main_arg0)) (m ((c : Thread nD τ).loc main_arg1))) (m ((c : Thread nD τ).loc main_arg25)) := by
  refine (dats m 0 c).arrAt_eq_of_covers 60 _ (by decide +kernel) fun t _ y => ?_
  blk_simp
  rw [after0_60]
  unfold out0_60
  frame_out
  rw [whole0 m c t, whole1 m c t, whole25 m c t, pay_vA, pay_gA]
  blk_point [idx60 t]

end Cert.Kernel13Ideal.SmallStep

end
-- ==== Proof.SmallRun5.lean ====
/-
  The optimiser's step of the small weights (the thirteenth program): what the results for the second convolution's taps hold after the run.
-/
module

public import proofs.«01_k».proof.Proof.SmallMaths
public import proofs.«01_k».proof.Proof.SmallWhole
public import proofs.«01_k».proof.Proof.SmallFrame
public import Idealize.ShloMosaic.Lib.Pipeline.ValueKit
public import Idealize.ShloMosaic.Lib.Pointwise

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

variable (m : (ℓ : Loc nD τ sig) → Buf (Elt Ideal) ℓ)

/-- The second convolution's taps: the device's quarter of their summed gradient. -/
theorem final61 (c : Dev nD) : (dats m 0 c).arrAt 61 (cfgs 0).N = val_main_v60 (F := Ideal) (m ((c : Thread nD τ).loc main_arg0)) (m ((c : Thread nD τ).loc main_arg1)) := by
  refine (dats m 0 c).arrAt_eq_of_covers 61 _ (by decide +kernel) fun t _ y => ?_
  blk_simp
  rw [after0_61]
  unfold out0_61
  frame_out
  rw [whole0 m c t, whole1 m c t, pay_gB]
  blk_point [idx61 t]

/-- The second convolution's taps: their update. -/
theorem final62 (c : Dev nD) : (dats m 0 c).arrAt 62 (cfgs 0).N = updates (m ((c : Thread nD τ).loc main_arg26)) (val_main_v60 (F := Ideal) (m ((c : Thread nD τ).loc main_arg0)) (m ((c : Thread nD τ).loc main_arg1))) (m ((c : Thread nD τ).loc main_arg27)) (m ((c : Thread nD τ).loc main_arg28)) := by
  refine (dats m 0 c).arrAt_eq_of_covers 62 _ (by decide +kernel) fun t _ y => ?_
  blk_simp
  rw [after0_62]
  unfold out0_62
  frame_out
  rw [whole0 m c t, whole1 m c t, whole26 m c t, whole27 m c t, whole28 m c t, pay_dB, pay_gB]
  blk_point [idx62 t]

/-- The second convolution's taps: their new first moment. -/
theorem final63 (c : Dev nD) : (dats m 0 c).arrAt 63 (cfgs 0).N = firsts (val_main_v60 (F := Ideal) (m ((c : Thread nD τ).loc main_arg0)) (m ((c : Thread nD τ).loc main_arg1))) (m ((c : Thread nD τ).loc main_arg27)) := by
  refine (dats m 0 c).arrAt_eq_of_covers 63 _ (by decide +kernel) fun t _ y => ?_
  blk_simp
  rw [after0_63]
  unfold out0_63
  frame_out
  rw [whole0 m c t, whole1 m c t, whole27 m c t, pay_mB, pay_gB]
  blk_point [idx63 t]

/-- The second convolution's taps: their new second moment. -/
theorem final64 (c : Dev nD) : (dats m 0 c).arrAt 64 (cfgs 0).N = seconds (val_main_v60 (F := Ideal) (m ((c : Thread nD τ).loc main_arg0)) (m ((c : Thread nD τ).loc main_arg1))) (m ((c : Thread nD τ).loc main_arg28)) := by
  refine (dats m 0 c).arrAt_eq_of_covers 64 _ (by decide +kernel) fun t _ y => ?_
  blk_simp
  rw [after0_64]
  unfold out0_64
  frame_out
  rw [whole0 m c t, whole1 m c t, whole28 m c t, pay_vB, pay_gB]
  blk_point [idx64 t]

end Cert.Kernel13Ideal.SmallStep

end
-- ==== Proof.SmallStep.lean ====
/-
  The optimiser's step of the small weights (the thirteenth program): its value claim.
-/
module

public import proofs.«01_k».proof.Defs
public import proofs.«01_k».proof.Proof.SmallRun1
public import proofs.«01_k».proof.Proof.SmallRun2
public import proofs.«01_k».proof.Proof.SmallRun3
public import proofs.«01_k».proof.Proof.SmallRun4
public import proofs.«01_k».proof.Proof.SmallRun5
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel13Ideal.SmallStep

open Idealize.ShloMosaic Idealize.ShloMosaic.TcCoe Idealize.SL.Sem
open Idealize.ShloMosaic.Pipeline (Dat)
open Cert.Kernel13Ideal Cert.Kernel13Ideal.Gen Cert.Step
open Cert.Reference13Ideal.Read (val_main_v33 val_main_v60 val_main_v0 val_main_v1 val_main_v2 val_main_v3 val_main_v4 val_main_v5 val_main_v6)

/-- The update of equal arrays is equal. -/
theorem updates_congr {s : Shape} {w w' g g' u u' v v' : FVec Ideal s .f32} (hw : w = w') (hg : g = g') (hu : u = u') (hv : v = v') :
    updates w g u v = updates w' g' u' v' := by
  subst hw hg hu hv
  rfl

set_option maxHeartbeats 8000000 in
/-- The thirteenth program's value claim. -/
theorem algebraic : Cert.algebraic_Kernel13Ideal_Reference13Ideal := by
  intro m g m' g' _ hagree
  refine ⟨fun c => val_main_v0 (F := Ideal) (m ((c : Thread nD τ).loc main_arg1)), fun c => updates (m ((c : Thread nD τ).loc main_arg2)) (val_main_v0 (F := Ideal) (m ((c : Thread nD τ).loc main_arg1))) (m ((c : Thread nD τ).loc main_arg3)) (m ((c : Thread nD τ).loc main_arg4)), fun c => firsts (val_main_v0 (F := Ideal) (m ((c : Thread nD τ).loc main_arg1))) (m ((c : Thread nD τ).loc main_arg3)), fun c => seconds (val_main_v0 (F := Ideal) (m ((c : Thread nD τ).loc main_arg1))) (m ((c : Thread nD τ).loc main_arg4)), fun c => val_main_v1 (F := Ideal) (m ((c : Thread nD τ).loc main_arg1)), fun c => updates (m ((c : Thread nD τ).loc main_arg5)) (val_main_v1 (F := Ideal) (m ((c : Thread nD τ).loc main_arg1))) (m ((c : Thread nD τ).loc main_arg6)) (m ((c : Thread nD τ).loc main_arg7)), fun c => firsts (val_main_v1 (F := Ideal) (m ((c : Thread nD τ).loc main_arg1))) (m ((c : Thread nD τ).loc main_arg6)), fun c => seconds (val_main_v1 (F := Ideal) (m ((c : Thread nD τ).loc main_arg1))) (m ((c : Thread nD τ).loc main_arg7)), fun c => val_main_v2 (F := Ideal) (m ((c : Thread nD τ).loc main_arg1)), fun c => updates (m ((c : Thread nD τ).loc main_arg8)) (val_main_v2 (F := Ideal) (m ((c : Thread nD τ).loc main_arg1))) (m ((c : Thread nD τ).loc main_arg9)) (m ((c : Thread nD τ).loc main_arg10)), fun c => firsts (val_main_v2 (F := Ideal) (m ((c : Thread nD τ).loc main_arg1))) (m ((c : Thread nD τ).loc main_arg9)), fun c => seconds (val_main_v2 (F := Ideal) (m ((c : Thread nD τ).loc main_arg1))) (m ((c : Thread nD τ).loc main_arg10)), fun c => val_main_v3 (F := Ideal) (m ((c : Thread nD τ).loc main_arg1)), fun c => updates (m ((c : Thread nD τ).loc main_arg11)) (val_main_v3 (F := Ideal) (m ((c : Thread nD τ).loc main_arg1))) (m ((c : Thread nD τ).loc main_arg12)) (m ((c : Thread nD τ).loc main_arg13)), fun c => firsts (val_main_v3 (F := Ideal) (m ((c : Thread nD τ).loc main_arg1))) (m ((c : Thread nD τ).loc main_arg12)), fun c => seconds (val_main_v3 (F := Ideal) (m ((c : Thread nD τ).loc main_arg1))) (m ((c : Thread nD τ).loc main_arg13)), fun c => val_main_v4 (F := Ideal) (m ((c : Thread nD τ).loc main_arg1)), fun c => updates (m ((c : Thread nD τ).loc main_arg14)) (val_main_v4 (F := Ideal) (m ((c : Thread nD τ).loc main_arg1))) (m ((c : Thread nD τ).loc main_arg15)) (m ((c : Thread nD τ).loc main_arg16)), fun c => firsts (val_main_v4 (F := Ideal) (m ((c : Thread nD τ).loc main_arg1))) (m ((c : Thread nD τ).loc main_arg15)), fun c => seconds (val_main_v4 (F := Ideal) (m ((c : Thread nD τ).loc main_arg1))) (m ((c : Thread nD τ).loc main_arg16)), fun c => val_main_v5 (F := Ideal) (m ((c : Thread nD τ).loc main_arg1)), fun c => updates (m ((c : Thread nD τ).loc main_arg17)) (val_main_v5 (F := Ideal) (m ((c : Thread nD τ).loc main_arg1))) (m ((c : Thread nD τ).loc main_arg18)) (m ((c : Thread nD τ).loc main_arg19)), fun c => firsts (val_main_v5 (F := Ideal) (m ((c : Thread nD τ).loc main_arg1))) (m ((c : Thread nD τ).loc main_arg18)), fun c => seconds (val_main_v5 (F := Ideal) (m ((c : Thread nD τ).loc main_arg1))) (m ((c : Thread nD τ).loc main_arg19)), fun c => val_main_v6 (F := Ideal) (m ((c : Thread nD τ).loc main_arg1)), fun c => updates (m ((c : Thread nD τ).loc main_arg20)) (val_main_v6 (F := Ideal) (m ((c : Thread nD τ).loc main_arg1))) (m ((c : Thread nD τ).loc main_arg21)) (m ((c : Thread nD τ).loc main_arg22)), fun c => firsts (val_main_v6 (F := Ideal) (m ((c : Thread nD τ).loc main_arg1))) (m ((c : Thread nD τ).loc main_arg21)), fun c => seconds (val_main_v6 (F := Ideal) (m ((c : Thread nD τ).loc main_arg1))) (m ((c : Thread nD τ).loc main_arg22)), fun c => val_main_v33 (F := Ideal) (m ((c : Thread nD τ).loc main_arg0)) (m ((c : Thread nD τ).loc main_arg1)), fun c => updates (m ((c : Thread nD τ).loc main_arg23)) (val_main_v33 (F := Ideal) (m ((c : Thread nD τ).loc main_arg0)) (m ((c : Thread nD τ).loc main_arg1))) (m ((c : Thread nD τ).loc main_arg24)) (m ((c : Thread nD τ).loc main_arg25)), fun c => firsts (val_main_v33 (F := Ideal) (m ((c : Thread nD τ).loc main_arg0)) (m ((c : Thread nD τ).loc main_arg1))) (m ((c : Thread nD τ).loc main_arg24)), fun c => seconds (val_main_v33 (F := Ideal) (m ((c : Thread nD τ).loc main_arg0)) (m ((c : Thread nD τ).loc main_arg1))) (m ((c : Thread nD τ).loc main_arg25)), fun c => val_main_v60 (F := Ideal) (m ((c : Thread nD τ).loc main_arg0)) (m ((c : Thread nD τ).loc main_arg1)), fun c => updates (m ((c : Thread nD τ).loc main_arg26)) (val_main_v60 (F := Ideal) (m ((c : Thread nD τ).loc main_arg0)) (m ((c : Thread nD τ).loc main_arg1))) (m ((c : Thread nD τ).loc main_arg27)) (m ((c : Thread nD τ).loc main_arg28)), fun c => firsts (val_main_v60 (F := Ideal) (m ((c : Thread nD τ).loc main_arg0)) (m ((c : Thread nD τ).loc main_arg1))) (m ((c : Thread nD τ).loc main_arg27)), fun c => seconds (val_main_v60 (F := Ideal) (m ((c : Thread nD τ).loc main_arg0)) (m ((c : Thread nD τ).loc main_arg1))) (m ((c : Thread nD τ).loc main_arg28)), ?_, ?_⟩
  · refine θ_run_mono (θ_run_and (Cert.Kernel13Ideal.Gen.run_main m g) (Cert.Kernel13Ideal.Gen.unchanged m g)) fun r h c => ?_
    have hc := h.1 c
    exact ⟨(hc.1 29).trans (final29 m c), (hc.1 30).trans (final30 m c), (hc.1 31).trans (final31 m c), (hc.1 32).trans (final32 m c), (hc.1 33).trans (final33 m c), (hc.1 34).trans (final34 m c), (hc.1 35).trans (final35 m c), (hc.1 36).trans (final36 m c), (hc.1 37).trans (final37 m c), (hc.1 38).trans (final38 m c), (hc.1 39).trans (final39 m c), (hc.1 40).trans (final40 m c), (hc.1 41).trans (final41 m c), (hc.1 42).trans (final42 m c), (hc.1 43).trans (final43 m c), (hc.1 44).trans (final44 m c), (hc.1 45).trans (final45 m c), (hc.1 46).trans (final46 m c), (hc.1 47).trans (final47 m c), (hc.1 48).trans (final48 m c), (hc.1 49).trans (final49 m c), (hc.1 50).trans (final50 m c), (hc.1 51).trans (final51 m c), (hc.1 52).trans (final52 m c), (hc.1 53).trans (final53 m c), (hc.1 54).trans (final54 m c), (hc.1 55).trans (final55 m c), (hc.1 56).trans (final56 m c), (hc.1 57).trans (final57 m c), (hc.1 58).trans (final58 m c), (hc.1 59).trans (final59 m c), (hc.1 60).trans (final60 m c), (hc.1 61).trans (final61 m c), (hc.1 62).trans (final62 m c), (hc.1 63).trans (final63 m c), (hc.1 64).trans (final64 m c), h.2 c⟩
  · refine θ_run_mono (Cert.Reference13Ideal.Value.run m' g') fun r h c => ?_
    obtain ⟨h0, h1, h2, h3, h4, h5, h6, h7, h8, h9, h10, h11, h12, h13, h14, h15, h16, h17, h18, h19, h20, h21, h22, h23, h24, h25, h26, h27, h28⟩ := hagree c
    obtain ⟨r0, r1, r2, r3, r4, r5, r6, r7, r8, r9, r10, r11, r12, r13, r14, r15, r16, r17, r18, r19, r20, r21, r22, r23, r24, r25, r26, r27, r28, r29, r30, r31, r32, r33, r34, r35, rest⟩ := h c
    refine ⟨r0.trans ((Cert.Reference13Ideal.Read.val_main_v0_eq (StableHlo.launchContents m' c)).trans ?_), r1.trans ((Cert.Reference13Ideal.Read.val_main_v84_eq (StableHlo.launchContents m' c)).trans ?_), r2.trans ((Cert.Reference13Ideal.Read.val_main_v65_eq (StableHlo.launchContents m' c)).trans ?_), r3.trans ((Cert.Reference13Ideal.Read.val_main_v71_eq (StableHlo.launchContents m' c)).trans ?_), r4.trans ((Cert.Reference13Ideal.Read.val_main_v1_eq (StableHlo.launchContents m' c)).trans ?_), r5.trans ((Cert.Reference13Ideal.Read.val_main_v108_eq (StableHlo.launchContents m' c)).trans ?_), r6.trans ((Cert.Reference13Ideal.Read.val_main_v89_eq (StableHlo.launchContents m' c)).trans ?_), r7.trans ((Cert.Reference13Ideal.Read.val_main_v95_eq (StableHlo.launchContents m' c)).trans ?_), r8.trans ((Cert.Reference13Ideal.Read.val_main_v2_eq (StableHlo.launchContents m' c)).trans ?_), r9.trans ((Cert.Reference13Ideal.Read.val_main_v132_eq (StableHlo.launchContents m' c)).trans ?_), r10.trans ((Cert.Reference13Ideal.Read.val_main_v113_eq (StableHlo.launchContents m' c)).trans ?_), r11.trans ((Cert.Reference13Ideal.Read.val_main_v119_eq (StableHlo.launchContents m' c)).trans ?_), r12.trans ((Cert.Reference13Ideal.Read.val_main_v3_eq (StableHlo.launchContents m' c)).trans ?_), r13.trans ((Cert.Reference13Ideal.Read.val_main_v156_eq (StableHlo.launchContents m' c)).trans ?_), r14.trans ((Cert.Reference13Ideal.Read.val_main_v137_eq (StableHlo.launchContents m' c)).trans ?_), r15.trans ((Cert.Reference13Ideal.Read.val_main_v143_eq (StableHlo.launchContents m' c)).trans ?_), r16.trans ((Cert.Reference13Ideal.Read.val_main_v4_eq (StableHlo.launchContents m' c)).trans ?_), r17.trans ((Cert.Reference13Ideal.Read.val_main_v180_eq (StableHlo.launchContents m' c)).trans ?_), r18.trans ((Cert.Reference13Ideal.Read.val_main_v161_eq (StableHlo.launchContents m' c)).trans ?_), r19.trans ((Cert.Reference13Ideal.Read.val_main_v167_eq (StableHlo.launchContents m' c)).trans ?_), r20.trans ((Cert.Reference13Ideal.Read.val_main_v5_eq (StableHlo.launchContents m' c)).trans ?_), r21.trans ((Cert.Reference13Ideal.Read.val_main_v204_eq (StableHlo.launchContents m' c)).trans ?_), r22.trans ((Cert.Reference13Ideal.Read.val_main_v185_eq (StableHlo.launchContents m' c)).trans ?_), r23.trans ((Cert.Reference13Ideal.Read.val_main_v191_eq (StableHlo.launchContents m' c)).trans ?_), r24.trans ((Cert.Reference13Ideal.Read.val_main_v6_eq (StableHlo.launchContents m' c)).trans ?_), r25.trans ((Cert.Reference13Ideal.Read.val_main_v228_eq (StableHlo.launchContents m' c)).trans ?_), r26.trans ((Cert.Reference13Ideal.Read.val_main_v209_eq (StableHlo.launchContents m' c)).trans ?_), r27.trans ((Cert.Reference13Ideal.Read.val_main_v215_eq (StableHlo.launchContents m' c)).trans ?_), r28.trans ((Cert.Reference13Ideal.Read.val_main_v33_eq (StableHlo.launchContents m' c)).trans ?_), r29.trans ((Cert.Reference13Ideal.Read.val_main_v252_eq (StableHlo.launchContents m' c)).trans ?_), r30.trans ((Cert.Reference13Ideal.Read.val_main_v233_eq (StableHlo.launchContents m' c)).trans ?_), r31.trans ((Cert.Reference13Ideal.Read.val_main_v239_eq (StableHlo.launchContents m' c)).trans ?_), r32.trans ((Cert.Reference13Ideal.Read.val_main_v60_eq (StableHlo.launchContents m' c)).trans ?_), r33.trans ((Cert.Reference13Ideal.Read.val_main_v276_eq (StableHlo.launchContents m' c)).trans ?_), r34.trans ((Cert.Reference13Ideal.Read.val_main_v257_eq (StableHlo.launchContents m' c)).trans ?_), r35.trans ((Cert.Reference13Ideal.Read.val_main_v263_eq (StableHlo.launchContents m' c)).trans ?_), rest⟩
    · exact congrArg _ h1
    · exact (ref_d0 _ _ _ _ ).trans (updates_congr h2 (congrArg (Cert.Reference13Ideal.Read.val_main_v0 (F := Ideal)) h1) h3 h4)
    · exact (ref_m0 _ _ ).trans (congrArg₂ firsts (congrArg (Cert.Reference13Ideal.Read.val_main_v0 (F := Ideal)) h1) h3)
    · exact (ref_v0 _ _ ).trans (congrArg₂ seconds (congrArg (Cert.Reference13Ideal.Read.val_main_v0 (F := Ideal)) h1) h4)
    · exact congrArg _ h1
    · exact (ref_d1 _ _ _ _ ).trans (updates_congr h5 (congrArg (Cert.Reference13Ideal.Read.val_main_v1 (F := Ideal)) h1) h6 h7)
    · exact (ref_m1 _ _ ).trans (congrArg₂ firsts (congrArg (Cert.Reference13Ideal.Read.val_main_v1 (F := Ideal)) h1) h6)
    · exact (ref_v1 _ _ ).trans (congrArg₂ seconds (congrArg (Cert.Reference13Ideal.Read.val_main_v1 (F := Ideal)) h1) h7)
    · exact congrArg _ h1
    · exact (ref_d2 _ _ _ _ ).trans (updates_congr h8 (congrArg (Cert.Reference13Ideal.Read.val_main_v2 (F := Ideal)) h1) h9 h10)
    · exact (ref_m2 _ _ ).trans (congrArg₂ firsts (congrArg (Cert.Reference13Ideal.Read.val_main_v2 (F := Ideal)) h1) h9)
    · exact (ref_v2 _ _ ).trans (congrArg₂ seconds (congrArg (Cert.Reference13Ideal.Read.val_main_v2 (F := Ideal)) h1) h10)
    · exact congrArg _ h1
    · exact (ref_d3 _ _ _ _ ).trans (updates_congr h11 (congrArg (Cert.Reference13Ideal.Read.val_main_v3 (F := Ideal)) h1) h12 h13)
    · exact (ref_m3 _ _ ).trans (congrArg₂ firsts (congrArg (Cert.Reference13Ideal.Read.val_main_v3 (F := Ideal)) h1) h12)
    · exact (ref_v3 _ _ ).trans (congrArg₂ seconds (congrArg (Cert.Reference13Ideal.Read.val_main_v3 (F := Ideal)) h1) h13)
    · exact congrArg _ h1
    · exact (ref_d4 _ _ _ _ ).trans (updates_congr h14 (congrArg (Cert.Reference13Ideal.Read.val_main_v4 (F := Ideal)) h1) h15 h16)
    · exact (ref_m4 _ _ ).trans (congrArg₂ firsts (congrArg (Cert.Reference13Ideal.Read.val_main_v4 (F := Ideal)) h1) h15)
    · exact (ref_v4 _ _ ).trans (congrArg₂ seconds (congrArg (Cert.Reference13Ideal.Read.val_main_v4 (F := Ideal)) h1) h16)
    · exact congrArg _ h1
    · exact (ref_d5 _ _ _ _ ).trans (updates_congr h17 (congrArg (Cert.Reference13Ideal.Read.val_main_v5 (F := Ideal)) h1) h18 h19)
    · exact (ref_m5 _ _ ).trans (congrArg₂ firsts (congrArg (Cert.Reference13Ideal.Read.val_main_v5 (F := Ideal)) h1) h18)
    · exact (ref_v5 _ _ ).trans (congrArg₂ seconds (congrArg (Cert.Reference13Ideal.Read.val_main_v5 (F := Ideal)) h1) h19)
    · exact congrArg _ h1
    · exact (ref_d6 _ _ _ _ ).trans (updates_congr h20 (congrArg (Cert.Reference13Ideal.Read.val_main_v6 (F := Ideal)) h1) h21 h22)
    · exact (ref_m6 _ _ ).trans (congrArg₂ firsts (congrArg (Cert.Reference13Ideal.Read.val_main_v6 (F := Ideal)) h1) h21)
    · exact (ref_v6 _ _ ).trans (congrArg₂ seconds (congrArg (Cert.Reference13Ideal.Read.val_main_v6 (F := Ideal)) h1) h22)
    · exact congrArg₂ _ h0 h1
    · exact (ref_dA _ _ _ _ _ ).trans (updates_congr h23 (congrArg₂ (Cert.Reference13Ideal.Read.val_main_v33 (F := Ideal)) h0 h1) h24 h25)
    · exact (ref_mA _ _ _ ).trans (congrArg₂ firsts (congrArg₂ (Cert.Reference13Ideal.Read.val_main_v33 (F := Ideal)) h0 h1) h24)
    · exact (ref_vA _ _ _ ).trans (congrArg₂ seconds (congrArg₂ (Cert.Reference13Ideal.Read.val_main_v33 (F := Ideal)) h0 h1) h25)
    · exact congrArg₂ _ h0 h1
    · exact (ref_dB _ _ _ _ _ ).trans (updates_congr h26 (congrArg₂ (Cert.Reference13Ideal.Read.val_main_v60 (F := Ideal)) h0 h1) h27 h28)
    · exact (ref_mB _ _ _ ).trans (congrArg₂ firsts (congrArg₂ (Cert.Reference13Ideal.Read.val_main_v60 (F := Ideal)) h0 h1) h27)
    · exact (ref_vB _ _ _ ).trans (congrArg₂ seconds (congrArg₂ (Cert.Reference13Ideal.Read.val_main_v60 (F := Ideal)) h0 h1) h28)

end Cert.Kernel13Ideal.SmallStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Reference13Ideal
public import proofs.«01_k».proof.Proof.Gen.Reference13Ideal.Run
public import proofs.«01_k».proof.Proof.BwdInput
public import proofs.«01_k».proof.Proof.Wgrad
public import proofs.«01_k».proof.Proof.FwdLossRef
public import proofs.«01_k».proof.Proof.MixInBwd
public import proofs.«01_k».proof.Proof.WinGrad
public import proofs.«01_k».proof.Proof.MixerWgrads
public import proofs.«01_k».proof.Proof.MixIn
public import proofs.«01_k».proof.Proof.Fwd
public import proofs.«01_k».proof.Proof.MixOut
public import proofs.«01_k».proof.Proof.WinStep
public import proofs.«01_k».proof.Proof.OutStep
public import proofs.«01_k».proof.Proof.FfnFrameWritten
public import proofs.«01_k».proof.Proof.FfnStep
public import proofs.«01_k».proof.Proof.SmallFrameWritten
public import proofs.«01_k».proof.Proof.SmallStep
public import Idealize.ShloMosaic.Adequacy
public import Idealize.ShloMosaic.Init

@[expose] public section

noncomputable section

namespace Cert.Proof

open Idealize.ShloMosaic Idealize.SL.Sem Cert.Kernel

/-- The reference of the first program runs and ends quiescent: its run, read at the arguments; it declares no
    semaphore. -/
theorem frame_ref : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The reference of the second program, likewise. -/
theorem frame_ref2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

set_option maxHeartbeats 3000000 in
/-- The reference of the third program, likewise. -/
theorem frame_ref3 : Cert.quiescent_Reference3Ideal := fun m ρ _ =>
  (θ_run Cert.Reference3Ideal.defs _ _).mono
    (fun r h => ⟨fun c => (h c).2.2.2.2.2.2.2, sem_eq_zero_of_no_sems (by decide) r.2⟩)
    (Cert.Reference3Ideal.Value.run (F := Ideal) m ρ)

/-- The reference of the fourth program, likewise. -/
theorem frame_ref4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

/-- The reference of the fifth program, likewise. -/
theorem frame_ref5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The reference of the sixth program, likewise. -/
theorem frame_ref6 : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-- The reference of the seventh program, likewise. -/
theorem frame_ref7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- The reference of the eighth program, likewise. -/
theorem frame_ref8 : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

/-- The reference of the ninth program, likewise. -/
theorem frame_ref9 : Cert.quiescent_Reference9Ideal := fun m ρ _ =>
  (θ_run Cert.Reference9Ideal.defs _ _).mono
    (fun r h => ⟨fun c => (h c).2.2.2.2.2, sem_eq_zero_of_no_sems (by decide) r.2⟩)
    (Cert.Reference9Ideal.Value.run (F := Ideal) m ρ)

/-- The reference of the tenth program, likewise. -/
theorem frame_ref10 : Cert.quiescent_Reference10Ideal := fun m ρ _ =>
  (θ_run Cert.Reference10Ideal.defs _ _).mono
    (fun r h => ⟨fun c => (h c).2.2.2, sem_eq_zero_of_no_sems (by decide) r.2⟩)
    (Cert.Reference10Ideal.Value.run (F := Ideal) m ρ)

set_option maxHeartbeats 3000000 in
/-- The reference of the eleventh program, likewise. -/
theorem frame_ref11 : Cert.quiescent_Reference11Ideal := fun m ρ _ =>
  (θ_run Cert.Reference11Ideal.defs _ _).mono
    (fun r h => ⟨fun c => (h c).2.2.2.2.2.2.2.2.2, sem_eq_zero_of_no_sems (by decide) r.2⟩)
    (Cert.Reference11Ideal.Value.run (F := Ideal) m ρ)

set_option maxHeartbeats 3000000 in
/-- The reference of the twelfth program, likewise. -/
theorem frame_ref12 : Cert.quiescent_Reference12Ideal := fun m ρ _ =>
  (θ_run Cert.Reference12Ideal.defs _ _).mono
    (fun r h => ⟨fun c => (h c).2.2.2.2.2.2.2.2.2.2.2.2.2.2.2.2.2.2, sem_eq_zero_of_no_sems (by decide) r.2⟩)
    (Cert.Reference12Ideal.Value.run (F := Ideal) m ρ)

set_option maxHeartbeats 3000000 in
/-- The reference of the thirteenth program, likewise. -/
theorem frame_ref13 : Cert.quiescent_Reference13Ideal := fun m ρ _ =>
  (θ_run Cert.Reference13Ideal.defs _ _).mono
    (fun r h => ⟨fun c => (h c).2.2.2.2.2.2.2.2.2.2.2.2.2.2.2.2.2.2.2.2.2.2.2.2.2.2.2.2.2.2.2.2.2.2.2.2, sem_eq_zero_of_no_sems (by decide) r.2⟩)
    (Cert.Reference13Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    fun m ρ _ => Cert.Kernel.Gen.frame m ρ, fun m ρ _ => Cert.KernelIdeal.Gen.frame m ρ, frame_ref,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    trivial, Cert.KernelIdeal.BwdInput.algebraic,
    trivial, Cert.Kernel2Ideal.Wgrad.algebraic,
    trivial, Cert.Kernel3Ideal.FwdLoss.algebraic,
    trivial, Cert.Kernel4Ideal.MixInBwd.algebraic,
    trivial, Cert.Kernel5Ideal.WinGrad.algebraic,
    trivial, Cert.Kernel6Ideal.MixerWgrads.algebraic,
    trivial, Cert.Kernel7Ideal.MixIn.algebraic,
    trivial, Cert.Kernel8Ideal.Fwd.algebraic,
    trivial, Cert.Kernel9Ideal.MixOut.algebraic,
    trivial, Cert.Kernel10Ideal.WinStep.algebraic,
    trivial, Cert.Kernel11Ideal.OutStep.algebraic,
    trivial, Cert.Kernel12Ideal.FfnStep.algebraic,
    trivial, Cert.Kernel13Ideal.SmallStep.algebraic⟩

end Cert.Proof

end
